-- ==== Defs.lean ====
def Pre_Kernel [hPre_csr : Cert.Pre_csr.Facts] (m : (ℓ : Loc Cert.Kernel.nD Cert.Kernel.τ Cert.Kernel.sig) → Buf (Elt Bits) ℓ) : Prop :=
  ∀ c : Dev Cert.Kernel.nD,
    (Cert.Pre_csr.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).1 = (fun _ => 1#1)
    ∧ (Cert.Pre_csr.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.1 = (fun _ => 1#1)
    ∧ (Cert.Pre_csr.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.1 = (fun _ => 1#1)
    ∧ (Cert.Pre_csr.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.1 = (fun _ => 1#1)
    ∧ (Cert.Pre_csr.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2 = (fun _ => 1#1)

def Pre_KernelIdeal [hPre_csr : Cert.Pre_csr.Facts] (m : (ℓ : Loc Cert.KernelIdeal.nD Cert.KernelIdeal.τ Cert.KernelIdeal.sig) → Buf (Elt Ideal) ℓ) : Prop :=
  ∀ c : Dev Cert.KernelIdeal.nD,
    (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_csr.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal [hPre_csr : Cert.Pre_csr.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_csr.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] [hPre_csr : Cert.Pre_csr.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_csr : Cert.Pre_csr.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_csr : Cert.Pre_csr.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_csr : Cert.Pre_csr.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_csr : Cert.Pre_csr.Facts),
    quiescent_Kernel (hKernel := hKernel) (hPre_csr := hPre_csr)
    ∧ quiescent_KernelIdeal (hKernelIdeal := hKernelIdeal) (hPre_csr := hPre_csr)
    ∧ quiescent_ReferenceIdeal (hReferenceIdeal := hReferenceIdeal) (hPre_csr := hPre_csr)
    ∧ preserves_Kernel_KernelIdeal
    ∧ algebraic_KernelIdeal_ReferenceIdeal (hKernelIdeal := hKernelIdeal) (hReferenceIdeal := hReferenceIdeal) (hPre_csr := hPre_csr)
-- ==== Pre_csr.lean ====
abbrev S2x128x32x160 : Shape := ⟨4, ![2, 128, 32, 160]⟩
abbrev S2x32 : Shape := ⟨2, ![2, 32]⟩
abbrev S2x128x32 : Shape := ⟨3, ![2, 128, 32]⟩
abbrev S2x129 : Shape := ⟨2, ![2, 129]⟩
abbrev S2x3072 : Shape := ⟨2, ![2, 3072]⟩
abbrev S2x1 : Shape := ⟨2, ![2, 1]⟩
abbrev S2 : Shape := ⟨1, ![2]⟩
abbrev S_ : Shape := ⟨0, ![]⟩
abbrev S2x128 : Shape := ⟨2, ![2, 128]⟩

class Facts : Prop where
  slices_S2x129_S2x1_0_0 : S2x129.Slices ![0, 0] S2x1
  shapeCasts_S2x1_S2 : S2x1.ShapeCasts S2
  bcast_S_S2 : S_.BroadcastsInDim S2 (![] : Fin 0 → Fin S2.rank)
  slices_S2x129_S2x128_0_0 : S2x129.Slices ![0, 0] S2x128
  slices_S2x129_S2x128_0_1 : S2x129.Slices ![0, 1] S2x128
  slices_S2x129_S2x1_0_127 : S2x129.Slices ![0, 127] S2x1
  bcast_S_S2x3072 : S_.BroadcastsInDim S2x3072 (![] : Fin 0 → Fin S2x3072.rank)
  slices_S2x129_S2x1_0_128 : S2x129.Slices ![0, 128] S2x1
  bcast_S2x1_S2x3072_0_1 : S2x1.BroadcastsInDim S2x3072 (![0, 1] : Fin 2 → Fin S2x3072.rank)
  bcast_S_S2x128x32 : S_.BroadcastsInDim S2x128x32 (![] : Fin 0 → Fin S2x128x32.rank)

variable [Facts]

def fn_part1 {F : FTy → Type} [FloatOps F] (main_arg5 : FVec F S2x128x32 .f32) (main_v4 : IVec S2 1) (main_v7 : IVec S2x128 1) (main_v11 : IVec S2 1) (main_v16 : IVec S2x3072 1) (main_v19 : IVec S2x3072 1) : IVec S2 1 × IVec S2x128 1 × IVec S2 1 × IVec S2x3072 1 × IVec S2x128x32 1 :=
  let main_v20 : IVec S2x3072 1 := ori main_v16 main_v19
  let main_v21 : FVec F S2x128x32 .f32 := Host.absf main_arg5
  let main_cst : FVec F S_ .f32 := constant S_ .f32 0x7F800000#32
  let main_v22 : FVec F S2x128x32 .f32 := broadcastInDim S2x128x32 ![] bcast_S_S2x128x32 main_cst
  let main_v23 : IVec S2x128x32 1 := cmpf .olt main_v21 main_v22
  (main_v4, main_v7, main_v11, main_v20, main_v23)

def fn {F : FTy → Type} [FloatOps F] (main_arg0 : FVec F S2x128x32x160 .fp8e4m3) (main_arg1 : FVec F S2x128x32x160 .fp8e4m3) (main_arg2 : FVec F S2x128x32x160 .fp8e4m3) (main_arg3 : FVec F S2x32 .f32) (main_arg4 : FVec F S2x128x32 .f32) (main_arg5 : FVec F S2x128x32 .f32) (main_arg6 : IVec S2x129 32) (main_arg7 : IVec S2x3072 32) : IVec S2 1 × IVec S2x128 1 × IVec S2 1 × IVec S2x3072 1 × IVec S2x128x32 1 :=
  let main_v0 : IVec S2x3072 32 := iotaInDim S2x3072 32 1
  let main_v1 : IVec S2x1 32 := (extractStridedSlice S2x1 ![0, 0] · slices_S2x129_S2x1_0_0) main_arg6
  let main_v2 : IVec S2 32 := shapeCast S2 main_v1 shapeCasts_S2x1_S2
  let main_c : IVec S_ 32 := constantI S_ 32 0#32
  let main_v3 : IVec S2 32 := broadcastInDim S2 ![] bcast_S_S2 main_c
  let main_v4 : IVec S2 1 := cmpi .eq main_v2 main_v3
  let main_v5 : IVec S2x128 32 := (extractStridedSlice S2x128 ![0, 0] · slices_S2x129_S2x128_0_0) main_arg6
  let main_v6 : IVec S2x128 32 := (extractStridedSlice S2x128 ![0, 1] · slices_S2x129_S2x128_0_1) main_arg6
  let main_v7 : IVec S2x128 1 := cmpi .sle main_v5 main_v6
  let main_v8 : IVec S2x1 32 := (extractStridedSlice S2x1 ![0, 127] · slices_S2x129_S2x1_0_127) main_arg6
  let main_v9 : IVec S2 32 := shapeCast S2 main_v8 shapeCasts_S2x1_S2
  let main_c_0 : IVec S_ 32 := constantI S_ 32 3072#32
  let main_v10 : IVec S2 32 := broadcastInDim S2 ![] bcast_S_S2 main_c_0
  let main_v11 : IVec S2 1 := cmpi .slt main_v9 main_v10
  let main_c_1 : IVec S_ 32 := constantI S_ 32 0#32
  let main_v12 : IVec S2x3072 32 := broadcastInDim S2x3072 ![] bcast_S_S2x3072 main_c_1
  let main_v13 : IVec S2x3072 1 := cmpi .sge main_arg7 main_v12
  let main_c_2 : IVec S_ 32 := constantI S_ 32 128#32
  let main_v14 : IVec S2x3072 32 := broadcastInDim S2x3072 ![] bcast_S_S2x3072 main_c_2
  let main_v15 : IVec S2x3072 1 := cmpi .slt main_arg7 main_v14
  let main_v16 : IVec S2x3072 1 := andi main_v13 main_v15
  let main_v17 : IVec S2x1 32 := (extractStridedSlice S2x1 ![0, 128] · slices_S2x129_S2x1_0_128) main_arg6
  let main_v18 : IVec S2x3072 32 := broadcastInDim S2x3072 ![0, 1] bcast_S2x1_S2x3072_0_1 main_v17
  let main_v19 : IVec S2x3072 1 := cmpi .sge main_v0 main_v18
  fn_part1 (F := F) main_arg5 main_v4 main_v7 main_v11 main_v16 main_v19
-- ==== Kernel.lean ====
abbrev S2x128x32x160 : Shape := ⟨4, ![2, 128, 32, 160]⟩
abbrev S2x32 : Shape := ⟨2, ![2, 32]⟩
abbrev S2x128x32 : Shape := ⟨3, ![2, 128, 32]⟩
abbrev S2x129 : Shape := ⟨2, ![2, 129]⟩
abbrev S2x3072 : Shape := ⟨2, ![2, 3072]⟩
abbrev S2x32x160x128 : Shape := ⟨4, ![2, 32, 160, 128]⟩
abbrev S2x5120x128 : Shape := ⟨3, ![2, 5120, 128]⟩
abbrev S2x32x128 : Shape := ⟨3, ![2, 32, 128]⟩
abbrev S2x128x5120 : Shape := ⟨3, ![2, 128, 5120]⟩
abbrev S2x32x3072 : Shape := ⟨3, ![2, 32, 3072]⟩
abbrev S1x8x128 : Shape := ⟨3, ![1, 8, 128]⟩
abbrev S1x8x160x128 : Shape := ⟨4, ![1, 8, 160, 128]⟩
abbrev S1x1280x128 : Shape := ⟨3, ![1, 1280, 128]⟩
abbrev S1x128x1280 : Shape := ⟨3, ![1, 128, 1280]⟩
abbrev S1x8x3072 : Shape := ⟨3, ![1, 8, 3072]⟩
abbrev S1x32x128 : Shape := ⟨3, ![1, 32, 128]⟩
abbrev S128x128 : Shape := ⟨2, ![128, 128]⟩
abbrev S192x128 : Shape := ⟨2, ![192, 128]⟩
abbrev S1024x128 : Shape := ⟨2, ![1024, 128]⟩
abbrev S1x129 : Shape := ⟨2, ![1, 129]⟩
abbrev S1x128 : Shape := ⟨2, ![1, 128]⟩
abbrev S8x128 : Shape := ⟨2, ![8, 128]⟩
abbrev S1x1x160x128 : Shape := ⟨4, ![1, 1, 160, 128]⟩
abbrev S160x128 : Shape := ⟨2, ![160, 128]⟩
abbrev S128x160 : Shape := ⟨2, ![128, 160]⟩
abbrev S1x1 : Shape := ⟨2, ![1, 1]⟩
abbrev S1x1x128 : Shape := ⟨3, ![1, 1, 128]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x128x128 : Shape := ⟨3, ![1, 128, 128]⟩
abbrev S128x32 : Shape := ⟨2, ![128, 32]⟩
abbrev S1x128x32 : Shape := ⟨3, ![1, 128, 32]⟩
abbrev S128x96 : Shape := ⟨2, ![128, 96]⟩
abbrev S1x128x96 : Shape := ⟨3, ![1, 128, 96]⟩
abbrev S128x64 : Shape := ⟨2, ![128, 64]⟩
abbrev S1x128x64 : Shape := ⟨3, ![1, 128, 64]⟩
abbrev S8x128x1 : Shape := ⟨3, ![8, 128, 1]⟩
abbrev S32x128 : Shape := ⟨2, ![32, 128]⟩

abbrev nBuf : Space → Nat
  | .hbm => 17
  | .vmem => 23
  | .smem => 2
  | _ => 0

abbrev bufTy : (tb : Table) → Fin (tcTables nBuf tb) → BufTy
  | .hbm, ⟨0, _⟩ => ⟨S2x128x32x160, .fp8e4m3⟩
  | .hbm, ⟨1, _⟩ => ⟨S2x128x32x160, .fp8e4m3⟩
  | .hbm, ⟨2, _⟩ => ⟨S2x128x32x160, .fp8e4m3⟩
  | .hbm, ⟨3, _⟩ => ⟨S2x32, .f32⟩
  | .hbm, ⟨4, _⟩ => ⟨S2x128x32, .f32⟩
  | .hbm, ⟨5, _⟩ => ⟨S2x128x32, .f32⟩
  | .hbm, ⟨6, _⟩ => ⟨S2x129, .i32⟩
  | .hbm, ⟨7, _⟩ => ⟨S2x3072, .i32⟩
  | .hbm, ⟨8, _⟩ => ⟨S2x32x160x128, .fp8e4m3⟩
  | .hbm, ⟨9, _⟩ => ⟨S2x32x160x128, .fp8e4m3⟩
  | .hbm, ⟨10, _⟩ => ⟨S2x32x160x128, .fp8e4m3⟩
  | .hbm, ⟨11, _⟩ => ⟨S2x5120x128, .fp8e4m3⟩
  | .hbm, ⟨12, _⟩ => ⟨S2x32x128, .f32⟩
  | .hbm, ⟨13, _⟩ => ⟨S2x32x128, .f32⟩
  | .hbm, ⟨14, _⟩ => ⟨S2x128x5120, .bf16⟩
  | .hbm, ⟨15, _⟩ => ⟨S2x32x3072, .f32⟩
  | .hbm, ⟨16, _⟩ => ⟨S2x32x128, .f32⟩
  | .local _ .vmem, ⟨0, _⟩ => ⟨S2x3072, .i32⟩
  | .local _ .vmem, ⟨1, _⟩ => ⟨S2x129, .i32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x160x128, .fp8e4m3⟩
  | .local _ .vmem, ⟨7, _⟩ => ⟨S1x8x160x128, .fp8e4m3⟩
  | .local _ .vmem, ⟨8, _⟩ => ⟨S1x8x160x128, .fp8e4m3⟩
  | .local _ .vmem, ⟨9, _⟩ => ⟨S1x8x160x128, .fp8e4m3⟩
  | .local _ .vmem, ⟨10, _⟩ => ⟨S1x1280x128, .fp8e4m3⟩
  | .local _ .vmem, ⟨11, _⟩ => ⟨S1x1280x128, .fp8e4m3⟩
  | .local _ .vmem, ⟨12, _⟩ => ⟨S1x128x1280, .bf16⟩
  | .local _ .vmem, ⟨13, _⟩ => ⟨S1x128x1280, .bf16⟩
  | .local _ .vmem, ⟨14, _⟩ => ⟨S1x8x3072, .f32⟩
  | .local _ .vmem, ⟨15, _⟩ => ⟨S1x8x3072, .f32⟩
  | .local _ .vmem, ⟨16, _⟩ => ⟨S1x32x128, .f32⟩
  | .local _ .vmem, ⟨17, _⟩ => ⟨S1x32x128, .f32⟩
  | .local _ .vmem, ⟨18, _⟩ => ⟨S128x128, .f32⟩
  | .local _ .vmem, ⟨19, _⟩ => ⟨S192x128, .i32⟩
  | .local _ .vmem, ⟨20, _⟩ => ⟨S1024x128, .f32⟩
  | .local _ .vmem, ⟨21, _⟩ => ⟨S128x128, .f32⟩
  | .local _ .vmem, ⟨22, _⟩ => ⟨S128x128, .f32⟩
  | .local _ .smem, ⟨0, _⟩ => ⟨S2x129, .i32⟩
  | .local _ .smem, ⟨1, _⟩ => ⟨S2x32, .f32⟩
  | _, _ => ⟨S2x128x32x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 4], ![false, false]⟩

def k0_off1 (i : grid0.Coords) (c0_i32_9 : BitVec 32) : Fin 2 → Nat :=
  let arg0 : BitVec 32 := BitVec.ofNat 32 (i 0).val
  let v18 : Index := Scalar.indexCast arg0
  let arg1 : BitVec 32 := BitVec.ofNat 32 (i 1).val
  let c8_i32 : BitVec 32 := 8#32
  let v16 : BitVec 32 := Scalar.muli arg1 c8_i32
  let v17 : BitVec 32 := Scalar.addi v16 c0_i32_9
  let v19 : Index := Scalar.indexCast v17
  ![v18.toNat, v19.toNat]
@[reducible] def k0_t1_loop : Scf.Loop 32 :=
  let c0_i32_366 : BitVec 32 := 0#32
  let c128_i32 : BitVec 32 := 128#32
  let v693 : BitVec 32 := Scalar.addi c0_i32_366 c128_i32
  let c1_i32_367 : BitVec 32 := 1#32
  ⟨c0_i32_366, v693, c1_i32_367⟩
def k0_off2 (i : grid0.Coords) (k0_t1 : Fin k0_t1_loop.trips) : Fin 2 → Nat :=
  let arg0 : BitVec 32 := BitVec.ofNat 32 (i 0).val
  let v720 : Index := Scalar.indexCast arg0
  let c0_i32_366 : BitVec 32 := 0#32
  let c1_i32_367 : BitVec 32 := 1#32
  let arg19 : BitVec 32 := Scf.iv c0_i32_366 c1_i32_367 k0_t1
  let v721 : Index := Scalar.indexCast arg19
  ![v720.toNat, v721.toNat]
def k0_off3 (i : grid0.Coords) (k0_t1 : Fin k0_t1_loop.trips) : Fin 2 → Nat :=
  let arg0 : BitVec 32 := BitVec.ofNat 32 (i 0).val
  let v724 : Index := Scalar.indexCast arg0
  let c0_i32_366 : BitVec 32 := 0#32
  let c1_i32_367 : BitVec 32 := 1#32
  let arg19 : BitVec 32 := Scf.iv c0_i32_366 c1_i32_367 k0_t1
  let c1_i32_380 : BitVec 32 := 1#32
  let v723 : BitVec 32 := Scalar.addi arg19 c1_i32_380
  let v725 : Index := Scalar.indexCast v723
  ![v724.toNat, v725.toNat]
def k0_mult1 (v722 : BitVec 32) : BitVec 32 :=
  let c0_i32_382 : BitVec 32 := 0#32
  let v728 : BitVec 1 := Scalar.cmpi .sgt v722 c0_i32_382
  let v729 : BitVec 32 := Scalar.extui v728
  let c0_i32_383 : BitVec 32 := 0#32
  let v730 : BitVec 1 := Scalar.cmpi .slt v722 c0_i32_383
  let v731 : BitVec 32 := Scalar.extui v730
  let v732 : BitVec 32 := Scalar.subi v729 v731
  let c128_i32_381 : BitVec 32 := 128#32
  let c0_i32_384 : BitVec 32 := 0#32
  let v733 : BitVec 1 := Scalar.cmpi .sgt c128_i32_381 c0_i32_384
  let v734 : BitVec 32 := Scalar.extui v733
  let c0_i32_385 : BitVec 32 := 0#32
  let v735 : BitVec 1 := Scalar.cmpi .slt c128_i32_381 c0_i32_385
  let v736 : BitVec 32 := Scalar.extui v735
  let v737 : BitVec 32 := Scalar.subi v734 v736
  let v738 : BitVec 1 := Scalar.cmpi .ne v732 v737
  let v739 : BitVec 32 := Scalar.remsi v722 c128_i32_381
  let c0_i32_386 : BitVec 32 := 0#32
  let v740 : BitVec 1 := Scalar.cmpi .ne v739 c0_i32_386
  let v741 : BitVec 1 := Scalar.andi v738 v740
  let v727 : BitVec 32 := Scalar.divsi v722 c128_i32_381
  let c1_i32_387 : BitVec 32 := 1#32
  let v742 : BitVec 32 := Scalar.subi v727 c1_i32_387
  let v743 : BitVec 32 := Scalar.select v741 v742 v727
  let c8_i32_402 : BitVec 32 := 8#32
  let v772 : BitVec 32 := Scalar.muli v743 c8_i32_402
  v772

def k0_off4 (v722 : BitVec 32) : Fin 2 → Nat :=
  let c0_i32_382 : BitVec 32 := 0#32
  let v728 : BitVec 1 := Scalar.cmpi .sgt v722 c0_i32_382
  let v729 : BitVec 32 := Scalar.extui v728
  let c0_i32_383 : BitVec 32 := 0#32
  let v730 : BitVec 1 := Scalar.cmpi .slt v722 c0_i32_383
  let v731 : BitVec 32 := Scalar.extui v730
  let v732 : BitVec 32 := Scalar.subi v729 v731
  let c128_i32_381 : BitVec 32 := 128#32
  let c0_i32_384 : BitVec 32 := 0#32
  let v733 : BitVec 1 := Scalar.cmpi .sgt c128_i32_381 c0_i32_384
  let v734 : BitVec 32 := Scalar.extui v733
  let c0_i32_385 : BitVec 32 := 0#32
  let v735 : BitVec 1 := Scalar.cmpi .slt c128_i32_381 c0_i32_385
  let v736 : BitVec 32 := Scalar.extui v735
  let v737 : BitVec 32 := Scalar.subi v734 v736
  let v738 : BitVec 1 := Scalar.cmpi .ne v732 v737
  let v739 : BitVec 32 := Scalar.remsi v722 c128_i32_381
  let c0_i32_386 : BitVec 32 := 0#32
  let v740 : BitVec 1 := Scalar.cmpi .ne v739 c0_i32_386
  let v741 : BitVec 1 := Scalar.andi v738 v740
  let v727 : BitVec 32 := Scalar.divsi v722 c128_i32_381
  let c1_i32_387 : BitVec 32 := 1#32
  let v742 : BitVec 32 := Scalar.subi v727 c1_i32_387
  let v743 : BitVec 32 := Scalar.select v741 v742 v727
  let c8_i32_402 : BitVec 32 := 8#32
  let v772 : BitVec 32 := Scalar.muli v743 c8_i32_402
  let v773 : BitVec 32 := v772
  let v774 : Index := Scalar.indexCast v773
  let c0_403 : Index := 0#32
  ![v774.toNat, 0]
def k0_mult2 (v726 : BitVec 32) : BitVec 32 :=
  let c0_i32_389 : BitVec 32 := 0#32
  let v745 : BitVec 1 := Scalar.cmpi .sgt v726 c0_i32_389
  let v746 : BitVec 32 := Scalar.extui v745
  let c0_i32_390 : BitVec 32 := 0#32
  let v747 : BitVec 1 := Scalar.cmpi .slt v726 c0_i32_390
  let v748 : BitVec 32 := Scalar.extui v747
  let v749 : BitVec 32 := Scalar.subi v746 v748
  let c128_i32_388 : BitVec 32 := 128#32
  let c0_i32_391 : BitVec 32 := 0#32
  let v750 : BitVec 1 := Scalar.cmpi .sgt c128_i32_388 c0_i32_391
  let v751 : BitVec 32 := Scalar.extui v750
  let c0_i32_392 : BitVec 32 := 0#32
  let v752 : BitVec 1 := Scalar.cmpi .slt c128_i32_388 c0_i32_392
  let v753 : BitVec 32 := Scalar.extui v752
  let v754 : BitVec 32 := Scalar.subi v751 v753
  let v755 : BitVec 1 := Scalar.cmpi .ne v749 v754
  let v756 : BitVec 32 := Scalar.remsi v726 c128_i32_388
  let c0_i32_393 : BitVec 32 := 0#32
  let v757 : BitVec 1 := Scalar.cmpi .ne v756 c0_i32_393
  let v758 : BitVec 1 := Scalar.andi v755 v757
  let v744 : BitVec 32 := Scalar.divsi v726 c128_i32_388
  let c1_i32_394 : BitVec 32 := 1#32
  let v759 : BitVec 32 := Scalar.subi v744 c1_i32_394
  let v760 : BitVec 32 := Scalar.select v758 v759 v744
  let c23_i32_395 : BitVec 32 := 23#32
  let v761 : BitVec 32 := Scalar.minsi v760 c23_i32_395
  let c8_i32_404 : BitVec 32 := 8#32
  let v776 : BitVec 32 := Scalar.muli v761 c8_i32_404
  v776

def k0_off5 (v726 : BitVec 32) : Fin 2 → Nat :=
  let c0_i32_389 : BitVec 32 := 0#32
  let v745 : BitVec 1 := Scalar.cmpi .sgt v726 c0_i32_389
  let v746 : BitVec 32 := Scalar.extui v745
  let c0_i32_390 : BitVec 32 := 0#32
  let v747 : BitVec 1 := Scalar.cmpi .slt v726 c0_i32_390
  let v748 : BitVec 32 := Scalar.extui v747
  let v749 : BitVec 32 := Scalar.subi v746 v748
  let c128_i32_388 : BitVec 32 := 128#32
  let c0_i32_391 : BitVec 32 := 0#32
  let v750 : BitVec 1 := Scalar.cmpi .sgt c128_i32_388 c0_i32_391
  let v751 : BitVec 32 := Scalar.extui v750
  let c0_i32_392 : BitVec 32 := 0#32
  let v752 : BitVec 1 := Scalar.cmpi .slt c128_i32_388 c0_i32_392
  let v753 : BitVec 32 := Scalar.extui v752
  let v754 : BitVec 32 := Scalar.subi v751 v753
  let v755 : BitVec 1 := Scalar.cmpi .ne v749 v754
  let v756 : BitVec 32 := Scalar.remsi v726 c128_i32_388
  let c0_i32_393 : BitVec 32 := 0#32
  let v757 : BitVec 1 := Scalar.cmpi .ne v756 c0_i32_393
  let v758 : BitVec 1 := Scalar.andi v755 v757
  let v744 : BitVec 32 := Scalar.divsi v726 c128_i32_388
  let c1_i32_394 : BitVec 32 := 1#32
  let v759 : BitVec 32 := Scalar.subi v744 c1_i32_394
  let v760 : BitVec 32 := Scalar.select v758 v759 v744
  let c23_i32_395 : BitVec 32 := 23#32
  let v761 : BitVec 32 := Scalar.minsi v760 c23_i32_395
  let c8_i32_404 : BitVec 32 := 8#32
  let v776 : BitVec 32 := Scalar.muli v761 c8_i32_404
  let v777 : BitVec 32 := v776
  let v778 : Index := Scalar.indexCast v777
  let c0_405 : Index := 0#32
  ![v778.toNat, 0]

def k0_chk2 (v726 : BitVec 32) : Prop :=
  (8 ∣ (k0_mult2 v726).toNat) ∧
  (∀ a, (k0_off5 v726) a + S8x128.size a ≤ S192x128.size a)
theorem k0_mult2_dvd : ∀ (v726 : BitVec 32) (k0_hw2 : k0_chk2 v726), 8 ∣ (k0_mult2 v726).toNat := fun v726 k0_hw2 => k0_hw2.1
theorem k0_off5_inb : ∀ (v726 : BitVec 32) (k0_hw2 : k0_chk2 v726), ∀ a, (k0_off5 v726) a + S8x128.size a ≤ S192x128.size a := fun v726 k0_hw2 => k0_hw2.2

def k0_mult3 (k0_t1 : Fin k0_t1_loop.trips) : BitVec 32 :=
  let c0_i32_366 : BitVec 32 := 0#32
  let c1_i32_367 : BitVec 32 := 1#32
  let arg19 : BitVec 32 := Scf.iv c0_i32_366 c1_i32_367 k0_t1
  let c8_i32_406 : BitVec 32 := 8#32
  let v783 : BitVec 32 := Scalar.muli arg19 c8_i32_406
  v783
def k0_off6 (k0_t1 : Fin k0_t1_loop.trips) : Fin 2 → Nat :=
  let c0_i32_366 : BitVec 32 := 0#32
  let c1_i32_367 : BitVec 32 := 1#32
  let arg19 : BitVec 32 := Scf.iv c0_i32_366 c1_i32_367 k0_t1
  let c8_i32_406 : BitVec 32 := 8#32
  let v783 : BitVec 32 := Scalar.muli arg19 c8_i32_406
  let v784 : BitVec 32 := v783
  let v785 : Index := Scalar.indexCast v784
  let c0_407 : Index := 0#32
  ![v785.toNat, 0]
def k0_mult4 (v722 : BitVec 32) : BitVec 32 :=
  let c0_i32_382 : BitVec 32 := 0#32
  let v728 : BitVec 1 := Scalar.cmpi .sgt v722 c0_i32_382
  let v729 : BitVec 32 := Scalar.extui v728
  let c0_i32_383 : BitVec 32 := 0#32
  let v730 : BitVec 1 := Scalar.cmpi .slt v722 c0_i32_383
  let v731 : BitVec 32 := Scalar.extui v730
  let v732 : BitVec 32 := Scalar.subi v729 v731
  let c128_i32_381 : BitVec 32 := 128#32
  let c0_i32_384 : BitVec 32 := 0#32
  let v733 : BitVec 1 := Scalar.cmpi .sgt c128_i32_381 c0_i32_384
  let v734 : BitVec 32 := Scalar.extui v733
  let c0_i32_385 : BitVec 32 := 0#32
  let v735 : BitVec 1 := Scalar.cmpi .slt c128_i32_381 c0_i32_385
  let v736 : BitVec 32 := Scalar.extui v735
  let v737 : BitVec 32 := Scalar.subi v734 v736
  let v738 : BitVec 1 := Scalar.cmpi .ne v732 v737
  let v739 : BitVec 32 := Scalar.remsi v722 c128_i32_381
  let c0_i32_386 : BitVec 32 := 0#32
  let v740 : BitVec 1 := Scalar.cmpi .ne v739 c0_i32_386
  let v741 : BitVec 1 := Scalar.andi v738 v740
  let v727 : BitVec 32 := Scalar.divsi v722 c128_i32_381
  let c1_i32_387 : BitVec 32 := 1#32
  let v742 : BitVec 32 := Scalar.subi v727 c1_i32_387
  let v743 : BitVec 32 := Scalar.select v741 v742 v727
  let c128_i32_410 : BitVec 32 := 128#32
  let v798 : BitVec 32 := Scalar.muli v743 c128_i32_410
  v798
def k0_off7 (v722 : BitVec 32) : Fin 3 → Nat :=
  let c0_411 : Index := 0#32
  let c0_412 : Index := 0#32
  let c0_i32_382 : BitVec 32 := 0#32
  let v728 : BitVec 1 := Scalar.cmpi .sgt v722 c0_i32_382
  let v729 : BitVec 32 := Scalar.extui v728
  let c0_i32_383 : BitVec 32 := 0#32
  let v730 : BitVec 1 := Scalar.cmpi .slt v722 c0_i32_383
  let v731 : BitVec 32 := Scalar.extui v730
  let v732 : BitVec 32 := Scalar.subi v729 v731
  let c128_i32_381 : BitVec 32 := 128#32
  let c0_i32_384 : BitVec 32 := 0#32
  let v733 : BitVec 1 := Scalar.cmpi .sgt c128_i32_381 c0_i32_384
  let v734 : BitVec 32 := Scalar.extui v733
  let c0_i32_385 : BitVec 32 := 0#32
  let v735 : BitVec 1 := Scalar.cmpi .slt c128_i32_381 c0_i32_385
  let v736 : BitVec 32 := Scalar.extui v735
  let v737 : BitVec 32 := Scalar.subi v734 v736
  let v738 : BitVec 1 := Scalar.cmpi .ne v732 v737
  let v739 : BitVec 32 := Scalar.remsi v722 c128_i32_381
  let c0_i32_386 : BitVec 32 := 0#32
  let v740 : BitVec 1 := Scalar.cmpi .ne v739 c0_i32_386
  let v741 : BitVec 1 := Scalar.andi v738 v740
  let v727 : BitVec 32 := Scalar.divsi v722 c128_i32_381
  let c1_i32_387 : BitVec 32 := 1#32
  let v742 : BitVec 32 := Scalar.subi v727 c1_i32_387
  let v743 : BitVec 32 := Scalar.select v741 v742 v727
  let c128_i32_410 : BitVec 32 := 128#32
  let v798 : BitVec 32 := Scalar.muli v743 c128_i32_410
  let v799 : BitVec 32 := v798
  let v800 : Index := Scalar.indexCast v799
  ![0, 0, v800.toNat]

def k0_chk1 (v722 : BitVec 32) : Prop :=
  (8 ∣ (k0_mult1 v722).toNat) ∧
  (∀ a, (k0_off4 v722) a + S8x128.size a ≤ S192x128.size a) ∧
  (128 ∣ (k0_mult4 v722).toNat) ∧
  (∀ a, (k0_off7 v722) a + S1x8x128.size a ≤ S1x8x3072.size a)
theorem k0_mult1_dvd : ∀ (v722 : BitVec 32) (k0_hw1 : k0_chk1 v722), 8 ∣ (k0_mult1 v722).toNat := fun v722 k0_hw1 => k0_hw1.1
theorem k0_off4_inb : ∀ (v722 : BitVec 32) (k0_hw1 : k0_chk1 v722), ∀ a, (k0_off4 v722) a + S8x128.size a ≤ S192x128.size a := fun v722 k0_hw1 => k0_hw1.2.1
theorem k0_mult4_dvd : ∀ (v722 : BitVec 32) (k0_hw1 : k0_chk1 v722), 128 ∣ (k0_mult4 v722).toNat := fun v722 k0_hw1 => k0_hw1.2.2.1
theorem k0_off7_inb : ∀ (v722 : BitVec 32) (k0_hw1 : k0_chk1 v722), ∀ a, (k0_off7 v722) a + S1x8x128.size a ≤ S1x8x3072.size a := fun v722 k0_hw1 => k0_hw1.2.2.2

def k0_off8 (i : grid0.Coords) : Fin 2 → Nat :=
  let arg0 : BitVec 32 := BitVec.ofNat 32 (i 0).val
  let v695 : Index := Scalar.indexCast arg0
  let c128_369 : Index := 128#32
  ![v695.toNat, 128]
def k0_mult5 (v696 : BitVec 32) : BitVec 32 :=
  let c0_i32_388 : BitVec 32 := 0#32
  let v735 : BitVec 1 := Scalar.cmpi .sgt v696 c0_i32_388
  let v736 : BitVec 32 := Scalar.extui v735
  let c0_i32_389 : BitVec 32 := 0#32
  let v737 : BitVec 1 := Scalar.cmpi .slt v696 c0_i32_389
  let v738 : BitVec 32 := Scalar.extui v737
  let v739 : BitVec 32 := Scalar.subi v736 v738
  let c128_i32_387 : BitVec 32 := 128#32
  let c0_i32_390 : BitVec 32 := 0#32
  let v740 : BitVec 1 := Scalar.cmpi .sgt c128_i32_387 c0_i32_390
  let v741 : BitVec 32 := Scalar.extui v740
  let c0_i32_391 : BitVec 32 := 0#32
  let v742 : BitVec 1 := Scalar.cmpi .slt c128_i32_387 c0_i32_391
  let v743 : BitVec 32 := Scalar.extui v742
  let v744 : BitVec 32 := Scalar.subi v741 v743
  let v745 : BitVec 1 := Scalar.cmpi .ne v739 v744
  let v746 : BitVec 32 := Scalar.remsi v696 c128_i32_387
  let c0_i32_392 : BitVec 32 := 0#32
  let v747 : BitVec 1 := Scalar.cmpi .ne v746 c0_i32_392
  let v748 : BitVec 1 := Scalar.andi v745 v747
  let v734 : BitVec 32 := Scalar.divsi v696 c128_i32_387
  let c1_i32_393 : BitVec 32 := 1#32
  let v749 : BitVec 32 := Scalar.subi v734 c1_i32_393
  let v750 : BitVec 32 := Scalar.select v748 v749 v734
  let c128_i32_394 : BitVec 32 := 128#32
  let v751 : BitVec 32 := Scalar.muli v750 c128_i32_394
  v751
def k0_cond2 (v696 : BitVec 32) : BitVec 1 :=
  let c0_i32_371 : BitVec 32 := 0#32
  let v698 : BitVec 1 := Scalar.cmpi .sgt v696 c0_i32_371
  let v699 : BitVec 32 := Scalar.extui v698
  let c0_i32_372 : BitVec 32 := 0#32
  let v700 : BitVec 1 := Scalar.cmpi .slt v696 c0_i32_372
  let v701 : BitVec 32 := Scalar.extui v700
  let v702 : BitVec 32 := Scalar.subi v699 v701
  let c128_i32_370 : BitVec 32 := 128#32
  let c0_i32_373 : BitVec 32 := 0#32
  let v703 : BitVec 1 := Scalar.cmpi .sgt c128_i32_370 c0_i32_373
  let v704 : BitVec 32 := Scalar.extui v703
  let c0_i32_374 : BitVec 32 := 0#32
  let v705 : BitVec 1 := Scalar.cmpi .slt c128_i32_370 c0_i32_374
  let v706 : BitVec 32 := Scalar.extui v705
  let v707 : BitVec 32 := Scalar.subi v704 v706
  let v708 : BitVec 1 := Scalar.cmpi .ne v702 v707
  let v709 : BitVec 32 := Scalar.remsi v696 c128_i32_370
  let c0_i32_375 : BitVec 32 := 0#32
  let v710 : BitVec 1 := Scalar.cmpi .ne v709 c0_i32_375
  let v711 : BitVec 1 := Scalar.andi v708 v710
  let v697 : BitVec 32 := Scalar.divsi v696 c128_i32_370
  let c1_i32_376 : BitVec 32 := 1#32
  let v712 : BitVec 32 := Scalar.subi v697 c1_i32_376
  let v713 : BitVec 32 := Scalar.select v711 v712 v697
  let c23_i32 : BitVec 32 := 23#32
  let v714 : BitVec 1 := Scalar.cmpi .sle v713 c23_i32
  let v715 : BitVec 32 := Scalar.extui v714
  let c0_i32_377 : BitVec 32 := 0#32
  let v716 : BitVec 1 := Scalar.cmpi .ne v715 c0_i32_377
  v716

def k0_off9 (v696 : BitVec 32) : Fin 3 → Nat :=
  let c0_395 : Index := 0#32
  let c0_396 : Index := 0#32
  let c0_i32_388 : BitVec 32 := 0#32
  let v735 : BitVec 1 := Scalar.cmpi .sgt v696 c0_i32_388
  let v736 : BitVec 32 := Scalar.extui v735
  let c0_i32_389 : BitVec 32 := 0#32
  let v737 : BitVec 1 := Scalar.cmpi .slt v696 c0_i32_389
  let v738 : BitVec 32 := Scalar.extui v737
  let v739 : BitVec 32 := Scalar.subi v736 v738
  let c128_i32_387 : BitVec 32 := 128#32
  let c0_i32_390 : BitVec 32 := 0#32
  let v740 : BitVec 1 := Scalar.cmpi .sgt c128_i32_387 c0_i32_390
  let v741 : BitVec 32 := Scalar.extui v740
  let c0_i32_391 : BitVec 32 := 0#32
  let v742 : BitVec 1 := Scalar.cmpi .slt c128_i32_387 c0_i32_391
  let v743 : BitVec 32 := Scalar.extui v742
  let v744 : BitVec 32 := Scalar.subi v741 v743
  let v745 : BitVec 1 := Scalar.cmpi .ne v739 v744
  let v746 : BitVec 32 := Scalar.remsi v696 c128_i32_387
  let c0_i32_392 : BitVec 32 := 0#32
  let v747 : BitVec 1 := Scalar.cmpi .ne v746 c0_i32_392
  let v748 : BitVec 1 := Scalar.andi v745 v747
  let v734 : BitVec 32 := Scalar.divsi v696 c128_i32_387
  let c1_i32_393 : BitVec 32 := 1#32
  let v749 : BitVec 32 := Scalar.subi v734 c1_i32_393
  let v750 : BitVec 32 := Scalar.select v748 v749 v734
  let c128_i32_394 : BitVec 32 := 128#32
  let v751 : BitVec 32 := Scalar.muli v750 c128_i32_394
  let v752 : BitVec 32 := v751
  let v753 : Index := Scalar.indexCast v752
  ![0, 0, v753.toNat]

def k0_chk3 (v696 : BitVec 32) : Prop :=
  (∀ (k0_h2 : k0_cond2 v696 = 1#1), 128 ∣ (k0_mult5 v696).toNat) ∧
  (∀ (k0_h2 : k0_cond2 v696 = 1#1), ∀ a, (k0_off9 v696) a + S1x8x128.size a ≤ S1x8x3072.size a)
theorem k0_mult5_dvd : ∀ (v696 : BitVec 32) (k0_hw3 : k0_chk3 v696), ∀ (k0_h2 : k0_cond2 v696 = 1#1), 128 ∣ (k0_mult5 v696).toNat := fun v696 k0_hw3 k0_h2 => k0_hw3.1 k0_h2
theorem k0_off9_inb : ∀ (v696 : BitVec 32) (k0_hw3 : k0_chk3 v696), ∀ (k0_h2 : k0_cond2 v696 = 1#1), ∀ a, (k0_off9 v696) a + S1x8x128.size a ≤ S1x8x3072.size a := fun v696 k0_hw3 k0_h2 => k0_hw3.2 k0_h2

def k0_cond3 (i : grid0.Coords) : BitVec 1 :=
  let arg1 : BitVec 32 := BitVec.ofNat 32 (i 1).val
  let c3_i32_378 : BitVec 32 := 3#32
  let v717 : BitVec 1 := Scalar.cmpi .eq arg1 c3_i32_378
  let v718 : BitVec 32 := Scalar.extui v717
  let c0_i32_379 : BitVec 32 := 0#32
  let v719 : BitVec 1 := Scalar.cmpi .ne v718 c0_i32_379
  v719

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x129 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x3072 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x129 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x160x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x160x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1280x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2x128x32x160 : Shape := ⟨4, ![2, 128, 32, 160]⟩
abbrev S2x32 : Shape := ⟨2, ![2, 32]⟩
abbrev S2x128x32 : Shape := ⟨3, ![2, 128, 32]⟩
abbrev S2x129 : Shape := ⟨2, ![2, 129]⟩
abbrev S2x3072 : Shape := ⟨2, ![2, 3072]⟩
abbrev S3072 : Shape := ⟨1, ![3072]⟩
abbrev S128 : Shape := ⟨1, ![128]⟩
abbrev S2x128 : Shape := ⟨2, ![2, 128]⟩
abbrev S2x1x128 : Shape := ⟨3, ![2, 1, 128]⟩
abbrev S3072x1 : Shape := ⟨2, ![3072, 1]⟩
abbrev S1x3072x1 : Shape := ⟨3, ![1, 3072, 1]⟩
abbrev S2x3072x128 : Shape := ⟨3, ![2, 3072, 128]⟩
abbrev S_ : Shape := ⟨0, ![]⟩
abbrev S2x1 : Shape := ⟨2, ![2, 1]⟩
abbrev S2 : Shape := ⟨1, ![2]⟩
abbrev S1x3072 : Shape := ⟨2, ![1, 3072]⟩
abbrev S2x3072x1 : Shape := ⟨3, ![2, 3072, 1]⟩
abbrev S2x3072x32x160 : Shape := ⟨4, ![2, 3072, 32, 160]⟩
abbrev S2x3072x32 : Shape := ⟨3, ![2, 3072, 32]⟩
abbrev S2x1x32 : Shape := ⟨3, ![2, 1, 32]⟩
abbrev S3072x32 : Shape := ⟨2, ![3072, 32]⟩
abbrev S2x1x3072 : Shape := ⟨3, ![2, 1, 3072]⟩
abbrev S128x1 : Shape := ⟨2, ![128, 1]⟩
abbrev S1x128x1 : Shape := ⟨3, ![1, 128, 1]⟩
abbrev S2x128x3072 : Shape := ⟨3, ![2, 128, 3072]⟩
abbrev S2x128x3072x1 : Shape := ⟨4, ![2, 128, 3072, 1]⟩
abbrev S2x1x3072x32 : Shape := ⟨4, ![2, 1, 3072, 32]⟩
abbrev S2x128x3072x32 : Shape := ⟨4, ![2, 128, 3072, 32]⟩
abbrev S128x3072x32 : Shape := ⟨3, ![128, 3072, 32]⟩
abbrev S2x3072x32x1 : Shape := ⟨4, ![2, 3072, 32, 1]⟩
abbrev S2x128x5120 : Shape := ⟨3, ![2, 128, 5120]⟩

abbrev nBuf : Space → Nat
  | .hbm => 167
  | .vmem => 6
  | .smem => 0
  | _ => 0

abbrev hbmTy0_0 (i : Nat) : BufTy := match i % 128 with
  | 0 => ⟨S2x128x32x160, .fp8e4m3⟩
  | 1 => ⟨S2x128x32x160, .fp8e4m3⟩
  | 2 => ⟨S2x128x32x160, .fp8e4m3⟩
  | 3 => ⟨S2x32, .f32⟩
  | 4 => ⟨S2x128x32, .f32⟩
  | 5 => ⟨S2x128x32, .f32⟩
  | 6 => ⟨S2x129, .i32⟩
  | 7 => ⟨S2x3072, .i32⟩
  | 8 => ⟨S3072, .i32⟩
  | 9 => ⟨S128, .i32⟩
  | 10 => ⟨S2x128x32x160, .f32⟩
  | 11 => ⟨S2x128x32x160, .f32⟩
  | 12 => ⟨S2x128x32x160, .f32⟩
  | 13 => ⟨S2x128, .i32⟩
  | 14 => ⟨S2x1x128, .i32⟩
  | 15 => ⟨S3072x1, .i32⟩
  | 16 => ⟨S1x3072x1, .i32⟩
  | 17 => ⟨S2x3072x128, .i32⟩
  | 18 => ⟨S2x3072x128, .i32⟩
  | 19 => ⟨S2x3072x128, .i1⟩
  | 20 => ⟨S2x3072x128, .i32⟩
  | 21 => ⟨S_, .i32⟩
  | 22 => ⟨S2x3072, .i32⟩
  | 23 => ⟨S_, .i32⟩
  | 24 => ⟨S2x3072, .i32⟩
  | 25 => ⟨S2x3072, .i32⟩
  | 26 => ⟨S2x1, .i32⟩
  | 27 => ⟨S2, .i32⟩
  | 28 => ⟨S1x3072, .i32⟩
  | 29 => ⟨S2x1, .i32⟩
  | 30 => ⟨S2x3072, .i32⟩
  | 31 => ⟨S2x3072, .i32⟩
  | 32 => ⟨S2x3072, .i1⟩
  | 33 => ⟨S2x3072x1, .i1⟩
  | 34 => ⟨S_, .i32⟩
  | 35 => ⟨S2x3072, .i32⟩
  | 36 => ⟨S2x3072, .i1⟩
  | 37 => ⟨S_, .i32⟩
  | 38 => ⟨S2x3072, .i32⟩
  | 39 => ⟨S2x3072, .i32⟩
  | 40 => ⟨S2x3072, .i32⟩
  | 41 => ⟨S2x3072x1, .i32⟩
  | 42 => ⟨S2x3072x32x160, .f32⟩
  | 43 => ⟨S_, .i32⟩
  | 44 => ⟨S2x3072, .i32⟩
  | 45 => ⟨S2x3072, .i1⟩
  | 46 => ⟨S_, .i32⟩
  | 47 => ⟨S2x3072, .i32⟩
  | 48 => ⟨S2x3072, .i32⟩
  | 49 => ⟨S2x3072, .i32⟩
  | 50 => ⟨S2x3072x1, .i32⟩
  | 51 => ⟨S2x3072x32x160, .f32⟩
  | 52 => ⟨S2x3072x32, .f32⟩
  | 53 => ⟨S2x1x32, .f32⟩
  | 54 => ⟨S_, .i32⟩
  | 55 => ⟨S2x3072, .i32⟩
  | 56 => ⟨S2x3072, .i1⟩
  | 57 => ⟨S_, .i32⟩
  | 58 => ⟨S2x3072, .i32⟩
  | 59 => ⟨S2x3072, .i32⟩
  | 60 => ⟨S2x3072, .i32⟩
  | 61 => ⟨S2x3072x1, .i32⟩
  | 62 => ⟨S2x3072x32, .f32⟩
  | 63 => ⟨S2x3072x32, .f32⟩
  | 64 => ⟨S2x3072x32, .f32⟩
  | 65 => ⟨S_, .f32⟩
  | 66 => ⟨S2x3072x32, .f32⟩
  | 67 => ⟨S2x3072x32, .f32⟩
  | 68 => ⟨S2x3072x32, .f32⟩
  | 69 => ⟨S_, .f32⟩
  | 70 => ⟨S_, .f32⟩
  | 71 => ⟨S2x3072x32, .i1⟩
  | 72 => ⟨S3072x32, .f32⟩
  | 73 => ⟨S2x3072x32, .f32⟩
  | 74 => ⟨S2x3072x32, .f32⟩
  | 75 => ⟨S2x1x3072, .i32⟩
  | 76 => ⟨S128x1, .i32⟩
  | 77 => ⟨S1x128x1, .i32⟩
  | 78 => ⟨S2x128x3072, .i32⟩
  | 79 => ⟨S2x128x3072, .i32⟩
  | 80 => ⟨S2x128x3072, .i1⟩
  | 81 => ⟨S2x128x3072x1, .i1⟩
  | 82 => ⟨S2x1x3072x32, .f32⟩
  | 83 => ⟨S_, .f32⟩
  | 84 => ⟨S_, .f32⟩
  | 85 => ⟨S2x128x3072x32, .i1⟩
  | 86 => ⟨S2x128x3072x32, .f32⟩
  | 87 => ⟨S128x3072x32, .f32⟩
  | 88 => ⟨S2x128x3072x32, .f32⟩
  | 89 => ⟨S2x128x3072x32, .f32⟩
  | 90 => ⟨S_, .f32⟩
  | 91 => ⟨S2x128x32, .f32⟩
  | 92 => ⟨S_, .i32⟩
  | 93 => ⟨S2x3072, .i32⟩
  | 94 => ⟨S2x3072, .i1⟩
  | 95 => ⟨S_, .i32⟩
  | 96 => ⟨S2x3072, .i32⟩
  | 97 => ⟨S2x3072, .i32⟩
  | 98 => ⟨S2x3072, .i32⟩
  | 99 => ⟨S2x3072x1, .i32⟩
  | 100 => ⟨S2x3072x32, .f32⟩
  | 101 => ⟨S2x3072x32, .f32⟩
  | 102 => ⟨S2x3072x32, .f32⟩
  | 103 => ⟨S2x128x3072x1, .i1⟩
  | 104 => ⟨S2x1x3072x32, .f32⟩
  | 105 => ⟨S_, .f32⟩
  | 106 => ⟨S_, .f32⟩
  | 107 => ⟨S2x128x3072x32, .i1⟩
  | 108 => ⟨S2x128x3072x32, .f32⟩
  | 109 => ⟨S128x3072x32, .f32⟩
  | 110 => ⟨S2x128x3072x32, .f32⟩
  | 111 => ⟨S2x128x3072x32, .f32⟩
  | 112 => ⟨S_, .f32⟩
  | 113 => ⟨S2x128x32, .f32⟩
  | 114 => ⟨S_, .i32⟩
  | 115 => ⟨S2x3072, .i32⟩
  | 116 => ⟨S2x3072, .i1⟩
  | 117 => ⟨S_, .i32⟩
  | 118 => ⟨S2x3072, .i32⟩
  | 119 => ⟨S2x3072, .i32⟩
  | 120 => ⟨S2x3072, .i32⟩
  | 121 => ⟨S2x3072x1, .i32⟩
  | 122 => ⟨S2x3072x32, .f32⟩
  | 123 => ⟨S_, .f32⟩
  | 124 => ⟨S2x3072x32, .f32⟩
  | 125 => ⟨S2x3072x32, .i1⟩
  | 126 => ⟨S_, .i32⟩
  | 127 => ⟨S2x3072, .i32⟩
  | _ => ⟨S2x128x32x160, .fp8e4m3⟩

abbrev hbmTy0_1 (i : Nat) : BufTy := match i % 128 with
  | 0 => ⟨S2x3072, .i1⟩
  | 1 => ⟨S_, .i32⟩
  | 2 => ⟨S2x3072, .i32⟩
  | 3 => ⟨S2x3072, .i32⟩
  | 4 => ⟨S2x3072, .i32⟩
  | 5 => ⟨S2x3072x1, .i32⟩
  | 6 => ⟨S2x3072x32, .f32⟩
  | 7 => ⟨S2x3072x32, .f32⟩
  | 8 => ⟨S_, .f32⟩
  | 9 => ⟨S_, .f32⟩
  | 10 => ⟨S3072x32, .f32⟩
  | 11 => ⟨S2x3072x32, .f32⟩
  | 12 => ⟨S2x3072x32, .f32⟩
  | 13 => ⟨S_, .i32⟩
  | 14 => ⟨S2x3072, .i32⟩
  | 15 => ⟨S2x3072, .i1⟩
  | 16 => ⟨S_, .i32⟩
  | 17 => ⟨S2x3072, .i32⟩
  | 18 => ⟨S2x3072, .i32⟩
  | 19 => ⟨S2x3072, .i32⟩
  | 20 => ⟨S2x3072x1, .i32⟩
  | 21 => ⟨S2x3072x32, .f32⟩
  | 22 => ⟨S2x3072x32, .f32⟩
  | 23 => ⟨S2x128x3072, .f32⟩
  | 24 => ⟨S2x3072x32x1, .f32⟩
  | 25 => ⟨S_, .i32⟩
  | 26 => ⟨S2x3072, .i32⟩
  | 27 => ⟨S2x3072, .i1⟩
  | 28 => ⟨S_, .i32⟩
  | 29 => ⟨S2x3072, .i32⟩
  | 30 => ⟨S2x3072, .i32⟩
  | 31 => ⟨S2x3072, .i32⟩
  | 32 => ⟨S2x3072x1, .i32⟩
  | 33 => ⟨S2x3072x32x160, .f32⟩
  | 34 => ⟨S2x3072x32x160, .f32⟩
  | 35 => ⟨S2x3072x32x160, .f32⟩
  | 36 => ⟨S2x128x32x160, .f32⟩
  | 37 => ⟨S2x128x5120, .f32⟩
  | 38 => ⟨S2x128x5120, .bf16⟩
  | _ => ⟨S2x128x32x160, .fp8e4m3⟩

abbrev hbmTy (i : Nat) : BufTy := match i / 128 with
  | 0 => hbmTy0_0 i
  | 1 => hbmTy0_1 i
  | _ => ⟨S2x128x32x160, .fp8e4m3⟩

abbrev bufTy : (tb : Table) → Fin (tcTables nBuf tb) → BufTy
  | .hbm, ⟨i, _⟩ => hbmTy i
  | .local _ .vmem, ⟨0, _⟩ => ⟨S2x128x32x160, .fp8e4m3⟩
  | .local _ .vmem, ⟨1, _⟩ => ⟨S2x128x32x160, .fp8e4m3⟩
  | .local _ .vmem, ⟨2, _⟩ => ⟨S2x128x32x160, .fp8e4m3⟩
  | .local _ .vmem, ⟨3, _⟩ => ⟨S2x128x32x160, .f32⟩
  | .local _ .vmem, ⟨4, _⟩ => ⟨S2x128x32x160, .f32⟩
  | .local _ .vmem, ⟨5, _⟩ => ⟨S2x128x32x160, .f32⟩
  | _, _ => ⟨S2x128x32x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_c_10 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_v72 : Ref sig .tc := ⟨.hbm, 111, rfl⟩
abbrev main_cst_13 : Ref sig .tc := ⟨.hbm, 112, rfl⟩
abbrev main_v73 : Ref sig .tc := ⟨.hbm, 113, rfl⟩
abbrev main_c_14 : Ref sig .tc := ⟨.hbm, 114, rfl⟩
abbrev main_v74 : Ref sig .tc := ⟨.hbm, 115, rfl⟩
abbrev main_v75 : Ref sig .tc := ⟨.hbm, 116, rfl⟩
abbrev main_c_15 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_16 : Ref sig .tc := ⟨.hbm, 123, rfl⟩
abbrev main_v81 : Ref sig .tc := ⟨.hbm, 124, rfl⟩
abbrev main_v82 : Ref sig .tc := ⟨.hbm, 125, rfl⟩
abbrev main_c_17 : Ref sig .tc := ⟨.hbm, 126, rfl⟩
abbrev main_v83 : Ref sig .tc := ⟨.hbm, 127, rfl⟩
abbrev main_v84 : Ref sig .tc := ⟨.hbm, 128, rfl⟩
abbrev main_c_18 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_19 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v91 : Ref sig .tc := ⟨.hbm, 140, rfl⟩
abbrev main_c_20 : Ref sig .tc := ⟨.hbm, 141, rfl⟩
abbrev main_v92 : Ref sig .tc := ⟨.hbm, 142, rfl⟩
abbrev main_v93 : Ref sig .tc := ⟨.hbm, 143, rfl⟩
abbrev main_c_21 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_c_22 : Ref sig .tc := ⟨.hbm, 153, rfl⟩
abbrev main_v102 : Ref sig .tc := ⟨.hbm, 154, rfl⟩
abbrev main_v103 : Ref sig .tc := ⟨.hbm, 155, rfl⟩
abbrev main_c_23 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x128x32x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x32x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x32x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x32x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x32x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x32x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Trip.lean ====
module

public import proofs.«01_k».proof.Proof.Gen.Kernel
public import proofs.«01_k».proof.Proof.Gen.Kernel.Skeleton
public import proofs.«01_k».proof.Proof.Gen.Kernel.Loops
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M` on core `c`, and the memref held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Proof.Kernel

end
-- ==== Proof.Kernel.Cut.lean ====
module

public import proofs.«01_k».proof.Proof.Kernel.Trip
public import Idealize.ShloMosaic.Lib.Tactic.Stretches
public import Idealize.ShloMosaic.Lib.Tactic.OpenCalls

@[expose] public section

noncomputable section

namespace Cert.Proof.Kernel

open Cert.Kernel Cert.Kernel.Gen
open Idealize.ShloMosaic Idealize.ShloMosaic.TcCoe Idealize.ShloMosaic.Tactic

variable {F : FTy → Type} [FloatOps F]

open_calls kb := cc0_csr_attention [k0_part38, k0_part19]
-- first stretch: the first group's count of the edges; second: the eight heads; third: the compaction loop; fourth: its
-- last tile; fifth: the row statistics
cut_chain ks := kb at 2, 27, 30, 31

/-- The rectangle of the rows `j, j + 8, …` of the score scratch. -/
def strideR (j : ℕ) (hj : j < 8) : Rect S1024x128 where
  off := ![j, 0]
  size := S128x128.size
  stride := ![8, 1]
  inb := by
    intro a; fin_cases a
    · right; show j + 8 * (128 - 1) < 1024; omega
    · right; show 0 + 1 * (128 - 1) < 128; omega
  stride_pos := by intro a; fin_cases a <;> decide

/-- Listed writes that cover a whole memref leave the same contents over anything as over junk. -/
theorem writes_eq_junk_of_cover {Val : EltTy → Type} [∀ e, Nonempty (Val e)] {κ : Kind} {sp : Space} {s : Shape} {e : EltTy} {m : Memref sig κ sp s e} (hw : m.IsWhole)
    (f : m.view.ty.Contents Val) (L : List (View.Piece Val s e)) (hy : ∀ y : s.Idx, ∃ p ∈ L, y ∈ p.1.set) :
    m.view.writes Val f L = m.view.writes Val m.view.junk L := by
  obtain ⟨b, rfl, rfl, rfl, h⟩ := hw; cases h
  funext y
  exact View.read_writes_apply_eq (View.whole b) f (View.whole b) (View.whole b).junk y L (hy y)

/-- Eight stores of every eighth row fill the score scratch, whatever it held before. -/
theorem writes_strided {m : Memref sig .tc .vmem S1024x128 .f32} (hw : m.IsWhole) (f : m.view.ty.Contents (Elt F))
    (L : List (View.Piece (Elt F) S1024x128 .f32))
    (hL : L.map Sigma.fst = [strideR 7 (by omega), strideR 6 (by omega), strideR 5 (by omega), strideR 4 (by omega),
      strideR 3 (by omega), strideR 2 (by omega), strideR 1 (by omega), strideR 0 (by omega)]) :
    m.view.writes (Elt F) f L = m.view.writes (Elt F) m.view.junk L := by
  refine writes_eq_junk_of_cover hw f L fun y => ?_
  have hy : ∃ r ∈ L.map Sigma.fst, y ∈ r.set := by
    have h0 : (y 0).val < 1024 := (y 0).isLt
    have h1 : (y 1).val < 128 := (y 1).isLt
    have hj : (y 0).val % 8 < 8 := Nat.mod_lt _ (by omega)
    refine ⟨strideR ((y 0).val % 8) hj, ?_, ?_⟩
    · rw [hL]; generalize (y 0).val % 8 = j at hj ⊢
      have : j = 0 ∨ j = 1 ∨ j = 2 ∨ j = 3 ∨ j = 4 ∨ j = 5 ∨ j = 6 ∨ j = 7 := by omega
      rcases this with rfl | rfl | rfl | rfl | rfl | rfl | rfl | rfl <;> simp
    · have := (strideR ((y 0).val % 8) hj).toLoadRect.idx_mem
        (fun a => match a with | 0 => ⟨(y 0).val / 8, by show _ < 128; omega⟩ | 1 => ⟨(y 1).val, h1⟩)
      convert this using 1
      funext a; apply Fin.ext; fin_cases a
      · show (y 0).val = (y 0).val % 8 + 8 * ((y 0).val / 8); omega
      · show (y 1).val = 0 + 1 * (y 1).val; omega
  obtain ⟨r, hr, hyr⟩ := hy
  obtain ⟨p, hp, rfl⟩ := List.mem_map.mp hr
  exact ⟨p, hp, hyr⟩

end Cert.Proof.Kernel

end
-- ==== Proof.Kernel.Pro.lean ====
module

public import proofs.«01_k».proof.Proof.Kernel.Cut

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The first group's count: what it leaves in the bias scratch and in the table of column indices, found by the run. -/
def proRun (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (f4 : Bf (F := F) c arg4) (f5 : Bf (F := F) c arg5)
    (h1 : Scalar.cmpi .ne (Scalar.extui (Scalar.cmpi .eq (BitVec.ofNat 32 (i 1).val) 0#32)) 0#32 = 1#1) :
    { W : Bf (F := F) c arg14 × Bf (F := F) c arg15 //
      ∀ (f14 : Bf (F := F) c arg14) (f15 : Bf (F := F) c arg15)
        (R : Type) (κ : Prog (TpuEff nD τ sig (Elt F) Λ₀ .tc) R) (E : Set ℕ) (Q : R → sProp 𝕄),
        iprop(pt c arg4 f4 ∗ pt c arg5 f5 ∗ pt c arg14 f14 ∗ pt c arg15 f15
          ∗ (iprop(pt c arg4 f4 ∗ pt c arg5 f5 ∗ pt c arg14 W.1 ∗ pt c arg15 W.2)
              -∗ wp frame (wpE (defs₀ (F := F)) Variants.none c none) E κ Q))
        ⊢ wp frame (wpE (defs₀ (F := F)) Variants.none c none) E
            (ks1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (R := R) κ) Q } := by
  refine ⟨⟨?_, ?_⟩, fun f14 f15 R κ E Q => ?run⟩
  case run =>
    iintro ⟨H4, H5, H14, H15, Hk⟩
    unfold ks1
    sl_exec_parts!
    iapply Hk
    isplitl [H4]; · iexact H4
    isplitl [H5]; · iexact H5
    isplitl [H14]; · iexact H14
    iexact H15

/-- At a later group the count is skipped. -/
theorem proSkip (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (h1 : ¬ Scalar.cmpi .ne (Scalar.extui (Scalar.cmpi .eq (BitVec.ofNat 32 (i 1).val) 0#32)) 0#32 = 1#1)
    (R : Type) (κ : Prog (TpuEff nD τ sig (Elt F) Λ₀ .tc) R) (E : Set ℕ) (Q : R → sProp 𝕄) :
    wp frame (wpE (defs₀ (F := F)) Variants.none c none) E κ Q
      ⊢ wp frame (wpE (defs₀ (F := F)) Variants.none c none) E (ks1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (R := R) κ) Q := by
  iintro Hk
  unfold ks1
  sl_exec
  iexact Hk

end Cert.Proof.Kernel

end
-- ==== Proof.Kernel.Heads.lean ====
module

public import proofs.«01_k».proof.Proof.Kernel.Cut

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the eight heads of a group leave, and what they hand on to the compaction loop. -/
abbrev HeadsW (F : FTy → Type) (c : Dev nD) (arg11 : Memref sig .tc .vmem S1x128x1280 .bf16) (arg12 : Memref sig .tc .vmem S1x8x3072 .f32)
    (arg16 : Memref sig .tc .vmem S1024x128 .f32) (arg17 : Memref sig .tc .vmem S128x128 .f32) (arg18 : Memref sig .tc .vmem S128x128 .f32) : Type :=
  (Bf (F := F) c arg11 × Bf (F := F) c arg12 × Bf (F := F) c arg16 × Bf (F := F) c arg17 × Bf (F := F) c arg18)
          × (IVec S8x128 32 × FVec F S8x128 .f32 × BitVec 32 × BitVec 32)

/-- The run of the eight heads: from the input blocks and the bias to `W`. -/
def HeadsSpec (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f3 : Bf (F := F) c arg3) (f6 : Bf (F := F) c arg6) (f7 : Bf (F := F) c arg7) (f8 : Bf (F := F) c arg8) (f9 : Bf (F := F) c arg9)
    (f10 : Bf (F := F) c arg10) (f14 : Bf (F := F) c arg14) (f17 : Bf (F := F) c arg17) (f18 : Bf (F := F) c arg18)
    (W : HeadsW F c arg11 arg12 arg16 arg17 arg18) : Prop :=
      ∀ (f11 : Bf (F := F) c arg11) (f12 : Bf (F := F) c arg12) (f16 : Bf (F := F) c arg16)
        (R : Type) (κ : IVec S8x128 32 → FVec F S8x128 .f32 → BitVec 32 → BitVec 32 → Prog (TpuEff nD τ sig (Elt F) Λ₀ .tc) R) (E : Set ℕ) (Q : R → sProp 𝕄),
        iprop(pt c arg3 f3 ∗ pt c arg6 f6 ∗ pt c arg7 f7 ∗ pt c arg8 f8 ∗ pt c arg9 f9 ∗ pt c arg10 f10 ∗ pt c arg11 f11
          ∗ pt c arg12 f12 ∗ pt c arg14 f14 ∗ pt c arg16 f16 ∗ pt c arg17 f17 ∗ pt c arg18 f18
          ∗ (iprop(pt c arg3 f3 ∗ pt c arg6 f6 ∗ pt c arg7 f7 ∗ pt c arg8 f8 ∗ pt c arg9 f9 ∗ pt c arg10 f10 ∗ pt c arg11 W.1.1
              ∗ pt c arg12 W.1.2.1 ∗ pt c arg14 f14 ∗ pt c arg16 W.1.2.2.1 ∗ pt c arg17 W.1.2.2.2.1 ∗ pt c arg18 W.1.2.2.2.2)
              -∗ wp frame (wpE (defs₀ (F := F)) Variants.none c none) E (κ W.2.1 W.2.2.1 W.2.2.2.1 W.2.2.2.2) Q))
        ⊢ wp frame (wpE (defs₀ (F := F)) Variants.none c none) E
            (ks2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (R := R) κ) Q

set_option maxHeartbeats 4000000 in
/-- The eight heads of a group: what they leave in the output block, the scores block, the score scratch and the two columns of row
    statistics, and what they hand on to the compaction loop, found by the run. -/
def headsRun (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f3 : Bf (F := F) c arg3) (f6 : Bf (F := F) c arg6) (f7 : Bf (F := F) c arg7) (f8 : Bf (F := F) c arg8) (f9 : Bf (F := F) c arg9)
    (f10 : Bf (F := F) c arg10) (f14 : Bf (F := F) c arg14) (f17 : Bf (F := F) c arg17) (f18 : Bf (F := F) c arg18) :
    { W : HeadsW F c arg11 arg12 arg16 arg17 arg18 // HeadsSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f6 f7 f8 f9 f10 f14 f17 f18 W } := by
  refine ⟨⟨⟨?_, ?_, ?_, ?_, ?_⟩, ⟨?_, ?_, ?_, ?_⟩⟩, ?run⟩
  case run =>
    unfold HeadsSpec
    intro f11 f12 f16 R κ E Q
    iintro ⟨H3, H6, H7, H8, H9, H10, H11, H12, H14, H16, H17, H18, Hk⟩
    unfold ks2
    sl_exec_parts!
    rw [writes_strided harg16 f16 _ rfl]
    iapply Hk
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H16]; · iexact H16
    isplitl [H17]; · iexact H17
    iexact H18

end Cert.Proof.Kernel

end
-- ==== Proof.Kernel.Comp.lean ====
module

public import proofs.«01_k».proof.Proof.Kernel.Cut

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word of the row table in SMEM at an offset. -/
def wd (c : Dev nD) (arg2 : Memref sig .tc .smem S2x129 .i32) (f2 : Bf (F := F) c arg2) (off : Fin 2 → ℕ)
    (h : ∀ a, off a + S1x1.size a ≤ S2x129.size a) : BitVec 32 :=
  View.readAt (Elt F) arg2.view (Rect.unit (s := S2x129) off S1x1.size h).toLoadRect f2 (Shape.Idx.first (by show 0 < S1x1.numel; rw [numel1_S1x1]; exact Nat.one_pos))

/-- The side conditions of the compaction loop's trips. -/
def Chk (c : Dev nD) (i : grid0.Coords) (arg2 : Memref sig .tc .smem S2x129 .i32) (f2 : Bf (F := F) c arg2) : Prop :=
  (∀ k, k0_chk1 (wd c arg2 f2 (k0_off2 i k) (k0_off2_inb i k))) ∧ (∀ k, k0_chk2 (wd c arg2 f2 (k0_off3 i k) (k0_off3_inb i k)))

/-- One trip of the compaction loop, from the word checks to `W`. -/
def TripSpec (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (arg0 : BitVec 32) (v689 : IVec S8x128 32) (c0 c1 : BitVec 32) (k : Fin k0_t1_loop.trips) (acc : FVec F S8x128 .f32)
    (f2 : Bf (F := F) c arg2) (f15 : Bf (F := F) c arg15) (f16 : Bf (F := F) c arg16) (f12 : Bf (F := F) c arg12)
    (W : FVec F S8x128 .f32 × Bf (F := F) c arg12) : Prop :=
  ∀ (E : Set ℕ) (Q : FVec F S8x128 .f32 → sProp 𝕄),
    iprop(pt c arg2 f2 ∗ pt c arg12 f12 ∗ pt c arg15 f15 ∗ pt c arg16 f16
      ∗ (iprop(pt c arg2 f2 ∗ pt c arg12 W.2 ∗ pt c arg15 f15 ∗ pt c arg16 f16) -∗ Q W.1))
    ⊢ wp frame (wpE (defs₀ (F := F)) Variants.none c none) E
        (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 k acc) Q

/-- One trip of the compaction loop: the vector it carries on and what it leaves in the scores block, found by the run. -/
def tripRun (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (arg0 : BitVec 32) (v689 : IVec S8x128 32) (c0 c1 : BitVec 32) (k : Fin k0_t1_loop.trips) (acc : FVec F S8x128 .f32)
    (f2 : Bf (F := F) c arg2) (f15 : Bf (F := F) c arg15) (f16 : Bf (F := F) c arg16) (f12 : Bf (F := F) c arg12)
    (h1 : k0_chk1 (wd c arg2 f2 (k0_off2 i k) (k0_off2_inb i k))) (h2 : k0_chk2 (wd c arg2 f2 (k0_off3 i k) (k0_off3_inb i k))) :
    { W : FVec F S8x128 .f32 × Bf (F := F) c arg12 //
      TripSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 k acc f2 f15 f16 f12 W } := by
  refine ⟨⟨?_, ?_⟩, ?run⟩
  case run =>
    unfold TripSpec
    intro E Q
    iintro ⟨H2, H12, H15, H16, Hk⟩
    sl_exec (disch := first | exact h1 | exact h2)
    sl_step
    iapply Hk
    isplitl [H2]; · iexact H2
    isplitl [H12]; · iexact H12
    isplitl [H15]; · iexact H15
    iexact H16

open Classical in
/-- The carried vector and the scores block after the first `k` trips. -/
def compSt (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (arg0 : BitVec 32) (v689 : IVec S8x128 32) (c0 c1 : BitVec 32) (init : FVec F S8x128 .f32)
    (f2 : Bf (F := F) c arg2) (f15 : Bf (F := F) c arg15) (f16 : Bf (F := F) c arg16) (f12 : Bf (F := F) c arg12) :
    ℕ → FVec F S8x128 .f32 × Bf (F := F) c arg12
  | 0 => (init, f12)
  | k + 1 =>
    let s := compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k
    if h : Chk c i arg2 f2 ∧ k < k0_t1_loop.trips then
      (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 ⟨k, h.2⟩ s.1 f2 f15 f16 s.2 (h.1.1 _) (h.1.2 _)).val
    else s

/-- The compaction loop's invariant: the scores block and the carried vector are the recursion's. -/
@[sl_loop, instance_reducible] def loopInv_k0_t1 (c : Dev nD)
    (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f2 : Bf (F := F) c arg2) (f15 : Bf (F := F) c arg15) (f16 : Bf (F := F) c arg16) (f12 : Bf (F := F) c arg12)
    (arg0 : BitVec 32) (v689 : IVec S8x128 32) (c0 c1 : BitVec 32) (init : FVec F S8x128 .f32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init where
  inv := fun k acc => iprop(⌜Chk c i arg2 f2⌝ ∗ pt c arg2 f2
    ∗ pt c arg12 (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k).2
    ∗ pt c arg15 f15 ∗ pt c arg16 f16
    ∗ ⌜acc = (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k).1⌝)
  step := fun k acc => by
    iintro ⟨%hc, H2, H12, H15, H16, %hacc⟩
    subst hacc
    iapply ((tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 k _ f2 f15 f16 _ (hc.1 k) (hc.2 k)).property Set.univ _)
    isplitl [H2]; · iexact H2
    isplitl [H12]; · iexact H12
    isplitl [H15]; · iexact H15
    isplitl [H16]; · iexact H16
    iintro ⟨H2, H12, H15, H16⟩
    have e : compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 (k.val + 1)
        = (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 k
            (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k).1 f2 f15 f16
            (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k).2 (hc.1 k) (hc.2 k)).val := by
      rw [compSt]; exact dif_pos ⟨hc, k.isLt⟩
    rw [e]
    isplitr; · ipureintro; exact hc
    isplitl [H2]; · iexact H2
    isplitl [H12]; · iexact H12
    isplitl [H15]; · iexact H15
    isplitl [H16]; · iexact H16
    ipureintro; rfl

end Cert.Proof.Kernel

end
-- ==== Proof.Kernel.Loop.lean ====
module

public import proofs.«01_k».proof.Proof.Kernel.Comp

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word that ends the last row, and the check of its tile. -/
abbrev EndChk (c : Dev nD) (i : grid0.Coords) (arg2 : Memref sig .tc .smem S2x129 .i32) (f2 : Bf (F := F) c arg2) : Prop :=
  k0_chk3 (wd c arg2 f2 (k0_off8 i) (k0_off8_inb i))

/-- The compaction loop with the load behind it. -/
theorem loopRun (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (v689 : IVec S8x128 32) (v692 : FVec F S8x128 .f32) (c0 c1 : BitVec 32)
    (f2 : Bf (F := F) c arg2) (f15 : Bf (F := F) c arg15) (f16 : Bf (F := F) c arg16) (f12 : Bf (F := F) c arg12)
    (hc : Chk c i arg2 f2) (he : EndChk c i arg2 f2)
    (R : Type) (κ : (v694 : FVec F S8x128 .f32) → (v696 : Elt F .i32) → PLift (k0_chk3 v696) → Prog (TpuEff nD τ sig (Elt F) Λ₀ .tc) R) (Q : R → sProp 𝕄) :
    iprop(pt c arg2 f2 ∗ pt c arg12 f12 ∗ pt c arg15 f15 ∗ pt c arg16 f16
      ∗ (iprop(pt c arg2 f2
          ∗ pt c arg12 (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)).2
          ∗ pt c arg15 f15 ∗ pt c arg16 f16)
          -∗ wp frame (wpE (defs₀ (F := F)) Variants.none c none) Set.univ
            (κ (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)).1
              (wd c arg2 f2 (k0_off8 i) (k0_off8_inb i)) ⟨he⟩) Q))
    ⊢ wp frame (wpE (defs₀ (F := F)) Variants.none c none) Set.univ
        (ks3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v689 v692 c0 c1 (R := R) κ) Q := by
  iintro ⟨H2, H12, H15, H16, Hk⟩
  unfold ks3
  let L := loopInv_k0_t1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f2 f15 f16 f12 (BitVec.ofNat 32 (i 0).val) v689 c0 c1 v692
  sl_exec (disch := exact he)

  iapply Hk
  isplitl [H2]; · iexact H2
  isplitl [H12]; · iexact H12
  isplitl [H15]; · iexact H15
  iexact H16

end Cert.Proof.Kernel

end
-- ==== Proof.Kernel.Tail.lean ====
module

public import proofs.«01_k».proof.Proof.Kernel.Comp

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The store behind the loop, where the last row ends inside the table. -/
def lastRun (c : Dev nD) (arg12 : Memref sig .tc .vmem S1x8x3072 .f32) (harg12 : arg12.IsWhole) (f12 : Bf (F := F) c arg12) (v689 : IVec S8x128 32) (v694 : FVec F S8x128 .f32) (v696 : Elt F .i32)
    (h : PLift (k0_chk3 v696)) (h2 : k0_cond2 v696 = 1#1) :
    { W : Bf (F := F) c arg12 //
      ∀ (R : Type) (κ : Prog (TpuEff nD τ sig (Elt F) Λ₀ .tc) R) (E : Set ℕ) (Q : R → sProp 𝕄),
        iprop(pt c arg12 f12 ∗ (pt c arg12 W -∗ wp frame (wpE (defs₀ (F := F)) Variants.none c none) E κ Q))
        ⊢ wp frame (wpE (defs₀ (F := F)) Variants.none c none) E
            (ks4 (F := F) arg12 v689 v694 v696 h (R := R) κ) Q } := by
  refine ⟨?_, fun R κ E Q => ?run⟩
  case run =>
    iintro ⟨H12, Hk⟩
    unfold ks4
    sl_exec
    iapply Hk
    iexact H12

theorem lastSkip (c : Dev nD) (arg12 : Memref sig .tc .vmem S1x8x3072 .f32) (v689 : IVec S8x128 32) (v694 : FVec F S8x128 .f32) (v696 : Elt F .i32)
    (h : PLift (k0_chk3 v696)) (h2 : ¬ k0_cond2 v696 = 1#1)
    (R : Type) (κ : Prog (TpuEff nD τ sig (Elt F) Λ₀ .tc) R) (E : Set ℕ) (Q : R → sProp 𝕄) :
    wp frame (wpE (defs₀ (F := F)) Variants.none c none) E κ Q
      ⊢ wp frame (wpE (defs₀ (F := F)) Variants.none c none) E (ks4 (F := F) arg12 v689 v694 v696 h (R := R) κ) Q := by
  iintro Hk
  unfold ks4
  sl_exec
  iexact Hk

/-- The row statistics' store, at the last group. -/
def lseRun (c : Dev nD) (i : grid0.Coords) (arg13 : Memref sig .tc .vmem S1x32x128 .f32) (harg13 : arg13.IsWhole)
    (arg17 : Memref sig .tc .vmem S128x128 .f32) (harg17 : arg17.IsWhole) (arg18 : Memref sig .tc .vmem S128x128 .f32) (harg18 : arg18.IsWhole)
    (f17 : Bf (F := F) c arg17) (f18 : Bf (F := F) c arg18) (h3 : k0_cond3 i = 1#1) :
    { W : Bf (F := F) c arg13 //
      ∀ (f13 : Bf (F := F) c arg13) (R : Type) (κ : Prog (TpuEff nD τ sig (Elt F) Λ₀ .tc) R) (E : Set ℕ) (Q : R → sProp 𝕄),
        iprop(pt c arg13 f13 ∗ pt c arg17 f17 ∗ pt c arg18 f18
          ∗ (iprop(pt c arg13 W ∗ pt c arg17 f17 ∗ pt c arg18 f18) -∗ wp frame (wpE (defs₀ (F := F)) Variants.none c none) E κ Q))
        ⊢ wp frame (wpE (defs₀ (F := F)) Variants.none c none) E
            (ks5 (F := F) i arg13 arg17 arg18 (R := R) κ) Q } := by
  refine ⟨?_, fun f13 R κ E Q => ?run⟩
  case run =>
    iintro ⟨H13, H17, H18, Hk⟩
    unfold ks5
    sl_exec!
    iapply Hk
    isplitl [H13]; · iexact H13
    isplitl [H17]; · iexact H17
    iexact H18

theorem lseSkip (c : Dev nD) (i : grid0.Coords) (arg13 : Memref sig .tc .vmem S1x32x128 .f32)
    (arg17 : Memref sig .tc .vmem S128x128 .f32) (arg18 : Memref sig .tc .vmem S128x128 .f32) (h3 : ¬ k0_cond3 i = 1#1)
    (R : Type) (κ : Prog (TpuEff nD τ sig (Elt F) Λ₀ .tc) R) (E : Set ℕ) (Q : R → sProp 𝕄) :
    wp frame (wpE (defs₀ (F := F)) Variants.none c none) E κ Q
      ⊢ wp frame (wpE (defs₀ (F := F)) Variants.none c none) E (ks5 (F := F) i arg13 arg17 arg18 (R := R) κ) Q := by
  iintro Hk
  unfold ks5
  sl_exec
  iexact Hk

end Cert.Proof.Kernel

end
-- ==== Proof.Kernel.Body.lean ====
module

public import proofs.«01_k».proof.Proof.Kernel.Pro
public import proofs.«01_k».proof.Proof.Kernel.Heads
public import proofs.«01_k».proof.Proof.Kernel.Loop
public import proofs.«01_k».proof.Proof.Kernel.Tail

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the first group's count. -/
abbrev First (i : grid0.Coords) : Prop :=
  Scalar.cmpi .ne (Scalar.extui (Scalar.cmpi .eq (BitVec.ofNat 32 (i 1).val) 0#32)) 0#32 = 1#1

open Classical in
/-- The bias and the table of column indices that the heads of a point read. -/
def proF (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (f4 : Bf (F := F) c arg4) (f5 : Bf (F := F) c arg5)
    (f14 : Bf (F := F) c arg14) (f15 : Bf (F := F) c arg15) : Bf (F := F) c arg14 × Bf (F := F) c arg15 :=
  if h : First i then (proRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 h).val else (f14, f15)

open Classical in
/-- The scores block that a point leaves. -/
def scF (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (v689 : IVec S8x128 32) (v692 : FVec F S8x128 .f32) (c0 c1 : BitVec 32)
    (f2 : Bf (F := F) c arg2) (f15 : Bf (F := F) c arg15) (f16 : Bf (F := F) c arg16) (f12 : Bf (F := F) c arg12) : Bf (F := F) c arg12 :=
  let s := compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)
  if h : EndChk c i arg2 f2 ∧ k0_cond2 (wd c arg2 f2 (k0_off8 i) (k0_off8_inb i)) = 1#1 then
    (lastRun c arg12 harg12 s.2 v689 s.1 (wd c arg2 f2 (k0_off8 i) (k0_off8_inb i)) ⟨h.1⟩ h.2).val
  else s.2

open Classical in
/-- The row statistics' block that a point leaves. -/
def lseF (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f13 : Bf (F := F) c arg13) (f17 : Bf (F := F) c arg17) (f18 : Bf (F := F) c arg18) : Bf (F := F) c arg13 :=
  if h : k0_cond3 i = 1#1 then (lseRun c i arg13 harg13 arg17 harg17 arg18 harg18 f17 f18 h).val else f13

theorem scSpec (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (v689 : IVec S8x128 32) (v692 : FVec F S8x128 .f32) (c0 c1 : BitVec 32)
    (f2 : Bf (F := F) c arg2) (f15 : Bf (F := F) c arg15) (f16 : Bf (F := F) c arg16) (f12 : Bf (F := F) c arg12) (he : EndChk c i arg2 f2)
    (R : Type) (κ : Prog (TpuEff nD τ sig (Elt F) Λ₀ .tc) R) (E : Set ℕ) (Q : R → sProp 𝕄) :
    iprop(pt c arg12 (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)).2
      ∗ (pt c arg12 (scF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v689 v692 c0 c1 f2 f15 f16 f12) -∗ wp frame (wpE (defs₀ (F := F)) Variants.none c none) E κ Q))
    ⊢ wp frame (wpE (defs₀ (F := F)) Variants.none c none) E
        (ks4 (F := F) arg12 v689 (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)).1
          (wd c arg2 f2 (k0_off8 i) (k0_off8_inb i)) ⟨he⟩ (R := R) κ) Q := by
  unfold scF
  generalize compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st) = s
  by_cases h : k0_cond2 (wd c arg2 f2 (k0_off8 i) (k0_off8_inb i)) = 1#1
  · dsimp only
    rw [dif_pos ⟨he, h⟩]
    exact (lastRun c arg12 harg12 s.2 v689 s.1 _ ⟨he⟩ h).property R κ E Q
  · dsimp only
    rw [dif_neg (fun hh => h hh.2)]
    refine .trans ?_ (lastSkip c arg12 v689 s.1 _ ⟨he⟩ h R κ E Q)
    iintro ⟨H, Hk⟩
    iapply Hk
    iexact H

theorem lseSpec (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f13 : Bf (F := F) c arg13) (f17 : Bf (F := F) c arg17) (f18 : Bf (F := F) c arg18)
    (R : Type) (κ : Prog (TpuEff nD τ sig (Elt F) Λ₀ .tc) R) (E : Set ℕ) (Q : R → sProp 𝕄) :
    iprop(pt c arg13 f13 ∗ pt c arg17 f17 ∗ pt c arg18 f18
      ∗ (iprop(pt c arg13 (lseF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f13 f17 f18) ∗ pt c arg17 f17 ∗ pt c arg18 f18) -∗ wp frame (wpE (defs₀ (F := F)) Variants.none c none) E κ Q))
    ⊢ wp frame (wpE (defs₀ (F := F)) Variants.none c none) E (ks5 (F := F) i arg13 arg17 arg18 (R := R) κ) Q := by
  unfold lseF
  by_cases h : k0_cond3 i = 1#1
  · rw [dif_pos h]
    exact (lseRun c i arg13 harg13 arg17 harg17 arg18 harg18 f17 f18 h).property f13 R κ E Q
  · rw [dif_neg h]
    refine .trans ?_ (lseSkip c i arg13 arg17 arg18 h R κ E Q)
    iintro ⟨H13, H17, H18, Hk⟩
    iapply Hk
    isplitl [H13]; · iexact H13
    isplitl [H17]; · iexact H17
    iexact H18

section
variable (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (f10 : Bf (F := F) c arg10) (f13 : Bf (F := F) c arg13) (f14 : Bf (F := F) c arg14)
    (f15 : Bf (F := F) c arg15) (f17 : Bf (F := F) c arg17) (f18 : Bf (F := F) c arg18)

/-- What the heads of a point leave, from what the point started with. -/
def hdF : HeadsW F c arg11 arg12 arg16 arg17 arg18 :=
  (headsRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f6 f7 f8 f9 f10 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).1 f17 f18).val

/-- The scores block of a point, from what the point started with. -/
def scG : Bf (F := F) c arg12 :=
  scF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).2.1
    (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).2.2.1 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).2.2.2.1
    (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).2.2.2.2 f2 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).2
    (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.1 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.1

/-- The row statistics' block of a point, from what the point started with. -/
def lseG : Bf (F := F) c arg13 :=
  lseF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f13 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.2.1
    (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.2.2

/-- The body at one grid point: from the blocks and the scratch buffers to what the definitions above name. -/
theorem bodyRun (f11 : Bf (F := F) c arg11) (f12 : Bf (F := F) c arg12) (f16 : Bf (F := F) c arg16)
    (hc : Chk c i arg2 f2) (he : EndChk c i arg2 f2) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9
      ∗ pt c arg10 f10 ∗ pt c arg11 f11 ∗ pt c arg12 f12 ∗ pt c arg13 f13 ∗ pt c arg14 f14 ∗ pt c arg15 f15 ∗ pt c arg16 f16
      ∗ pt c arg17 f17 ∗ pt c arg18 f18
      ∗ (iprop(pt c arg2 f2 ∗ pt c arg3 f3 ∗ pt c arg4 f4 ∗ pt c arg5 f5 ∗ pt c arg6 f6 ∗ pt c arg7 f7 ∗ pt c arg8 f8 ∗ pt c arg9 f9
          ∗ pt c arg10 f10 ∗ pt c arg11 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.1
          ∗ pt c arg12 (scG c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f2 f3 f4 f5 f6 f7 f8 f9 f10 f14 f15 f17 f18)
          ∗ pt c arg13 (lseG c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f13 f14 f15 f17 f18)
          ∗ pt c arg14 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).1 ∗ pt c arg15 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).2
          ∗ (∃ f, pt c arg16 f)
          ∗ pt c arg17 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.2.1
          ∗ pt c arg18 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.2.2) -∗ Q ⟨⟩))
    ⊢ wp frame (wpE (defs₀ (F := F)) Variants.none c none) Set.univ (cc0_csr_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  rw [kb.eq, ks1.eq]
  have hpro : ∀ (R : Type) (κ : Prog (TpuEff nD τ sig (Elt F) Λ₀ .tc) R) (Q : R → sProp 𝕄),
      iprop(pt c arg4 f4 ∗ pt c arg5 f5 ∗ pt c arg14 f14 ∗ pt c arg15 f15
          ∗ (iprop(pt c arg4 f4 ∗ pt c arg5 f5 ∗ pt c arg14 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).1 ∗ pt c arg15 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).2)
              -∗ wp frame (wpE (defs₀ (F := F)) Variants.none c none) Set.univ κ Q))
        ⊢ wp frame (wpE (defs₀ (F := F)) Variants.none c none) Set.univ
            (ks1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (R := R) κ) Q := by
    intro R κ Q
    by_cases h : First i
    · rw [proF, dif_pos h]
      exact (proRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 h).property f14 f15 R κ Set.univ Q
    · rw [proF, dif_neg h]
      refine .trans ?_ (proSkip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h R κ Set.univ Q)
      iintro ⟨H4, H5, H14, H15, Hk⟩
      iapply Hk
      isplitl [H4]; · iexact H4
      isplitl [H5]; · iexact H5
      isplitl [H14]; · iexact H14
      iexact H15
  iintro ⟨H2, H3, H4, H5, H6, H7, H8, H9, H10, H11, H12, H13, H14, H15, H16, H17, H18, Hk⟩
  iapply (hpro _ _ _)
  isplitl [H4]; · iexact H4
  isplitl [H5]; · iexact H5
  isplitl [H14]; · iexact H14
  isplitl [H15]; · iexact H15
  iintro ⟨H4, H5, H14, H15⟩
  rw [ks2.eq]
  iapply ((headsRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f6 f7 f8 f9 f10 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).1 f17 f18).property f11 f12 f16 _ _ _ _)
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H16]; · iexact H16
  isplitl [H17]; · iexact H17
  isplitl [H18]; · iexact H18
  iintro ⟨H3, H6, H7, H8, H9, H10, H11, H12, H14, H16, H17, H18⟩
  rw [ks3.eq]
  iapply (loopRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ f2 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).2 _ _ hc he _ _ _)
  isplitl [H2]; · iexact H2
  isplitl [H12]; · iexact H12
  isplitl [H15]; · iexact H15
  isplitl [H16]; · iexact H16
  iintro ⟨H2, H12, H15, H16⟩
  rw [ks4.eq]
  iapply (scSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ f2 _ _ _ he _ _ _ _)
  isplitl [H12]; · iexact H12
  iintro H12
  rw [ks5.eq]
  iapply (lseSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f13 _ _ _ _ _ _)
  isplitl [H13]; · iexact H13
  isplitl [H17]; · iexact H17
  isplitl [H18]; · iexact H18
  iintro ⟨H13, H17, H18⟩
  unfold ks5.tail
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  iexact H18
end

end Cert.Proof.Kernel

end
-- ==== Proof.Kernel.Dats.lean ====
module

public import proofs.«01_k».proof.Proof.Kernel.Body
public import proofs.«01_k».proof.Proof.Gen.Kernel.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligationLoose)

omit [FloatOps F] in
/-- A whole memref owned at `X` is held at the contents that read `X`, and back. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  have hu : M.view.read (Elt F) (h.unread X) = X := h.read_unread X
  generalize h.unread X = f at hu
  subst hu
  obtain ⟨b, rfl, rfl, rfl, hm⟩ := h; cases hm
  rw [owns_whole_eq]
  iintro ⟨%g, %hg, H⟩
  have : g = f := hg
  subst this
  iexact H

omit [FloatOps F] in
theorem pt_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  obtain ⟨b, rfl, rfl, rfl, hm⟩ := h; cases hm
  rw [owns_whole_eq]
  iintro H
  iexists f
  isplitr; · ipureintro; rfl
  iexact H

omit [FloatOps F] in
theorem pt_owns_unread (c : Dev nD) {sp : Space} {S : Shape} {e : EltTy} (M : Memref sig .tc sp S e) (h : M.IsWhole) (X : S.Idx → Elt F e) :
    pt c M (h.unread X) ⊢ (owns (c : Thread nD τ) M fullShare X : sProp 𝕄) := by
  have := pt_owns c M h (h.unread X)
  rwa [h.read_unread X] at this

section
variable (m : (ℓ : Loc nD τ sig) → Buf (Elt F) ℓ) (c : Dev nD)

/-- Window 0's staging buffer at point `t`, the window's block in it. -/
def un0 (t : Fin cfg0.N) : Bf (F := F) c (win0_0.stage (cfg0.slots t 0)) :=
  (hstage0_0 ((cfg0.slots t 0).cast nbuf0_0)).unread (iblk m c 0 t)

/-- Window 1's staging buffer at point `t`, the window's block in it. -/
def un1 (t : Fin cfg0.N) : Bf (F := F) c (win0_1.stage (cfg0.slots t 1)) :=
  (hstage0_1 ((cfg0.slots t 1).cast nbuf0_1)).unread (iblk m c 1 t)

/-- Window 2's staging buffer at point `t`, the window's block in it. -/
def un2 (t : Fin cfg0.N) : Bf (F := F) c (win0_2.stage (cfg0.slots t 2)) :=
  (hstage0_2 ((cfg0.slots t 2).cast nbuf0_2)).unread (iblk m c 2 t)

/-- Window 3's staging buffer at point `t`, the window's block in it. -/
def un3 (t : Fin cfg0.N) : Bf (F := F) c (win0_3.stage (cfg0.slots t 3)) :=
  (hstage0_3 ((cfg0.slots t 3).cast nbuf0_3)).unread (iblk m c 3 t)

/-- Window 4's staging buffer at point `t`, the window's block in it. -/
def un4 (t : Fin cfg0.N) : Bf (F := F) c (win0_4.stage (cfg0.slots t 4)) :=
  (hstage0_4 ((cfg0.slots t 4).cast nbuf0_4)).unread (iblk m c 4 t)

/-- Window 5's staging buffer at point `t`, the window's block in it. -/
def un5 (t : Fin cfg0.N) : Bf (F := F) c (win0_5.stage (cfg0.slots t 5)) :=
  (hstage0_5 ((cfg0.slots t 5).cast nbuf0_5)).unread (iblk m c 5 t)

/-- Window 6's staging buffer at point `t`, the window's block in it. -/
def un6 (t : Fin cfg0.N) : Bf (F := F) c (win0_6.stage (cfg0.slots t 6)) :=
  (hstage0_6 ((cfg0.slots t 6).cast nbuf0_6)).unread (iblk m c 6 t)

/-- Window 7's staging buffer at point `t`, the window's block in it. -/
def un7 (t : Fin cfg0.N) : Bf (F := F) c (win0_7.stage (cfg0.slots t 7)) :=
  (hstage0_7 ((cfg0.slots t 7).cast nbuf0_7)).unread (iblk m c 7 t)

/-- Window 8's staging buffer at point `t`, the window's block in it. -/
def un8 (t : Fin cfg0.N) : Bf (F := F) c (win0_8.stage (cfg0.slots t 8)) :=
  (hstage0_8 ((cfg0.slots t 8).cast nbuf0_8)).unread (iblk m c 8 t)

/-- The first point of the batch of point `t`. -/
def fst0 (t : Fin cfg0.N) : Fin cfg0.N := ⟨t.val - t.val % 4, lt_of_le_of_lt (Nat.sub_le _ _) t.isLt⟩

/-- What the count of the edges leaves when made at point `t`. -/
def proAt (t : Fin cfg0.N) : Bf (F := F) c (Memref.whole cc0_scratch0) × Bf (F := F) c (Memref.whole cc0_scratch1) :=
  proF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un2 m c t) (un3 m c t) (Memref.whole cc0_scratch0).view.junk (Memref.whole cc0_scratch1).view.junk

/-- The bias of the batch of point `t`. -/
def biasAt (t : Fin cfg0.N) : Bf (F := F) c (Memref.whole cc0_scratch0) := (proAt m c (fst0 t)).1

/-- The output block's buffer after point `t`. -/
def outB (t : Fin cfg0.N) : Bf (F := F) c (win0_9.stage (cfg0.slots t 9)) :=
  (win0_9.stage (cfg0.slots t 9)).view.writes (Elt F) (win0_9.stage (cfg0.slots t 9)).view.junk
    (headsRun.sl.H11_16 c (grid0.coords t) (win0_1.stage (cfg0.slots t 1)) (win0_4.stage (cfg0.slots t 4)) (win0_5.stage (cfg0.slots t 5)) (win0_6.stage (cfg0.slots t 6)) (win0_7.stage (cfg0.slots t 7)) (win0_8.stage (cfg0.slots t 8)) (Memref.whole cc0_scratch0) (un1 m c t) (un4 m c t) (un5 m c t) (un6 m c t) (un7 m c t) (un8 m c t) (biasAt m c t))

/-- The scratch buffers between the points: within a batch the first one holds the batch's bias. -/
def PhiS (k : ℕ) : sProp 𝕄 :=
  iprop(∃ f14 f15 f16 f17 f18, ⌜k % 4 ≠ 0 → ∀ t : Fin cfg0.N, t.val + 1 = k → f14 = biasAt m c t⌝
    ∗ pt c (Memref.whole cc0_scratch0) f14 ∗ pt c (Memref.whole cc0_scratch1) f15 ∗ pt c (Memref.whole cc0_scratch2) f16
    ∗ pt c (Memref.whole cc0_scratch3) f17 ∗ pt c (Memref.whole cc0_scratch4) f18 ∗ ∃ r, prngReg c r)
end

section
variable (m : (ℓ : Loc nD τ sig) → Buf (Elt F) ℓ)

/-- The pipeline's proof data: the inputs' blocks stay in place, the output block is what the heads leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (win0_9.stage (cfg0.slots t 9)).view.read (Elt F) (outB m c t)
    | ⟨10, _⟩ => fun _ => Classical.arbitrary _
    | ⟨11, _⟩ => fun _ => Classical.arbitrary _
  Φ k := PhiS m c k.val
  q w := Pipeline.shareOf spec0 w
  owed _ := 0

/-- The windows whose contents are not stated: the scores and the row statistics. -/
def fgt (w : Fin 12) : Bool := match w with
  | ⟨10, _⟩ => true
  | ⟨11, _⟩ => true
  | _ => false

theorem bef0 (c : Dev nD) (t : Fin cfg0.N) (d) : (dats m 0 c).before 0 t d = iblk m c 0 t := before0_0_of m (dats m 0 c) rfl (fun _ => rfl) t d
theorem bef1 (c : Dev nD) (t : Fin cfg0.N) (d) : (dats m 0 c).before 1 t d = iblk m c 1 t := before0_1_of m (dats m 0 c) rfl (fun _ => rfl) t d
theorem bef2 (c : Dev nD) (t : Fin cfg0.N) (d) : (dats m 0 c).before 2 t d = iblk m c 2 t := before0_2_of m (dats m 0 c) rfl (fun _ => rfl) t d
theorem bef3 (c : Dev nD) (t : Fin cfg0.N) (d) : (dats m 0 c).before 3 t d = iblk m c 3 t := before0_3_of m (dats m 0 c) rfl (fun _ => rfl) t d
theorem bef4 (c : Dev nD) (t : Fin cfg0.N) (d) : (dats m 0 c).before 4 t d = iblk m c 4 t := before0_4_of m (dats m 0 c) rfl (fun _ => rfl) t d
theorem bef5 (c : Dev nD) (t : Fin cfg0.N) (d) : (dats m 0 c).before 5 t d = iblk m c 5 t := before0_5_of m (dats m 0 c) rfl (fun _ => rfl) t d
theorem bef6 (c : Dev nD) (t : Fin cfg0.N) (d) : (dats m 0 c).before 6 t d = iblk m c 6 t := before0_6_of m (dats m 0 c) rfl (fun _ => rfl) t d
theorem bef7 (c : Dev nD) (t : Fin cfg0.N) (d) : (dats m 0 c).before 7 t d = iblk m c 7 t := before0_7_of m (dats m 0 c) rfl (fun _ => rfl) t d
theorem bef8 (c : Dev nD) (t : Fin cfg0.N) (d) : (dats m 0 c).before 8 t d = iblk m c 8 t := before0_8_of m (dats m 0 c) rfl (fun _ => rfl) t d

theorem first_iff : ∀ t : Fin grid0.N, First (grid0.coords t) ↔ t.val % 4 = 0 := by decide

theorem bias_step (c : Dev nD) (t : Fin cfg0.N) (f14 : Bf (F := F) c (Memref.whole cc0_scratch0)) (f15 : Bf (F := F) c (Memref.whole cc0_scratch1))
    (h : t.val % 4 ≠ 0 → ∀ s : Fin cfg0.N, s.val + 1 = t.val → f14 = biasAt m c s) :
    (proF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un2 m c t) (un3 m c t) f14 f15).1 = biasAt m c t := by
  by_cases ht : First (grid0.coords t)
  · have h0 : fst0 t = t := Fin.ext (by have := (first_iff t).mp ht; show t.val - t.val % 4 = t.val; omega)
    unfold biasAt proAt
    rw [h0]
    unfold proF
    rw [dif_pos ht, dif_pos ht]
  · have h1 : t.val % 4 ≠ 0 := fun e => ht ((first_iff t).mpr e)
    have hlt : t.val - 1 < cfg0.N := lt_of_le_of_lt (Nat.sub_le _ _) t.isLt
    have h2 := h h1 ⟨t.val - 1, hlt⟩ (by show t.val - 1 + 1 = t.val; omega)
    unfold proF
    rw [dif_neg ht]
    show f14 = _
    rw [h2]
    unfold biasAt
    congr 2
    apply Fin.ext
    show (t.val - 1) - (t.val - 1) % 4 = t.val - t.val % 4
    omega

/-- What the heads leave in the output block. -/
theorem heads_out (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f3 : Bf (F := F) c arg3) (f6 : Bf (F := F) c arg6) (f7 : Bf (F := F) c arg7) (f8 : Bf (F := F) c arg8) (f9 : Bf (F := F) c arg9)
    (f10 : Bf (F := F) c arg10) (f14 : Bf (F := F) c arg14) (f17 : Bf (F := F) c arg17) (f18 : Bf (F := F) c arg18) :
    (headsRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f6 f7 f8 f9 f10 f14 f17 f18).val.1.1
      = arg11.view.writes (Elt F) arg11.view.junk (headsRun.sl.H11_16 c i arg3 arg6 arg7 arg8 arg9 arg10 arg14 f3 f6 f7 f8 f9 f10 f14) := rfl

theorem out_step (c : Dev nD) (t : Fin cfg0.N) (f14 : Bf (F := F) c (Memref.whole cc0_scratch0)) (f15 : Bf (F := F) c (Memref.whole cc0_scratch1))
    (f17 : Bf (F := F) c (Memref.whole cc0_scratch3)) (f18 : Bf (F := F) c (Memref.whole cc0_scratch4))
    (h : (proF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un2 m c t) (un3 m c t) f14 f15).1 = biasAt m c t) :
    (hdF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un1 m c t) (un2 m c t) (un3 m c t) (un4 m c t) (un5 m c t) (un6 m c t) (un7 m c t) (un8 m c t) f14 f15 f17 f18).1.1 = outB m c t := by
  unfold hdF outB
  rw [heads_out, h]

/-- The words that the compaction reads are in range at every point. -/
def AllChk : Prop := ∀ (c : Dev nD) (t : Fin cfg0.N),
  Chk c (grid0.coords t) (win0_0.stage (cfg0.slots t 0)) (un0 m c t) ∧ EndChk c (grid0.coords t) (win0_0.stage (cfg0.slots t 0)) (un0 m c t)

variable (hchk : AllChk m)
include hchk

set_option maxHeartbeats 4000000 in
theorem body_obligation (c : Dev nD) : BodyObligationLoose (dats m 0 c) (defs₀ (F := F)) Variants.none () Set.univ fgt := fun t => by
  rw [bigSep_W0, bigSep_W0]
  show iprop(PhiS m c t.val ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d))
      ∗ (∃ X, owns (c : Thread nD τ) (win0_10.stage (cfg0.slots t 10)) fullShare X)
      ∗ (∃ X, owns (c : Thread nD τ) (win0_11.stage (cfg0.slots t 11)) fullShare X))
    ⊢ wp frame (wpE (defs₀ (F := F)) Variants.none c none) Set.univ (bodyAt0 t) (fun _ =>
      iprop(PhiS m c (t.val + 1) ∗ (dats m 0 c).owesAt () t.castSucc
      ∗ owns (c : Thread nD τ) (win0_0.stage (cfg0.slots t 0)) fullShare (iblk m c 0 t)
      ∗ owns (c : Thread nD τ) (win0_1.stage (cfg0.slots t 1)) fullShare (iblk m c 1 t)
      ∗ owns (c : Thread nD τ) (win0_2.stage (cfg0.slots t 2)) fullShare (iblk m c 2 t)
      ∗ owns (c : Thread nD τ) (win0_3.stage (cfg0.slots t 3)) fullShare (iblk m c 3 t)
      ∗ owns (c : Thread nD τ) (win0_4.stage (cfg0.slots t 4)) fullShare (iblk m c 4 t)
      ∗ owns (c : Thread nD τ) (win0_5.stage (cfg0.slots t 5)) fullShare (iblk m c 5 t)
      ∗ owns (c : Thread nD τ) (win0_6.stage (cfg0.slots t 6)) fullShare (iblk m c 6 t)
      ∗ owns (c : Thread nD τ) (win0_7.stage (cfg0.slots t 7)) fullShare (iblk m c 7 t)
      ∗ owns (c : Thread nD τ) (win0_8.stage (cfg0.slots t 8)) fullShare (iblk m c 8 t)
      ∗ owns (c : Thread nD τ) (win0_9.stage (cfg0.slots t 9)) fullShare ((win0_9.stage (cfg0.slots t 9)).view.read (Elt F) (outB m c t))
      ∗ (∃ X, owns (c : Thread nD τ) (win0_10.stage (cfg0.slots t 10)) fullShare X)
      ∗ (∃ X, owns (c : Thread nD τ) (win0_11.stage (cfg0.slots t 11)) fullShare X)))
  unfold PhiS
  iintro ⟨⟨%f14, %f15, %f16, %f17, %f18, %hb, H14, H15, H16, H17, H18, Hg⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X10, H10⟩, ⟨%X11, H11⟩⟩
  rw [bef0 m c t]
  rw [bef1 m c t]
  rw [bef2 m c t]
  rw [bef3 m c t]
  rw [bef4 m c t]
  rw [bef5 m c t]
  rw [bef6 m c t]
  rw [bef7 m c t]
  rw [bef8 m c t]
  ihave H0 := (owns_pt c (win0_0.stage (cfg0.slots t 0)) (hstage0_0 ((cfg0.slots t 0).cast nbuf0_0)) _) $$ H0
  ihave H1 := (owns_pt c (win0_1.stage (cfg0.slots t 1)) (hstage0_1 ((cfg0.slots t 1).cast nbuf0_1)) _) $$ H1
  ihave H2 := (owns_pt c (win0_2.stage (cfg0.slots t 2)) (hstage0_2 ((cfg0.slots t 2).cast nbuf0_2)) _) $$ H2
  ihave H3 := (owns_pt c (win0_3.stage (cfg0.slots t 3)) (hstage0_3 ((cfg0.slots t 3).cast nbuf0_3)) _) $$ H3
  ihave H4 := (owns_pt c (win0_4.stage (cfg0.slots t 4)) (hstage0_4 ((cfg0.slots t 4).cast nbuf0_4)) _) $$ H4
  ihave H5 := (owns_pt c (win0_5.stage (cfg0.slots t 5)) (hstage0_5 ((cfg0.slots t 5).cast nbuf0_5)) _) $$ H5
  ihave H6 := (owns_pt c (win0_6.stage (cfg0.slots t 6)) (hstage0_6 ((cfg0.slots t 6).cast nbuf0_6)) _) $$ H6
  ihave H7 := (owns_pt c (win0_7.stage (cfg0.slots t 7)) (hstage0_7 ((cfg0.slots t 7).cast nbuf0_7)) _) $$ H7
  ihave H8 := (owns_pt c (win0_8.stage (cfg0.slots t 8)) (hstage0_8 ((cfg0.slots t 8).cast nbuf0_8)) _) $$ H8
  ihave H9 := (owns_pt c (win0_9.stage (cfg0.slots t 9)) (hstage0_9 ((cfg0.slots t 9).cast nbuf0_9)) _) $$ H9
  ihave H10 := (owns_pt c (win0_10.stage (cfg0.slots t 10)) (hstage0_10 ((cfg0.slots t 10).cast nbuf0_10)) _) $$ H10
  ihave H11 := (owns_pt c (win0_11.stage (cfg0.slots t 11)) (hstage0_11 ((cfg0.slots t 11).cast nbuf0_11)) _) $$ H11
  have hb' := bias_step m c t f14 f15 hb
  iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un0 m c t) (un1 m c t) (un2 m c t) (un3 m c t) (un4 m c t) (un5 m c t) (un6 m c t) (un7 m c t) (un8 m c t) _ f14 f15 f17 f18 _ _ f16 (hchk c t).1 (hchk c t).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H15]; · iexact H15
  isplitl [H16]; · iexact H16
  isplitl [H17]; · iexact H17
  isplitl [H18]; · iexact H18
  iintro ⟨H0, H1, H2, H3, H4, H5, H6, H7, H8, H9, H10, H11, H14, H15, ⟨%g16, H16⟩, H17, H18⟩
  rw [out_step m c t f14 f15 f17 f18 hb', hb']
  isplitl [H14 H15 H16 H17 H18 Hg]
  · iexists _, _, _, _, _
    isplitr
    · ipureintro
      intro _ s hs
      have : s = t := Fin.ext (by omega)
      subst this
      rfl
    isplitl [H14]; · iexact H14
    isplitl [H15]; · iexact H15
    isplitl [H16]; · iexact H16
    isplitl [H17]; · iexact H17
    isplitl [H18]; · iexact H18
    iexact Hg
  isplitl [Howes]; · iexact Howes
  isplitl [H0]; · iapply (pt_owns_unread c _ (hstage0_0 ((cfg0.slots t 0).cast nbuf0_0)) _); iexact H0
  isplitl [H1]; · iapply (pt_owns_unread c _ (hstage0_1 ((cfg0.slots t 1).cast nbuf0_1)) _); iexact H1
  isplitl [H2]; · iapply (pt_owns_unread c _ (hstage0_2 ((cfg0.slots t 2).cast nbuf0_2)) _); iexact H2
  isplitl [H3]; · iapply (pt_owns_unread c _ (hstage0_3 ((cfg0.slots t 3).cast nbuf0_3)) _); iexact H3
  isplitl [H4]; · iapply (pt_owns_unread c _ (hstage0_4 ((cfg0.slots t 4).cast nbuf0_4)) _); iexact H4
  isplitl [H5]; · iapply (pt_owns_unread c _ (hstage0_5 ((cfg0.slots t 5).cast nbuf0_5)) _); iexact H5
  isplitl [H6]; · iapply (pt_owns_unread c _ (hstage0_6 ((cfg0.slots t 6).cast nbuf0_6)) _); iexact H6
  isplitl [H7]; · iapply (pt_owns_unread c _ (hstage0_7 ((cfg0.slots t 7).cast nbuf0_7)) _); iexact H7
  isplitl [H8]; · iapply (pt_owns_unread c _ (hstage0_8 ((cfg0.slots t 8).cast nbuf0_8)) _); iexact H8
  isplitl [H9]; · iapply (pt_owns c _ (hstage0_9 ((cfg0.slots t 9).cast nbuf0_9)) _); iexact H9
  isplitl [H10]; · iexists _; iapply (pt_owns c _ (hstage0_10 ((cfg0.slots t 10).cast nbuf0_10)) _); iexact H10
  iexists _; iapply (pt_owns c _ (hstage0_11 ((cfg0.slots t 11).cast nbuf0_11)) _); iexact H11
end

end Cert.Proof.Kernel

end
-- ==== Proof.Kernel.Words.lean ====
module

public import proofs.«01_k».proof.Proof.Kernel.Loop
public import Idealize.ShloMosaic.Lib.Routing.Words

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The quotient by 128 as the kernel computes it, of a word that is not negative. -/
theorem fd128 (n : ℕ) (hn : n < 2 ^ 31) :
    Scalar.select (Scalar.andi (Scalar.cmpi .ne
        (Scalar.subi (Scalar.extui (Scalar.cmpi .sgt (BitVec.ofNat 32 n) 0#32)) (Scalar.extui (Scalar.cmpi .slt (BitVec.ofNat 32 n) 0#32)))
        (Scalar.subi (Scalar.extui (Scalar.cmpi .sgt 128#32 0#32)) (Scalar.extui (Scalar.cmpi .slt 128#32 0#32))))
      (Scalar.cmpi .ne (Scalar.remsi (BitVec.ofNat 32 n) 128#32) 0#32))
      (Scalar.subi (Scalar.divsi (BitVec.ofNat 32 n) 128#32) 1#32) (Scalar.divsi (BitVec.ofNat 32 n) 128#32)
      = BitVec.ofNat 32 (n / 128) := by
  have hd : Scalar.divsi (BitVec.ofNat 32 n) 128#32 = BitVec.ofNat 32 (n / 128) := Routing.divsi_word .scalar hn (by omega) (by omega)
  have hr : Scalar.remsi (BitVec.ofNat 32 n) 128#32 = BitVec.ofNat 32 (n % 128) := Routing.remsi_word .scalar hn (by omega) (by omega)
  rw [hd, hr]
  rcases Nat.eq_zero_or_pos n with rfl | h
  · decide
  · have h1 : Scalar.cmpi .sgt (BitVec.ofNat 32 n) 0#32 = 1#1 := by
      show BitVec.ofBool _ = _
      rw [show ((0#32).slt (BitVec.ofNat 32 n)) = true from by
        rw [BitVec.slt_eq_decide]; simp only [decide_eq_true_eq]
        rw [BitVec.toInt_eq_toNat_of_lt (x := BitVec.ofNat 32 n) (by rw [BitVec.toNat_ofNat]; omega), BitVec.toNat_ofNat]
        simp; omega]
      rfl
    have h2 : Scalar.cmpi .slt (BitVec.ofNat 32 n) 0#32 = 0#1 := by
      show BitVec.ofBool _ = _
      rw [show ((BitVec.ofNat 32 n).slt 0#32) = false from by
        rw [BitVec.slt_eq_decide]; simp only [decide_eq_false_iff_not]
        rw [BitVec.toInt_eq_toNat_of_lt (x := BitVec.ofNat 32 n) (by rw [BitVec.toNat_ofNat]; omega), BitVec.toNat_ofNat]
        simp; omega]
      rfl
    rw [h1, h2]
    rw [show Scalar.cmpi .ne (Scalar.subi (Scalar.extui 1#1) (Scalar.extui 0#1))
        (Scalar.subi (Scalar.extui (Scalar.cmpi .sgt 128#32 0#32)) (Scalar.extui (Scalar.cmpi .slt 128#32 0#32))) = 0#1 from by decide]
    rw [show ∀ b : BitVec 1, Scalar.andi 0#1 b = 0#1 from by decide]
    rfl

theorem slt_ofNat (a b : ℕ) (ha : a < 2 ^ 31) (hb : b < 2 ^ 31) : (BitVec.ofNat 32 a).slt (BitVec.ofNat 32 b) = decide (a < b) := by
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem chk1_dec : ∀ q : Fin 24, (8 ∣ (Scalar.muli (BitVec.ofNat 32 q.val) 8#32).toNat)
    ∧ (∀ a : Fin 2, (![(Scalar.indexCast (Scalar.muli (BitVec.ofNat 32 q.val) 8#32)).toNat, 0] : Fin 2 → ℕ) a + S8x128.size a ≤ S192x128.size a)
    ∧ (128 ∣ (Scalar.muli (BitVec.ofNat 32 q.val) 128#32).toNat)
    ∧ (∀ a : Fin 3, (![0, 0, (Scalar.indexCast (Scalar.muli (BitVec.ofNat 32 q.val) 128#32)).toNat] : Fin 3 → ℕ) a + S1x8x128.size a ≤ S1x8x3072.size a) := by
  decide

/-- The checks of a row's first entry hold below the array's length. -/
theorem chk1_of (n : ℕ) (hn : n < 3072) : k0_chk1 (BitVec.ofNat 32 n) := by
  unfold k0_chk1 k0_mult1 k0_off4 k0_mult4 k0_off7
  dsimp only
  rw [fd128 n (by omega)]
  exact chk1_dec ⟨n / 128, by omega⟩

/-- The checks of a row's end hold of every word that is not negative. -/
theorem chk2_of (n : ℕ) (hn : n < 2 ^ 31) : k0_chk2 (BitVec.ofNat 32 n) := by
  unfold k0_chk2 k0_mult2 k0_off5
  dsimp only
  rw [fd128 n hn]
  have hm : Scalar.minsi (BitVec.ofNat 32 (n / 128)) 23#32 = BitVec.ofNat 32 (min (n / 128) 23) := by
    show (if _ then _ else _) = _
    rw [slt_ofNat (n / 128) 23 (by omega) (by omega)]
    by_cases h : n / 128 < 23
    · rw [if_pos (by simpa using h), min_eq_left (by omega)]
    · rw [if_neg (by simpa using h), min_eq_right (by omega)]
  rw [hm]
  have := chk1_dec ⟨min (n / 128) 23, by omega⟩
  exact ⟨this.1, this.2.1⟩

theorem cond2_lt (n : ℕ) (hn : n < 2 ^ 31) (h : k0_cond2 (BitVec.ofNat 32 n) = 1#1) : n / 128 < 24 := by
  unfold k0_cond2 at h
  dsimp only at h
  rw [fd128 n hn] at h
  by_contra hc
  have : Scalar.cmpi .sle (BitVec.ofNat 32 (n / 128)) 23#32 = 0#1 := by
    show BitVec.ofBool _ = _
    rw [show (BitVec.ofNat 32 (n / 128)).sle 23#32 = false from by
      rw [BitVec.sle_eq_not_slt, slt_ofNat 23 (n / 128) (by omega) (by omega)]
      simp; omega]
    rfl
  rw [this] at h
  exact absurd h (by decide)

/-- The checks of the last row's end hold of every word that is not negative. -/
theorem chk3_of (n : ℕ) (hn : n < 2 ^ 31) : k0_chk3 (BitVec.ofNat 32 n) := by
  unfold k0_chk3
  have key : k0_cond2 (BitVec.ofNat 32 n) = 1#1 → (128 ∣ (k0_mult5 (BitVec.ofNat 32 n)).toNat) ∧
      ∀ a, (k0_off9 (BitVec.ofNat 32 n)) a + S1x8x128.size a ≤ S1x8x3072.size a := by
    intro h
    have hq := cond2_lt n hn h
    unfold k0_mult5 k0_off9
    dsimp only
    rw [fd128 n hn]
    have := chk1_dec ⟨n / 128, hq⟩
    exact ⟨this.2.2.1, this.2.2.2⟩
  exact ⟨fun h => (key h).1, fun h => (key h).2⟩

end Cert.Proof.Kernel

end
-- ==== Proof.Rows.lean ====
module

public import proofs.«01_k».proof.Proof.Gen.Pre_csr
public import proofs.«01_k».proof.Pre_csr
public import Idealize.ShloMosaic.Lib.Pointwise.Reshape

@[expose] public section

noncomputable section

namespace Cert.Proof

open Cert.Pre_csr Idealize.ShloMosaic

/-- The row table's index `(b, k)`. -/
def rix (b : Fin 2) (k : Fin 129) : S2x129.Idx := fun a => match a with | 0 => b | 1 => k

/-- Reading a column of length two as a list: the entry's row is kept. -/
theorem cast21 (h : S2.numel = S2x1.numel) (x : S2.Idx) :
    Shape.reshapeEquiv h x = (fun a => match a with | 0 => x 0 | 1 => (⟨0, Nat.one_pos⟩ : Fin 1) : S2x1.Idx) := by
  refine Shape.reshapeEquiv_eq_of_rowMajor h ?_
  show (Shape.rowMajorPi _ _).val = (Shape.rowMajorPi _ _).val
  simp [Shape.rowMajorPi_succ_val, Fin.prod_univ_succ, Shape.rowMajorPi_fin0_val]

/-- What the precondition says of the row table: each batch starts at zero, does not decrease, and all but the last entry are
below the array's length. -/
structure RowOK (R : S2x129.Idx → BitVec 32) : Prop where
  zero : ∀ b, R (rix b 0) = 0#32
  mono : ∀ b (k : Fin 128), (R (rix b k.castSucc)).toInt ≤ (R (rix b k.succ)).toInt
  lt : ∀ b, (R (rix b 127)).toInt < 3072

variable {F : FTy → Type} [FloatOps F] [Facts]

theorem rowOK_of (a0 a1 a2 : FVec F S2x128x32x160 .fp8e4m3) (a3 : FVec F S2x32 .f32) (a4 a5 : FVec F S2x128x32 .f32) (a6 : IVec S2x129 32) (a7 : IVec S2x3072 32)
    (h1 : (fn (F := F) a0 a1 a2 a3 a4 a5 a6 a7).1 = fun _ => 1#1) (h2 : (fn (F := F) a0 a1 a2 a3 a4 a5 a6 a7).2.1 = fun _ => 1#1)
    (h3 : (fn (F := F) a0 a1 a2 a3 a4 a5 a6 a7).2.2.1 = fun _ => 1#1) : RowOK a6 where
  zero b := by
    have h := congrFun h1 (fun a => match a with | 0 => b)
    have h' : IntOp.cmpi .eq (a6 (rix b 0)) 0#32 = 1#1 := by
      rw [← h]
      show _ = IntOp.cmpi .eq (a6 _) 0#32
      congr 2
      funext a
      simp only [cast21]
      fin_cases b <;> fin_cases a <;> rfl
    by_contra hc
    have : IntOp.cmpi .eq (a6 (rix b 0)) 0#32 = 0#1 := by
      show BitVec.ofBool _ = _
      rw [show (a6 (rix b 0) == 0#32) = false from by simpa using hc]
      rfl
    rw [this] at h'; exact absurd h' (by decide)
  mono b k := by
    have h := congrFun h2 (fun a => match a with | 0 => b | 1 => k)
    have h' : IntOp.cmpi .sle (a6 (rix b k.castSucc)) (a6 (rix b k.succ)) = 1#1 := by
      rw [← h]
      show _ = IntOp.cmpi .sle (a6 _) (a6 _)
      congr 2
      · funext a; fin_cases a
        · apply Fin.ext; show b.val = 0 + b.val; omega
        · apply Fin.ext; show k.val = 0 + k.val; omega
      · funext a; fin_cases a
        · apply Fin.ext; show b.val = 0 + b.val; omega
        · apply Fin.ext; show k.val + 1 = 1 + k.val; omega
    by_contra hc
    have : IntOp.cmpi .sle (a6 (rix b k.castSucc)) (a6 (rix b k.succ)) = 0#1 := by
      show BitVec.ofBool _ = _
      rw [show (a6 (rix b k.castSucc)).sle (a6 (rix b k.succ)) = false from by
        rw [BitVec.sle_eq_decide]; simpa using hc]
      rfl
    rw [this] at h'; exact absurd h' (by decide)
  lt b := by
    have h := congrFun h3 (fun a => match a with | 0 => b)
    have h' : IntOp.cmpi .slt (a6 (rix b 127)) 3072#32 = 1#1 := by
      rw [← h]
      show _ = IntOp.cmpi .slt (a6 _) 3072#32
      congr 2
      funext a
      simp only [cast21]
      fin_cases b <;> fin_cases a <;> rfl
    by_contra hc
    have : IntOp.cmpi .slt (a6 (rix b 127)) 3072#32 = 0#1 := by
      show BitVec.ofBool _ = _
      rw [show (a6 (rix b 127)).slt 3072#32 = false from by
        rw [BitVec.slt_eq_decide]; simpa using hc]
      rfl
    rw [this] at h'; exact absurd h' (by decide)

/-- The table's entries as naturals. -/
theorem RowOK.nonneg {R : S2x129.Idx → BitVec 32} (h : RowOK R) (b : Fin 2) : ∀ k : Fin 129, 0 ≤ (R (rix b k)).toInt := by
  intro k
  induction k using Fin.induction with
  | zero => rw [h.zero]; decide
  | succ k ih => exact le_trans ih (h.mono b k)

theorem RowOK.le127 {R : S2x129.Idx → BitVec 32} (h : RowOK R) (b : Fin 2) (k : ℕ) (hk : k ≤ 127) :
    (R (rix b ⟨127 - k, by omega⟩)).toInt < 3072 := by
  induction k with
  | zero => exact h.lt b
  | succ k ih =>
    have := h.mono b ⟨127 - (k + 1), by omega⟩
    have e : (Fin.succ ⟨127 - (k + 1), by omega⟩ : Fin 129) = ⟨127 - k, by omega⟩ := Fin.ext (by show 127 - (k+1) + 1 = 127 - k; omega)
    rw [e] at this
    exact lt_of_le_of_lt this (ih (by omega))

/-- An entry is the word of a natural, below the array's length but for the last. -/
theorem RowOK.word {R : S2x129.Idx → BitVec 32} (h : RowOK R) (b : Fin 2) (k : Fin 129) :
    ∃ n : ℕ, n < 2 ^ 31 ∧ R (rix b k) = BitVec.ofNat 32 n ∧ (k.val ≤ 127 → n < 3072) := by
  have h0 := h.nonneg b k
  have hlt : (R (rix b k)).toNat < 2 ^ 31 := by
    by_contra hc
    have := (R (rix b k)).isLt
    rw [BitVec.toInt_eq_toNat_cond, if_neg (by omega)] at h0
    omega
  refine ⟨(R (rix b k)).toNat, hlt, by simp, fun hk => ?_⟩
  have := h.le127 b (127 - k.val) (by omega)
  have e : (⟨127 - (127 - k.val), by omega⟩ : Fin 129) = k := Fin.ext (by show 127 - (127 - k.val) = k.val; omega)
  rw [e, BitVec.toInt_eq_toNat_of_lt (by omega)] at this
  omega

end Cert.Proof

end
-- ==== Proof.Kernel.Frame.lean ====
module

public import proofs.«01_k».proof.Proof.Kernel.Dats
public import proofs.«01_k».proof.Proof.Kernel.Words
public import proofs.«01_k».proof.Proof.Rows
public import Idealize.ShloMosaic.Lib.WholeRead

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- The row table as the launch finds it. -/
abbrev rowT (c : Dev nD) : S2x129.Idx → BitVec 32 := m ((c : Thread nD τ).loc main_arg6)

/-- The row table's window is the whole table at every point. -/
theorem iblk0_eq (c : Dev nD) (t : Fin cfg0.N) (x : S2x129.Idx) : iblk m c 0 t x = rowT m c x := by
  have h : iblk m c 0 t x = V m c main_arg6 (((cfg0.win 0).blk t).view.emb x) := rfl
  rw [h, V_main_arg6]
  refine congrArg (rowT m c) ?_
  funext a
  fin_cases a
  · apply Fin.ext; exact (cfg0.win 0).rect_emb_val_of_index_zero t 0 rfl x
  · apply Fin.ext; exact (cfg0.win 0).rect_emb_val_of_index_zero t 1 rfl x

/-- A word read from the row table's staging buffer. -/
theorem wd_eq (c : Dev nD) (t : Fin cfg0.N) (off : Fin 2 → ℕ) (h : ∀ a, off a + S1x1.size a ≤ S2x129.size a) (b : Fin 2) (k : Fin 129)
    (h0 : off 0 = b.val) (h1 : off 1 = k.val) :
    wd c (win0_0.stage (cfg0.slots t 0)) (un0 m c t) off h = rowT m c (rix b k) := by
  unfold wd un0
  rw [Memref.IsWhole.readAt_unread]
  rw [iblk0_eq]
  refine congrArg (rowT m c) ?_
  funext a
  fin_cases a
  · apply Fin.ext; show off 0 + _ = b.val; rw [h0]; rfl
  · apply Fin.ext; show off 1 + _ = k.val; rw [h1]; rfl

theorem trips128 : k0_t1_loop.trips = 128 := by decide

theorem off2_val : ∀ (i : Fin 2) (k : Fin 128), (Scalar.indexCast (BitVec.ofNat 32 i.val)).toNat = i.val
    ∧ (Scalar.indexCast (Scf.iv 0#32 1#32 k.val)).toNat = k.val ∧ (Scalar.indexCast (Scalar.addi (Scf.iv 0#32 1#32 k.val) 1#32)).toNat = k.val + 1 := by
  decide +kernel

/-- A table in order satisfies every check the compaction makes. -/
theorem allChk_of (h : ∀ c, RowOK (rowT m c)) : AllChk m := fun c t => by
  have hi : (grid0.coords t 0).val < 2 := (grid0.coords t 0).isLt
  have hk : ∀ k : Fin k0_t1_loop.trips, k.val < 128 := fun k => lt_of_lt_of_eq k.isLt trips128
  have hb := (off2_val ⟨(grid0.coords t 0).val, hi⟩ ⟨0, by decide⟩).1
  have h0 := fun k : Fin k0_t1_loop.trips => (off2_val ⟨0, by decide⟩ ⟨k, hk k⟩).2.1
  have h1 := fun k : Fin k0_t1_loop.trips => (off2_val ⟨0, by decide⟩ ⟨k, hk k⟩).2.2
  refine ⟨⟨fun k => ?_, fun k => ?_⟩, ?_⟩
  · have hk' := hk k
    rw [wd_eq m c t _ _ ⟨_, hi⟩ ⟨k.val, by omega⟩ hb (h0 k)]
    obtain ⟨n, _, e, hn⟩ := (h c).word ⟨_, hi⟩ ⟨k.val, by omega⟩
    rw [e]
    exact chk1_of n (hn (by show k.val ≤ 127; omega))
  · have hk' := hk k
    rw [wd_eq m c t _ _ ⟨_, hi⟩ ⟨k.val + 1, by omega⟩ hb (h1 k)]
    obtain ⟨n, hn, e, _⟩ := (h c).word ⟨_, hi⟩ ⟨k.val + 1, by omega⟩
    rw [e]
    exact chk2_of n hn
  · show k0_chk3 _
    rw [wd_eq m c t _ _ ⟨_, hi⟩ ⟨128, by omega⟩ hb rfl]
    obtain ⟨n, hn, e, _⟩ := (h c).word ⟨_, hi⟩ ⟨128, by omega⟩
    rw [e]
    exact chk3_of n hn

theorem phi_in (c : Dev nD) : (Pipeline.ΦA spec0 c : sProp 𝕄) ⊢ PhiS m c 0 := by
  unfold Pipeline.ΦA PhiS
  rw [scopedRest0_eq c]
  iintro ⟨⟨⟨%f14, H14⟩, ⟨%f15, H15⟩, ⟨%f16, H16⟩, ⟨%f17, H17⟩, ⟨%f18, H18⟩⟩, Hg⟩
  iexists f14, f15, f16, f17, f18
  isplitr
  · ipureintro
    intro h; exact absurd rfl h
  isplitl [H14]; · iexact H14
  isplitl [H15]; · iexact H15
  isplitl [H16]; · iexact H16
  isplitl [H17]; · iexact H17
  isplitl [H18]; · iexact H18
  iexact Hg

theorem phi_out (c : Dev nD) (k : ℕ) : PhiS m c k ⊢ (Pipeline.ΦA spec0 c : sProp 𝕄) := by
  unfold Pipeline.ΦA PhiS
  rw [scopedRest0_eq c]
  iintro ⟨%f14, %f15, %f16, %f17, %f18, -, H14, H15, H16, H17, H18, Hg⟩
  isplitr [Hg]
  · isplitl [H14]; · iexists f14; iexact H14
    isplitl [H15]; · iexists f15; iexact H15
    isplitl [H16]; · iexists f16; iexact H16
    isplitl [H17]; · iexists f17; iexact H17
    iexists f18; iexact H18
  iexact Hg

/-- The run: every window's array at what the proof data says, the rest unchanged, every counter at zero. -/
theorem run (ρ : Dev nD → PrngReg) (h : ∀ c, RowOK (rowT m c)) :
    θ_run defs (onTc (τ := τ) (main (F := F))) (s₀ m ρ) (fun r =>
      Pipeline.RDat.FramePost cfg0 (fun c => (dats m 0 c).toRForget fgt) (V m) r ∧ r.2.sem = fun _ => 0) :=
  Pipeline.θ_run_frame_track_forget_shared cfgs (dats m) 0 launch₀0 defs₀ Variants.none fgt m ρ main
    (body_obligation m (allChk_of m h)) (fun _ _ _ => rfl) (fun _ _ => rfl) (V m) (hmain m Variants.none) (fun _ _ => rfl)
    (phi_in m) (fun c => phi_out m c _) _ (fun _ h => h)

/-- The arguments at the end of a run, and the counters. -/
theorem post_args (r : PUnit × MemSt nD τ sig (Elt F))
    (h : Pipeline.RDat.FramePost cfg0 (fun c => (dats m 0 c).toRForget fgt) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (Pipeline.RDat.FramePost.arr_in h c 1 rfl).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   (Pipeline.RDat.FramePost.arr_in h c 3 rfl).trans (V_main_arg6 m c),
   (Pipeline.RDat.FramePost.arr_in h c 2 rfl).trans (V_main_arg7 m c)⟩

/-- The output array at the end of a run. -/
theorem post_out (r : PUnit × MemSt nD τ sig (Elt F))
    (h : Pipeline.RDat.FramePost cfg0 (fun c => (dats m 0 c).toRForget fgt) (V m) r) (c : Dev nD) :
    r.2.mem ((c.tc : Thread nD τ).loc main_v6_0) = (dats m 0 c).arrAt 9 cfg0.N :=
  ((dats m 0 c).toRForget_arrAt_iff (w := 9) rfl _ _).mp ((h c).1 9)

end Cert.Proof.Kernel

end
-- ==== Proof.KernelIdeal.Trip.lean ====
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M` on core `c`, and the memref held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Proof.KernelIdeal

end
-- ==== Proof.KernelIdeal.Cut.lean ====
module

public import proofs.«01_k».proof.Proof.KernelIdeal.Trip
public import Idealize.ShloMosaic.Lib.Tactic.Stretches
public import Idealize.ShloMosaic.Lib.Tactic.OpenCalls

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

open_calls kb := cc0_csr_attention [k0_part38, k0_part19]
-- first stretch: the first group's count of the edges; second: the eight heads; third: the compaction loop; fourth: its
-- last tile; fifth: the row statistics
cut_chain ks := kb at 2, 27, 30, 31

/-- The rectangle of the rows `j, j + 8, …` of the score scratch. -/
def strideR (j : ℕ) (hj : j < 8) : Rect S1024x128 where
  off := ![j, 0]
  size := S128x128.size
  stride := ![8, 1]
  inb := by
    intro a; fin_cases a
    · right; show j + 8 * (128 - 1) < 1024; omega
    · right; show 0 + 1 * (128 - 1) < 128; omega
  stride_pos := by intro a; fin_cases a <;> decide

/-- Listed writes that cover a whole memref leave the same contents over anything as over junk. -/
theorem writes_eq_junk_of_cover {Val : EltTy → Type} [∀ e, Nonempty (Val e)] {κ : Kind} {sp : Space} {s : Shape} {e : EltTy} {m : Memref sig κ sp s e} (hw : m.IsWhole)
    (f : m.view.ty.Contents Val) (L : List (View.Piece Val s e)) (hy : ∀ y : s.Idx, ∃ p ∈ L, y ∈ p.1.set) :
    m.view.writes Val f L = m.view.writes Val m.view.junk L := by
  obtain ⟨b, rfl, rfl, rfl, h⟩ := hw; cases h
  funext y
  exact View.read_writes_apply_eq (View.whole b) f (View.whole b) (View.whole b).junk y L (hy y)

/-- Eight stores of every eighth row fill the score scratch, whatever it held before. -/
theorem writes_strided {m : Memref sig .tc .vmem S1024x128 .f32} (hw : m.IsWhole) (f : m.view.ty.Contents (Elt F))
    (L : List (View.Piece (Elt F) S1024x128 .f32))
    (hL : L.map Sigma.fst = [strideR 7 (by omega), strideR 6 (by omega), strideR 5 (by omega), strideR 4 (by omega),
      strideR 3 (by omega), strideR 2 (by omega), strideR 1 (by omega), strideR 0 (by omega)]) :
    m.view.writes (Elt F) f L = m.view.writes (Elt F) m.view.junk L := by
  refine writes_eq_junk_of_cover hw f L fun y => ?_
  have hy : ∃ r ∈ L.map Sigma.fst, y ∈ r.set := by
    have h0 : (y 0).val < 1024 := (y 0).isLt
    have h1 : (y 1).val < 128 := (y 1).isLt
    have hj : (y 0).val % 8 < 8 := Nat.mod_lt _ (by omega)
    refine ⟨strideR ((y 0).val % 8) hj, ?_, ?_⟩
    · rw [hL]; generalize (y 0).val % 8 = j at hj ⊢
      have : j = 0 ∨ j = 1 ∨ j = 2 ∨ j = 3 ∨ j = 4 ∨ j = 5 ∨ j = 6 ∨ j = 7 := by omega
      rcases this with rfl | rfl | rfl | rfl | rfl | rfl | rfl | rfl <;> simp
    · have := (strideR ((y 0).val % 8) hj).toLoadRect.idx_mem
        (fun a => match a with | 0 => ⟨(y 0).val / 8, by show _ < 128; omega⟩ | 1 => ⟨(y 1).val, h1⟩)
      convert this using 1
      funext a; apply Fin.ext; fin_cases a
      · show (y 0).val = (y 0).val % 8 + 8 * ((y 0).val / 8); omega
      · show (y 1).val = 0 + 1 * (y 1).val; omega
  obtain ⟨r, hr, hyr⟩ := hy
  obtain ⟨p, hp, rfl⟩ := List.mem_map.mp hr
  exact ⟨p, hp, hyr⟩

end Cert.Proof.KernelIdeal

end
-- ==== Proof.KernelIdeal.Pro.lean ====
module

public import proofs.«01_k».proof.Proof.KernelIdeal.Cut

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The first group's count: what it leaves in the bias scratch and in the table of column indices, found by the run. -/
def proRun (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (f4 : Bf (F := F) c arg4) (f5 : Bf (F := F) c arg5)
    (h1 : Scalar.cmpi .ne (Scalar.extui (Scalar.cmpi .eq (BitVec.ofNat 32 (i 1).val) 0#32)) 0#32 = 1#1) :
    { W : Bf (F := F) c arg14 × Bf (F := F) c arg15 //
      ∀ (f14 : Bf (F := F) c arg14) (f15 : Bf (F := F) c arg15)
        (R : Type) (κ : Prog (TpuEff nD τ sig (Elt F) Λ₀ .tc) R) (E : Set ℕ) (Q : R → sProp 𝕄),
        iprop(pt c arg4 f4 ∗ pt c arg5 f5 ∗ pt c arg14 f14 ∗ pt c arg15 f15
          ∗ (iprop(pt c arg4 f4 ∗ pt c arg5 f5 ∗ pt c arg14 W.1 ∗ pt c arg15 W.2)
              -∗ wp frame (wpE (defs₀ (F := F)) Variants.none c none) E κ Q))
        ⊢ wp frame (wpE (defs₀ (F := F)) Variants.none c none) E
            (ks1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (R := R) κ) Q } := by
  refine ⟨⟨?_, ?_⟩, fun f14 f15 R κ E Q => ?run⟩
  case run =>
    iintro ⟨H4, H5, H14, H15, Hk⟩
    unfold ks1
    sl_exec_parts!
    iapply Hk
    isplitl [H4]; · iexact H4
    isplitl [H5]; · iexact H5
    isplitl [H14]; · iexact H14
    iexact H15

/-- At a later group the count is skipped. -/
theorem proSkip (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (h1 : ¬ Scalar.cmpi .ne (Scalar.extui (Scalar.cmpi .eq (BitVec.ofNat 32 (i 1).val) 0#32)) 0#32 = 1#1)
    (R : Type) (κ : Prog (TpuEff nD τ sig (Elt F) Λ₀ .tc) R) (E : Set ℕ) (Q : R → sProp 𝕄) :
    wp frame (wpE (defs₀ (F := F)) Variants.none c none) E κ Q
      ⊢ wp frame (wpE (defs₀ (F := F)) Variants.none c none) E (ks1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (R := R) κ) Q := by
  iintro Hk
  unfold ks1
  sl_exec
  iexact Hk

end Cert.Proof.KernelIdeal

end
-- ==== Proof.KernelIdeal.Heads.lean ====
module

public import proofs.«01_k».proof.Proof.KernelIdeal.Cut

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the eight heads of a group leave, and what they hand on to the compaction loop. -/
abbrev HeadsW (F : FTy → Type) (c : Dev nD) (arg11 : Memref sig .tc .vmem S1x128x1280 .bf16) (arg12 : Memref sig .tc .vmem S1x8x3072 .f32)
    (arg16 : Memref sig .tc .vmem S1024x128 .f32) (arg17 : Memref sig .tc .vmem S128x128 .f32) (arg18 : Memref sig .tc .vmem S128x128 .f32) : Type :=
  (Bf (F := F) c arg11 × Bf (F := F) c arg12 × Bf (F := F) c arg16 × Bf (F := F) c arg17 × Bf (F := F) c arg18)
          × (IVec S8x128 32 × FVec F S8x128 .f32 × BitVec 32 × BitVec 32)

/-- The run of the eight heads: from the input blocks and the bias to `W`. -/
def HeadsSpec (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f3 : Bf (F := F) c arg3) (f6 : Bf (F := F) c arg6) (f7 : Bf (F := F) c arg7) (f8 : Bf (F := F) c arg8) (f9 : Bf (F := F) c arg9)
    (f10 : Bf (F := F) c arg10) (f14 : Bf (F := F) c arg14) (f17 : Bf (F := F) c arg17) (f18 : Bf (F := F) c arg18)
    (W : HeadsW F c arg11 arg12 arg16 arg17 arg18) : Prop :=
      ∀ (f11 : Bf (F := F) c arg11) (f12 : Bf (F := F) c arg12) (f16 : Bf (F := F) c arg16)
        (R : Type) (κ : IVec S8x128 32 → FVec F S8x128 .f32 → BitVec 32 → BitVec 32 → Prog (TpuEff nD τ sig (Elt F) Λ₀ .tc) R) (E : Set ℕ) (Q : R → sProp 𝕄),
        iprop(pt c arg3 f3 ∗ pt c arg6 f6 ∗ pt c arg7 f7 ∗ pt c arg8 f8 ∗ pt c arg9 f9 ∗ pt c arg10 f10 ∗ pt c arg11 f11
          ∗ pt c arg12 f12 ∗ pt c arg14 f14 ∗ pt c arg16 f16 ∗ pt c arg17 f17 ∗ pt c arg18 f18
          ∗ (iprop(pt c arg3 f3 ∗ pt c arg6 f6 ∗ pt c arg7 f7 ∗ pt c arg8 f8 ∗ pt c arg9 f9 ∗ pt c arg10 f10 ∗ pt c arg11 W.1.1
              ∗ pt c arg12 W.1.2.1 ∗ pt c arg14 f14 ∗ pt c arg16 W.1.2.2.1 ∗ pt c arg17 W.1.2.2.2.1 ∗ pt c arg18 W.1.2.2.2.2)
              -∗ wp frame (wpE (defs₀ (F := F)) Variants.none c none) E (κ W.2.1 W.2.2.1 W.2.2.2.1 W.2.2.2.2) Q))
        ⊢ wp frame (wpE (defs₀ (F := F)) Variants.none c none) E
            (ks2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (R := R) κ) Q

set_option maxHeartbeats 4000000 in
/-- The eight heads of a group: what they leave in the output block, the scores block, the score scratch and the two columns of row
    statistics, and what they hand on to the compaction loop, found by the run. -/
def headsRun (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f3 : Bf (F := F) c arg3) (f6 : Bf (F := F) c arg6) (f7 : Bf (F := F) c arg7) (f8 : Bf (F := F) c arg8) (f9 : Bf (F := F) c arg9)
    (f10 : Bf (F := F) c arg10) (f14 : Bf (F := F) c arg14) (f17 : Bf (F := F) c arg17) (f18 : Bf (F := F) c arg18) :
    { W : HeadsW F c arg11 arg12 arg16 arg17 arg18 // HeadsSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f6 f7 f8 f9 f10 f14 f17 f18 W } := by
  refine ⟨⟨⟨?_, ?_, ?_, ?_, ?_⟩, ⟨?_, ?_, ?_, ?_⟩⟩, ?run⟩
  case run =>
    unfold HeadsSpec
    intro f11 f12 f16 R κ E Q
    iintro ⟨H3, H6, H7, H8, H9, H10, H11, H12, H14, H16, H17, H18, Hk⟩
    unfold ks2
    sl_exec_parts!
    rw [writes_strided harg16 f16 _ rfl]
    iapply Hk
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H16]; · iexact H16
    isplitl [H17]; · iexact H17
    iexact H18

end Cert.Proof.KernelIdeal

end
-- ==== Proof.KernelIdeal.Comp.lean ====
module

public import proofs.«01_k».proof.Proof.KernelIdeal.Cut

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word of the row table in SMEM at an offset. -/
def wd (c : Dev nD) (arg2 : Memref sig .tc .smem S2x129 .i32) (f2 : Bf (F := F) c arg2) (off : Fin 2 → ℕ)
    (h : ∀ a, off a + S1x1.size a ≤ S2x129.size a) : BitVec 32 :=
  View.readAt (Elt F) arg2.view (Rect.unit (s := S2x129) off S1x1.size h).toLoadRect f2 (Shape.Idx.first (by show 0 < S1x1.numel; rw [numel1_S1x1]; exact Nat.one_pos))

/-- The side conditions of the compaction loop's trips. -/
def Chk (c : Dev nD) (i : grid0.Coords) (arg2 : Memref sig .tc .smem S2x129 .i32) (f2 : Bf (F := F) c arg2) : Prop :=
  (∀ k, k0_chk1 (wd c arg2 f2 (k0_off2 i k) (k0_off2_inb i k))) ∧ (∀ k, k0_chk2 (wd c arg2 f2 (k0_off3 i k) (k0_off3_inb i k)))

/-- One trip of the compaction loop, from the word checks to `W`. -/
def TripSpec (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (arg0 : BitVec 32) (v689 : IVec S8x128 32) (c0 c1 : BitVec 32) (k : Fin k0_t1_loop.trips) (acc : FVec F S8x128 .f32)
    (f2 : Bf (F := F) c arg2) (f15 : Bf (F := F) c arg15) (f16 : Bf (F := F) c arg16) (f12 : Bf (F := F) c arg12)
    (W : FVec F S8x128 .f32 × Bf (F := F) c arg12) : Prop :=
  ∀ (E : Set ℕ) (Q : FVec F S8x128 .f32 → sProp 𝕄),
    iprop(pt c arg2 f2 ∗ pt c arg12 f12 ∗ pt c arg15 f15 ∗ pt c arg16 f16
      ∗ (iprop(pt c arg2 f2 ∗ pt c arg12 W.2 ∗ pt c arg15 f15 ∗ pt c arg16 f16) -∗ Q W.1))
    ⊢ wp frame (wpE (defs₀ (F := F)) Variants.none c none) E
        (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 k acc) Q

/-- One trip of the compaction loop: the vector it carries on and what it leaves in the scores block, found by the run. -/
def tripRun (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (arg0 : BitVec 32) (v689 : IVec S8x128 32) (c0 c1 : BitVec 32) (k : Fin k0_t1_loop.trips) (acc : FVec F S8x128 .f32)
    (f2 : Bf (F := F) c arg2) (f15 : Bf (F := F) c arg15) (f16 : Bf (F := F) c arg16) (f12 : Bf (F := F) c arg12)
    (h1 : k0_chk1 (wd c arg2 f2 (k0_off2 i k) (k0_off2_inb i k))) (h2 : k0_chk2 (wd c arg2 f2 (k0_off3 i k) (k0_off3_inb i k))) :
    { W : FVec F S8x128 .f32 × Bf (F := F) c arg12 //
      TripSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 k acc f2 f15 f16 f12 W } := by
  refine ⟨⟨?_, ?_⟩, ?run⟩
  case run =>
    unfold TripSpec
    intro E Q
    iintro ⟨H2, H12, H15, H16, Hk⟩
    sl_exec (disch := first | exact h1 | exact h2)
    sl_step
    iapply Hk
    isplitl [H2]; · iexact H2
    isplitl [H12]; · iexact H12
    isplitl [H15]; · iexact H15
    iexact H16

open Classical in
/-- The carried vector and the scores block after the first `k` trips. -/
def compSt (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (arg0 : BitVec 32) (v689 : IVec S8x128 32) (c0 c1 : BitVec 32) (init : FVec F S8x128 .f32)
    (f2 : Bf (F := F) c arg2) (f15 : Bf (F := F) c arg15) (f16 : Bf (F := F) c arg16) (f12 : Bf (F := F) c arg12) :
    ℕ → FVec F S8x128 .f32 × Bf (F := F) c arg12
  | 0 => (init, f12)
  | k + 1 =>
    let s := compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k
    if h : Chk c i arg2 f2 ∧ k < k0_t1_loop.trips then
      (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 ⟨k, h.2⟩ s.1 f2 f15 f16 s.2 (h.1.1 _) (h.1.2 _)).val
    else s

/-- The compaction loop's invariant: the scores block and the carried vector are the recursion's. -/
@[sl_loop, instance_reducible] def loopInv_k0_t1 (c : Dev nD)
    (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f2 : Bf (F := F) c arg2) (f15 : Bf (F := F) c arg15) (f16 : Bf (F := F) c arg16) (f12 : Bf (F := F) c arg12)
    (arg0 : BitVec 32) (v689 : IVec S8x128 32) (c0 c1 : BitVec 32) (init : FVec F S8x128 .f32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init where
  inv := fun k acc => iprop(⌜Chk c i arg2 f2⌝ ∗ pt c arg2 f2
    ∗ pt c arg12 (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k).2
    ∗ pt c arg15 f15 ∗ pt c arg16 f16
    ∗ ⌜acc = (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k).1⌝)
  step := fun k acc => by
    iintro ⟨%hc, H2, H12, H15, H16, %hacc⟩
    subst hacc
    iapply ((tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 k _ f2 f15 f16 _ (hc.1 k) (hc.2 k)).property Set.univ _)
    isplitl [H2]; · iexact H2
    isplitl [H12]; · iexact H12
    isplitl [H15]; · iexact H15
    isplitl [H16]; · iexact H16
    iintro ⟨H2, H12, H15, H16⟩
    have e : compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 (k.val + 1)
        = (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 k
            (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k).1 f2 f15 f16
            (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v689 c0 c1 init f2 f15 f16 f12 k).2 (hc.1 k) (hc.2 k)).val := by
      rw [compSt]; exact dif_pos ⟨hc, k.isLt⟩
    rw [e]
    isplitr; · ipureintro; exact hc
    isplitl [H2]; · iexact H2
    isplitl [H12]; · iexact H12
    isplitl [H15]; · iexact H15
    isplitl [H16]; · iexact H16
    ipureintro; rfl

end Cert.Proof.KernelIdeal

end
-- ==== Proof.KernelIdeal.Loop.lean ====
module

public import proofs.«01_k».proof.Proof.KernelIdeal.Comp

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word that ends the last row, and the check of its tile. -/
abbrev EndChk (c : Dev nD) (i : grid0.Coords) (arg2 : Memref sig .tc .smem S2x129 .i32) (f2 : Bf (F := F) c arg2) : Prop :=
  k0_chk3 (wd c arg2 f2 (k0_off8 i) (k0_off8_inb i))

/-- The compaction loop with the load behind it. -/
theorem loopRun (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (v689 : IVec S8x128 32) (v692 : FVec F S8x128 .f32) (c0 c1 : BitVec 32)
    (f2 : Bf (F := F) c arg2) (f15 : Bf (F := F) c arg15) (f16 : Bf (F := F) c arg16) (f12 : Bf (F := F) c arg12)
    (hc : Chk c i arg2 f2) (he : EndChk c i arg2 f2)
    (R : Type) (κ : (v694 : FVec F S8x128 .f32) → (v696 : Elt F .i32) → PLift (k0_chk3 v696) → Prog (TpuEff nD τ sig (Elt F) Λ₀ .tc) R) (Q : R → sProp 𝕄) :
    iprop(pt c arg2 f2 ∗ pt c arg12 f12 ∗ pt c arg15 f15 ∗ pt c arg16 f16
      ∗ (iprop(pt c arg2 f2
          ∗ pt c arg12 (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)).2
          ∗ pt c arg15 f15 ∗ pt c arg16 f16)
          -∗ wp frame (wpE (defs₀ (F := F)) Variants.none c none) Set.univ
            (κ (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)).1
              (wd c arg2 f2 (k0_off8 i) (k0_off8_inb i)) ⟨he⟩) Q))
    ⊢ wp frame (wpE (defs₀ (F := F)) Variants.none c none) Set.univ
        (ks3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v689 v692 c0 c1 (R := R) κ) Q := by
  iintro ⟨H2, H12, H15, H16, Hk⟩
  unfold ks3
  let L := loopInv_k0_t1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f2 f15 f16 f12 (BitVec.ofNat 32 (i 0).val) v689 c0 c1 v692
  sl_exec (disch := exact he)

  iapply Hk
  isplitl [H2]; · iexact H2
  isplitl [H12]; · iexact H12
  isplitl [H15]; · iexact H15
  iexact H16

end Cert.Proof.KernelIdeal

end
-- ==== Proof.KernelIdeal.Tail.lean ====
module

public import proofs.«01_k».proof.Proof.KernelIdeal.Comp

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The store behind the loop, where the last row ends inside the table. -/
def lastRun (c : Dev nD) (arg12 : Memref sig .tc .vmem S1x8x3072 .f32) (harg12 : arg12.IsWhole) (f12 : Bf (F := F) c arg12) (v689 : IVec S8x128 32) (v694 : FVec F S8x128 .f32) (v696 : Elt F .i32)
    (h : PLift (k0_chk3 v696)) (h2 : k0_cond2 v696 = 1#1) :
    { W : Bf (F := F) c arg12 //
      ∀ (R : Type) (κ : Prog (TpuEff nD τ sig (Elt F) Λ₀ .tc) R) (E : Set ℕ) (Q : R → sProp 𝕄),
        iprop(pt c arg12 f12 ∗ (pt c arg12 W -∗ wp frame (wpE (defs₀ (F := F)) Variants.none c none) E κ Q))
        ⊢ wp frame (wpE (defs₀ (F := F)) Variants.none c none) E
            (ks4 (F := F) arg12 v689 v694 v696 h (R := R) κ) Q } := by
  refine ⟨?_, fun R κ E Q => ?run⟩
  case run =>
    iintro ⟨H12, Hk⟩
    unfold ks4
    sl_exec
    iapply Hk
    iexact H12

theorem lastSkip (c : Dev nD) (arg12 : Memref sig .tc .vmem S1x8x3072 .f32) (v689 : IVec S8x128 32) (v694 : FVec F S8x128 .f32) (v696 : Elt F .i32)
    (h : PLift (k0_chk3 v696)) (h2 : ¬ k0_cond2 v696 = 1#1)
    (R : Type) (κ : Prog (TpuEff nD τ sig (Elt F) Λ₀ .tc) R) (E : Set ℕ) (Q : R → sProp 𝕄) :
    wp frame (wpE (defs₀ (F := F)) Variants.none c none) E κ Q
      ⊢ wp frame (wpE (defs₀ (F := F)) Variants.none c none) E (ks4 (F := F) arg12 v689 v694 v696 h (R := R) κ) Q := by
  iintro Hk
  unfold ks4
  sl_exec
  iexact Hk

/-- The row statistics' store, at the last group. -/
def lseRun (c : Dev nD) (i : grid0.Coords) (arg13 : Memref sig .tc .vmem S1x32x128 .f32) (harg13 : arg13.IsWhole)
    (arg17 : Memref sig .tc .vmem S128x128 .f32) (harg17 : arg17.IsWhole) (arg18 : Memref sig .tc .vmem S128x128 .f32) (harg18 : arg18.IsWhole)
    (f17 : Bf (F := F) c arg17) (f18 : Bf (F := F) c arg18) (h3 : k0_cond3 i = 1#1) :
    { W : Bf (F := F) c arg13 //
      ∀ (f13 : Bf (F := F) c arg13) (R : Type) (κ : Prog (TpuEff nD τ sig (Elt F) Λ₀ .tc) R) (E : Set ℕ) (Q : R → sProp 𝕄),
        iprop(pt c arg13 f13 ∗ pt c arg17 f17 ∗ pt c arg18 f18
          ∗ (iprop(pt c arg13 W ∗ pt c arg17 f17 ∗ pt c arg18 f18) -∗ wp frame (wpE (defs₀ (F := F)) Variants.none c none) E κ Q))
        ⊢ wp frame (wpE (defs₀ (F := F)) Variants.none c none) E
            (ks5 (F := F) i arg13 arg17 arg18 (R := R) κ) Q } := by
  refine ⟨?_, fun f13 R κ E Q => ?run⟩
  case run =>
    iintro ⟨H13, H17, H18, Hk⟩
    unfold ks5
    sl_exec!
    iapply Hk
    isplitl [H13]; · iexact H13
    isplitl [H17]; · iexact H17
    iexact H18

theorem lseSkip (c : Dev nD) (i : grid0.Coords) (arg13 : Memref sig .tc .vmem S1x32x128 .f32)
    (arg17 : Memref sig .tc .vmem S128x128 .f32) (arg18 : Memref sig .tc .vmem S128x128 .f32) (h3 : ¬ k0_cond3 i = 1#1)
    (R : Type) (κ : Prog (TpuEff nD τ sig (Elt F) Λ₀ .tc) R) (E : Set ℕ) (Q : R → sProp 𝕄) :
    wp frame (wpE (defs₀ (F := F)) Variants.none c none) E κ Q
      ⊢ wp frame (wpE (defs₀ (F := F)) Variants.none c none) E (ks5 (F := F) i arg13 arg17 arg18 (R := R) κ) Q := by
  iintro Hk
  unfold ks5
  sl_exec
  iexact Hk

end Cert.Proof.KernelIdeal

end
-- ==== Proof.KernelIdeal.Body.lean ====
module

public import proofs.«01_k».proof.Proof.KernelIdeal.Pro
public import proofs.«01_k».proof.Proof.KernelIdeal.Heads
public import proofs.«01_k».proof.Proof.KernelIdeal.Loop
public import proofs.«01_k».proof.Proof.KernelIdeal.Tail

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the first group's count. -/
abbrev First (i : grid0.Coords) : Prop :=
  Scalar.cmpi .ne (Scalar.extui (Scalar.cmpi .eq (BitVec.ofNat 32 (i 1).val) 0#32)) 0#32 = 1#1

open Classical in
/-- The bias and the table of column indices that the heads of a point read. -/
def proF (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (f4 : Bf (F := F) c arg4) (f5 : Bf (F := F) c arg5)
    (f14 : Bf (F := F) c arg14) (f15 : Bf (F := F) c arg15) : Bf (F := F) c arg14 × Bf (F := F) c arg15 :=
  if h : First i then (proRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 h).val else (f14, f15)

open Classical in
/-- The scores block that a point leaves. -/
def scF (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (v689 : IVec S8x128 32) (v692 : FVec F S8x128 .f32) (c0 c1 : BitVec 32)
    (f2 : Bf (F := F) c arg2) (f15 : Bf (F := F) c arg15) (f16 : Bf (F := F) c arg16) (f12 : Bf (F := F) c arg12) : Bf (F := F) c arg12 :=
  let s := compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)
  if h : EndChk c i arg2 f2 ∧ k0_cond2 (wd c arg2 f2 (k0_off8 i) (k0_off8_inb i)) = 1#1 then
    (lastRun c arg12 harg12 s.2 v689 s.1 (wd c arg2 f2 (k0_off8 i) (k0_off8_inb i)) ⟨h.1⟩ h.2).val
  else s.2

open Classical in
/-- The row statistics' block that a point leaves. -/
def lseF (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f13 : Bf (F := F) c arg13) (f17 : Bf (F := F) c arg17) (f18 : Bf (F := F) c arg18) : Bf (F := F) c arg13 :=
  if h : k0_cond3 i = 1#1 then (lseRun c i arg13 harg13 arg17 harg17 arg18 harg18 f17 f18 h).val else f13

theorem scSpec (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole) (v689 : IVec S8x128 32) (v692 : FVec F S8x128 .f32) (c0 c1 : BitVec 32)
    (f2 : Bf (F := F) c arg2) (f15 : Bf (F := F) c arg15) (f16 : Bf (F := F) c arg16) (f12 : Bf (F := F) c arg12) (he : EndChk c i arg2 f2)
    (R : Type) (κ : Prog (TpuEff nD τ sig (Elt F) Λ₀ .tc) R) (E : Set ℕ) (Q : R → sProp 𝕄) :
    iprop(pt c arg12 (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)).2
      ∗ (pt c arg12 (scF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v689 v692 c0 c1 f2 f15 f16 f12) -∗ wp frame (wpE (defs₀ (F := F)) Variants.none c none) E κ Q))
    ⊢ wp frame (wpE (defs₀ (F := F)) Variants.none c none) E
        (ks4 (F := F) arg12 v689 (compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st)).1
          (wd c arg2 f2 (k0_off8 i) (k0_off8_inb i)) ⟨he⟩ (R := R) κ) Q := by
  unfold scF
  generalize compSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v689 c0 c1 v692 f2 f15 f16 f12 (Scf.trips k0_t1_loop.lb k0_t1_loop.ub k0_t1_loop.st) = s
  by_cases h : k0_cond2 (wd c arg2 f2 (k0_off8 i) (k0_off8_inb i)) = 1#1
  · dsimp only
    rw [dif_pos ⟨he, h⟩]
    exact (lastRun c arg12 harg12 s.2 v689 s.1 _ ⟨he⟩ h).property R κ E Q
  · dsimp only
    rw [dif_neg (fun hh => h hh.2)]
    refine .trans ?_ (lastSkip c arg12 v689 s.1 _ ⟨he⟩ h R κ E Q)
    iintro ⟨H, Hk⟩
    iapply Hk
    iexact H

theorem lseSpec (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f13 : Bf (F := F) c arg13) (f17 : Bf (F := F) c arg17) (f18 : Bf (F := F) c arg18)
    (R : Type) (κ : Prog (TpuEff nD τ sig (Elt F) Λ₀ .tc) R) (E : Set ℕ) (Q : R → sProp 𝕄) :
    iprop(pt c arg13 f13 ∗ pt c arg17 f17 ∗ pt c arg18 f18
      ∗ (iprop(pt c arg13 (lseF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f13 f17 f18) ∗ pt c arg17 f17 ∗ pt c arg18 f18) -∗ wp frame (wpE (defs₀ (F := F)) Variants.none c none) E κ Q))
    ⊢ wp frame (wpE (defs₀ (F := F)) Variants.none c none) E (ks5 (F := F) i arg13 arg17 arg18 (R := R) κ) Q := by
  unfold lseF
  by_cases h : k0_cond3 i = 1#1
  · rw [dif_pos h]
    exact (lseRun c i arg13 harg13 arg17 harg17 arg18 harg18 f17 f18 h).property f13 R κ E Q
  · rw [dif_neg h]
    refine .trans ?_ (lseSkip c i arg13 arg17 arg18 h R κ E Q)
    iintro ⟨H13, H17, H18, Hk⟩
    iapply Hk
    isplitl [H13]; · iexact H13
    isplitl [H17]; · iexact H17
    iexact H18

section
variable (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (f10 : Bf (F := F) c arg10) (f13 : Bf (F := F) c arg13) (f14 : Bf (F := F) c arg14)
    (f15 : Bf (F := F) c arg15) (f17 : Bf (F := F) c arg17) (f18 : Bf (F := F) c arg18)

/-- What the heads of a point leave, from what the point started with. -/
def hdF : HeadsW F c arg11 arg12 arg16 arg17 arg18 :=
  (headsRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f6 f7 f8 f9 f10 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).1 f17 f18).val

/-- The scores block of a point, from what the point started with. -/
def scG : Bf (F := F) c arg12 :=
  scF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).2.1
    (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).2.2.1 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).2.2.2.1
    (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).2.2.2.2 f2 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).2
    (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.1 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.1

/-- The row statistics' block of a point, from what the point started with. -/
def lseG : Bf (F := F) c arg13 :=
  lseF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f13 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.2.1
    (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.2.2

/-- The body at one grid point: from the blocks and the scratch buffers to what the definitions above name. -/
theorem bodyRun (f11 : Bf (F := F) c arg11) (f12 : Bf (F := F) c arg12) (f16 : Bf (F := F) c arg16)
    (hc : Chk c i arg2 f2) (he : EndChk c i arg2 f2) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9
      ∗ pt c arg10 f10 ∗ pt c arg11 f11 ∗ pt c arg12 f12 ∗ pt c arg13 f13 ∗ pt c arg14 f14 ∗ pt c arg15 f15 ∗ pt c arg16 f16
      ∗ pt c arg17 f17 ∗ pt c arg18 f18
      ∗ (iprop(pt c arg2 f2 ∗ pt c arg3 f3 ∗ pt c arg4 f4 ∗ pt c arg5 f5 ∗ pt c arg6 f6 ∗ pt c arg7 f7 ∗ pt c arg8 f8 ∗ pt c arg9 f9
          ∗ pt c arg10 f10 ∗ pt c arg11 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.1
          ∗ pt c arg12 (scG c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f2 f3 f4 f5 f6 f7 f8 f9 f10 f14 f15 f17 f18)
          ∗ pt c arg13 (lseG c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f13 f14 f15 f17 f18)
          ∗ pt c arg14 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).1 ∗ pt c arg15 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).2
          ∗ (∃ f, pt c arg16 f)
          ∗ pt c arg17 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.2.1
          ∗ pt c arg18 (hdF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f5 f6 f7 f8 f9 f10 f14 f15 f17 f18).1.2.2.2.2) -∗ Q ⟨⟩))
    ⊢ wp frame (wpE (defs₀ (F := F)) Variants.none c none) Set.univ (cc0_csr_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  rw [kb.eq, ks1.eq]
  have hpro : ∀ (R : Type) (κ : Prog (TpuEff nD τ sig (Elt F) Λ₀ .tc) R) (Q : R → sProp 𝕄),
      iprop(pt c arg4 f4 ∗ pt c arg5 f5 ∗ pt c arg14 f14 ∗ pt c arg15 f15
          ∗ (iprop(pt c arg4 f4 ∗ pt c arg5 f5 ∗ pt c arg14 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).1 ∗ pt c arg15 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).2)
              -∗ wp frame (wpE (defs₀ (F := F)) Variants.none c none) Set.univ κ Q))
        ⊢ wp frame (wpE (defs₀ (F := F)) Variants.none c none) Set.univ
            (ks1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (R := R) κ) Q := by
    intro R κ Q
    by_cases h : First i
    · rw [proF, dif_pos h]
      exact (proRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 h).property f14 f15 R κ Set.univ Q
    · rw [proF, dif_neg h]
      refine .trans ?_ (proSkip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h R κ Set.univ Q)
      iintro ⟨H4, H5, H14, H15, Hk⟩
      iapply Hk
      isplitl [H4]; · iexact H4
      isplitl [H5]; · iexact H5
      isplitl [H14]; · iexact H14
      iexact H15
  iintro ⟨H2, H3, H4, H5, H6, H7, H8, H9, H10, H11, H12, H13, H14, H15, H16, H17, H18, Hk⟩
  iapply (hpro _ _ _)
  isplitl [H4]; · iexact H4
  isplitl [H5]; · iexact H5
  isplitl [H14]; · iexact H14
  isplitl [H15]; · iexact H15
  iintro ⟨H4, H5, H14, H15⟩
  rw [ks2.eq]
  iapply ((headsRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f6 f7 f8 f9 f10 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).1 f17 f18).property f11 f12 f16 _ _ _ _)
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H16]; · iexact H16
  isplitl [H17]; · iexact H17
  isplitl [H18]; · iexact H18
  iintro ⟨H3, H6, H7, H8, H9, H10, H11, H12, H14, H16, H17, H18⟩
  rw [ks3.eq]
  iapply (loopRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ f2 (proF c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f4 f5 f14 f15).2 _ _ hc he _ _ _)
  isplitl [H2]; · iexact H2
  isplitl [H12]; · iexact H12
  isplitl [H15]; · iexact H15
  isplitl [H16]; · iexact H16
  iintro ⟨H2, H12, H15, H16⟩
  rw [ks4.eq]
  iapply (scSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ f2 _ _ _ he _ _ _ _)
  isplitl [H12]; · iexact H12
  iintro H12
  rw [ks5.eq]
  iapply (lseSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f13 _ _ _ _ _ _)
  isplitl [H13]; · iexact H13
  isplitl [H17]; · iexact H17
  isplitl [H18]; · iexact H18
  iintro ⟨H13, H17, H18⟩
  unfold ks5.tail
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  iexact H18
end

end Cert.Proof.KernelIdeal

end
-- ==== Proof.KernelIdeal.Dats.lean ====
module

public import proofs.«01_k».proof.Proof.KernelIdeal.Body
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligationLoose)

omit [FloatOps F] in
/-- A whole memref owned at `X` is held at the contents that read `X`, and back. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  have hu : M.view.read (Elt F) (h.unread X) = X := h.read_unread X
  generalize h.unread X = f at hu
  subst hu
  obtain ⟨b, rfl, rfl, rfl, hm⟩ := h; cases hm
  rw [owns_whole_eq]
  iintro ⟨%g, %hg, H⟩
  have : g = f := hg
  subst this
  iexact H

omit [FloatOps F] in
theorem pt_owns (c : Dev nD) {sp : Space} {S : Shape} {e : EltTy} (M : Memref sig .tc sp S e) (h : M.IsWhole) (f : Bf (F := F) c M) :
    pt c M f ⊢ (owns (c : Thread nD τ) M fullShare (M.view.read (Elt F) f) : sProp 𝕄) := by
  obtain ⟨b, rfl, rfl, rfl, hm⟩ := h; cases hm
  rw [owns_whole_eq]
  iintro H
  iexists f
  isplitr; · ipureintro; rfl
  iexact H

omit [FloatOps F] in
theorem pt_owns_unread (c : Dev nD) {sp : Space} {S : Shape} {e : EltTy} (M : Memref sig .tc sp S e) (h : M.IsWhole) (X : S.Idx → Elt F e) :
    pt c M (h.unread X) ⊢ (owns (c : Thread nD τ) M fullShare X : sProp 𝕄) := by
  have := pt_owns c M h (h.unread X)
  rwa [h.read_unread X] at this

section
variable (m : (ℓ : Loc nD τ sig) → Buf (Elt F) ℓ) (c : Dev nD)

/-- Window 0's staging buffer at point `t`, the window's block in it. -/
def un0 (t : Fin cfg0.N) : Bf (F := F) c (win0_0.stage (cfg0.slots t 0)) :=
  (hstage0_0 ((cfg0.slots t 0).cast nbuf0_0)).unread (iblk m c 0 t)

/-- Window 1's staging buffer at point `t`, the window's block in it. -/
def un1 (t : Fin cfg0.N) : Bf (F := F) c (win0_1.stage (cfg0.slots t 1)) :=
  (hstage0_1 ((cfg0.slots t 1).cast nbuf0_1)).unread (iblk m c 1 t)

/-- Window 2's staging buffer at point `t`, the window's block in it. -/
def un2 (t : Fin cfg0.N) : Bf (F := F) c (win0_2.stage (cfg0.slots t 2)) :=
  (hstage0_2 ((cfg0.slots t 2).cast nbuf0_2)).unread (iblk m c 2 t)

/-- Window 3's staging buffer at point `t`, the window's block in it. -/
def un3 (t : Fin cfg0.N) : Bf (F := F) c (win0_3.stage (cfg0.slots t 3)) :=
  (hstage0_3 ((cfg0.slots t 3).cast nbuf0_3)).unread (iblk m c 3 t)

/-- Window 4's staging buffer at point `t`, the window's block in it. -/
def un4 (t : Fin cfg0.N) : Bf (F := F) c (win0_4.stage (cfg0.slots t 4)) :=
  (hstage0_4 ((cfg0.slots t 4).cast nbuf0_4)).unread (iblk m c 4 t)

/-- Window 5's staging buffer at point `t`, the window's block in it. -/
def un5 (t : Fin cfg0.N) : Bf (F := F) c (win0_5.stage (cfg0.slots t 5)) :=
  (hstage0_5 ((cfg0.slots t 5).cast nbuf0_5)).unread (iblk m c 5 t)

/-- Window 6's staging buffer at point `t`, the window's block in it. -/
def un6 (t : Fin cfg0.N) : Bf (F := F) c (win0_6.stage (cfg0.slots t 6)) :=
  (hstage0_6 ((cfg0.slots t 6).cast nbuf0_6)).unread (iblk m c 6 t)

/-- Window 7's staging buffer at point `t`, the window's block in it. -/
def un7 (t : Fin cfg0.N) : Bf (F := F) c (win0_7.stage (cfg0.slots t 7)) :=
  (hstage0_7 ((cfg0.slots t 7).cast nbuf0_7)).unread (iblk m c 7 t)

/-- Window 8's staging buffer at point `t`, the window's block in it. -/
def un8 (t : Fin cfg0.N) : Bf (F := F) c (win0_8.stage (cfg0.slots t 8)) :=
  (hstage0_8 ((cfg0.slots t 8).cast nbuf0_8)).unread (iblk m c 8 t)

/-- The first point of the batch of point `t`. -/
def fst0 (t : Fin cfg0.N) : Fin cfg0.N := ⟨t.val - t.val % 4, lt_of_le_of_lt (Nat.sub_le _ _) t.isLt⟩

/-- What the count of the edges leaves when made at point `t`. -/
def proAt (t : Fin cfg0.N) : Bf (F := F) c (Memref.whole cc0_scratch0) × Bf (F := F) c (Memref.whole cc0_scratch1) :=
  proF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un2 m c t) (un3 m c t) (Memref.whole cc0_scratch0).view.junk (Memref.whole cc0_scratch1).view.junk

/-- The bias of the batch of point `t`. -/
def biasAt (t : Fin cfg0.N) : Bf (F := F) c (Memref.whole cc0_scratch0) := (proAt m c (fst0 t)).1

/-- The output block's buffer after point `t`. -/
def outB (t : Fin cfg0.N) : Bf (F := F) c (win0_9.stage (cfg0.slots t 9)) :=
  (win0_9.stage (cfg0.slots t 9)).view.writes (Elt F) (win0_9.stage (cfg0.slots t 9)).view.junk
    (headsRun.sl.H11_16 c (grid0.coords t) (win0_1.stage (cfg0.slots t 1)) (win0_4.stage (cfg0.slots t 4)) (win0_5.stage (cfg0.slots t 5)) (win0_6.stage (cfg0.slots t 6)) (win0_7.stage (cfg0.slots t 7)) (win0_8.stage (cfg0.slots t 8)) (Memref.whole cc0_scratch0) (un1 m c t) (un4 m c t) (un5 m c t) (un6 m c t) (un7 m c t) (un8 m c t) (biasAt m c t))

/-- The scratch buffers between the points: within a batch the first one holds the batch's bias. -/
def PhiS (k : ℕ) : sProp 𝕄 :=
  iprop(∃ f14 f15 f16 f17 f18, ⌜k % 4 ≠ 0 → ∀ t : Fin cfg0.N, t.val + 1 = k → f14 = biasAt m c t⌝
    ∗ pt c (Memref.whole cc0_scratch0) f14 ∗ pt c (Memref.whole cc0_scratch1) f15 ∗ pt c (Memref.whole cc0_scratch2) f16
    ∗ pt c (Memref.whole cc0_scratch3) f17 ∗ pt c (Memref.whole cc0_scratch4) f18 ∗ ∃ r, prngReg c r)
end

section
variable (m : (ℓ : Loc nD τ sig) → Buf (Elt F) ℓ)

/-- The pipeline's proof data: the inputs' blocks stay in place, the output block is what the heads leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (win0_9.stage (cfg0.slots t 9)).view.read (Elt F) (outB m c t)
    | ⟨10, _⟩ => fun _ => Classical.arbitrary _
    | ⟨11, _⟩ => fun _ => Classical.arbitrary _
  Φ k := PhiS m c k.val
  q w := Pipeline.shareOf spec0 w
  owed _ := 0

/-- The windows whose contents are not stated: the scores and the row statistics. -/
def fgt (w : Fin 12) : Bool := match w with
  | ⟨10, _⟩ => true
  | ⟨11, _⟩ => true
  | _ => false

theorem bef0 (c : Dev nD) (t : Fin cfg0.N) (d) : (dats m 0 c).before 0 t d = iblk m c 0 t := before0_0_of m (dats m 0 c) rfl (fun _ => rfl) t d
theorem bef1 (c : Dev nD) (t : Fin cfg0.N) (d) : (dats m 0 c).before 1 t d = iblk m c 1 t := before0_1_of m (dats m 0 c) rfl (fun _ => rfl) t d
theorem bef2 (c : Dev nD) (t : Fin cfg0.N) (d) : (dats m 0 c).before 2 t d = iblk m c 2 t := before0_2_of m (dats m 0 c) rfl (fun _ => rfl) t d
theorem bef3 (c : Dev nD) (t : Fin cfg0.N) (d) : (dats m 0 c).before 3 t d = iblk m c 3 t := before0_3_of m (dats m 0 c) rfl (fun _ => rfl) t d
theorem bef4 (c : Dev nD) (t : Fin cfg0.N) (d) : (dats m 0 c).before 4 t d = iblk m c 4 t := before0_4_of m (dats m 0 c) rfl (fun _ => rfl) t d
theorem bef5 (c : Dev nD) (t : Fin cfg0.N) (d) : (dats m 0 c).before 5 t d = iblk m c 5 t := before0_5_of m (dats m 0 c) rfl (fun _ => rfl) t d
theorem bef6 (c : Dev nD) (t : Fin cfg0.N) (d) : (dats m 0 c).before 6 t d = iblk m c 6 t := before0_6_of m (dats m 0 c) rfl (fun _ => rfl) t d
theorem bef7 (c : Dev nD) (t : Fin cfg0.N) (d) : (dats m 0 c).before 7 t d = iblk m c 7 t := before0_7_of m (dats m 0 c) rfl (fun _ => rfl) t d
theorem bef8 (c : Dev nD) (t : Fin cfg0.N) (d) : (dats m 0 c).before 8 t d = iblk m c 8 t := before0_8_of m (dats m 0 c) rfl (fun _ => rfl) t d

theorem first_iff : ∀ t : Fin grid0.N, First (grid0.coords t) ↔ t.val % 4 = 0 := by decide

theorem bias_step (c : Dev nD) (t : Fin cfg0.N) (f14 : Bf (F := F) c (Memref.whole cc0_scratch0)) (f15 : Bf (F := F) c (Memref.whole cc0_scratch1))
    (h : t.val % 4 ≠ 0 → ∀ s : Fin cfg0.N, s.val + 1 = t.val → f14 = biasAt m c s) :
    (proF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un2 m c t) (un3 m c t) f14 f15).1 = biasAt m c t := by
  by_cases ht : First (grid0.coords t)
  · have h0 : fst0 t = t := Fin.ext (by have := (first_iff t).mp ht; show t.val - t.val % 4 = t.val; omega)
    unfold biasAt proAt
    rw [h0]
    unfold proF
    rw [dif_pos ht, dif_pos ht]
  · have h1 : t.val % 4 ≠ 0 := fun e => ht ((first_iff t).mpr e)
    have hlt : t.val - 1 < cfg0.N := lt_of_le_of_lt (Nat.sub_le _ _) t.isLt
    have h2 := h h1 ⟨t.val - 1, hlt⟩ (by show t.val - 1 + 1 = t.val; omega)
    unfold proF
    rw [dif_neg ht]
    show f14 = _
    rw [h2]
    unfold biasAt
    congr 2
    apply Fin.ext
    show (t.val - 1) - (t.val - 1) % 4 = t.val - t.val % 4
    omega

/-- What the heads leave in the output block. -/
theorem heads_out (c : Dev nD) (i : grid0.Coords) (arg2 : Memref sig .tc .smem S2x129 .i32) (harg2 : arg2.IsWhole) (arg3 : Memref sig .tc .smem S2x32 .f32) (harg3 : arg3.IsWhole) (arg4 : Memref sig .tc .vmem S2x3072 .i32) (harg4 : arg4.IsWhole) (arg5 : Memref sig .tc .vmem S2x129 .i32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x160x128 .fp8e4m3) (harg8 : arg8.IsWhole) (arg9 : Memref sig .tc .vmem S1x8x160x128 .fp8e4m3) (harg9 : arg9.IsWhole) (arg10 : Memref sig .tc .vmem S1x1280x128 .fp8e4m3) (harg10 : arg10.IsWhole) (arg11 : Memref sig .tc .vmem S1x128x1280 .bf16) (harg11 : arg11.IsWhole) (arg12 : Memref sig .tc .vmem S1x8x3072 .f32) (harg12 : arg12.IsWhole) (arg13 : Memref sig .tc .vmem S1x32x128 .f32) (harg13 : arg13.IsWhole) (arg14 : Memref sig .tc .vmem S128x128 .f32) (harg14 : arg14.IsWhole) (arg15 : Memref sig .tc .vmem S192x128 .i32) (harg15 : arg15.IsWhole) (arg16 : Memref sig .tc .vmem S1024x128 .f32) (harg16 : arg16.IsWhole) (arg17 : Memref sig .tc .vmem S128x128 .f32) (harg17 : arg17.IsWhole) (arg18 : Memref sig .tc .vmem S128x128 .f32) (harg18 : arg18.IsWhole)
    (f3 : Bf (F := F) c arg3) (f6 : Bf (F := F) c arg6) (f7 : Bf (F := F) c arg7) (f8 : Bf (F := F) c arg8) (f9 : Bf (F := F) c arg9)
    (f10 : Bf (F := F) c arg10) (f14 : Bf (F := F) c arg14) (f17 : Bf (F := F) c arg17) (f18 : Bf (F := F) c arg18) :
    (headsRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f6 f7 f8 f9 f10 f14 f17 f18).val.1.1
      = arg11.view.writes (Elt F) arg11.view.junk (headsRun.sl.H11_16 c i arg3 arg6 arg7 arg8 arg9 arg10 arg14 f3 f6 f7 f8 f9 f10 f14) := rfl

theorem out_step (c : Dev nD) (t : Fin cfg0.N) (f14 : Bf (F := F) c (Memref.whole cc0_scratch0)) (f15 : Bf (F := F) c (Memref.whole cc0_scratch1))
    (f17 : Bf (F := F) c (Memref.whole cc0_scratch3)) (f18 : Bf (F := F) c (Memref.whole cc0_scratch4))
    (h : (proF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un2 m c t) (un3 m c t) f14 f15).1 = biasAt m c t) :
    (hdF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un1 m c t) (un2 m c t) (un3 m c t) (un4 m c t) (un5 m c t) (un6 m c t) (un7 m c t) (un8 m c t) f14 f15 f17 f18).1.1 = outB m c t := by
  unfold hdF outB
  rw [heads_out, h]

/-- The words that the compaction reads are in range at every point. -/
def AllChk : Prop := ∀ (c : Dev nD) (t : Fin cfg0.N),
  Chk c (grid0.coords t) (win0_0.stage (cfg0.slots t 0)) (un0 m c t) ∧ EndChk c (grid0.coords t) (win0_0.stage (cfg0.slots t 0)) (un0 m c t)

variable (hchk : AllChk m)
include hchk

set_option maxHeartbeats 4000000 in
theorem body_obligation (c : Dev nD) : BodyObligationLoose (dats m 0 c) (defs₀ (F := F)) Variants.none () Set.univ fgt := fun t => by
  rw [bigSep_W0, bigSep_W0]
  show iprop(PhiS m c t.val ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d))
      ∗ (∃ X, owns (c : Thread nD τ) (win0_10.stage (cfg0.slots t 10)) fullShare X)
      ∗ (∃ X, owns (c : Thread nD τ) (win0_11.stage (cfg0.slots t 11)) fullShare X))
    ⊢ wp frame (wpE (defs₀ (F := F)) Variants.none c none) Set.univ (bodyAt0 t) (fun _ =>
      iprop(PhiS m c (t.val + 1) ∗ (dats m 0 c).owesAt () t.castSucc
      ∗ owns (c : Thread nD τ) (win0_0.stage (cfg0.slots t 0)) fullShare (iblk m c 0 t)
      ∗ owns (c : Thread nD τ) (win0_1.stage (cfg0.slots t 1)) fullShare (iblk m c 1 t)
      ∗ owns (c : Thread nD τ) (win0_2.stage (cfg0.slots t 2)) fullShare (iblk m c 2 t)
      ∗ owns (c : Thread nD τ) (win0_3.stage (cfg0.slots t 3)) fullShare (iblk m c 3 t)
      ∗ owns (c : Thread nD τ) (win0_4.stage (cfg0.slots t 4)) fullShare (iblk m c 4 t)
      ∗ owns (c : Thread nD τ) (win0_5.stage (cfg0.slots t 5)) fullShare (iblk m c 5 t)
      ∗ owns (c : Thread nD τ) (win0_6.stage (cfg0.slots t 6)) fullShare (iblk m c 6 t)
      ∗ owns (c : Thread nD τ) (win0_7.stage (cfg0.slots t 7)) fullShare (iblk m c 7 t)
      ∗ owns (c : Thread nD τ) (win0_8.stage (cfg0.slots t 8)) fullShare (iblk m c 8 t)
      ∗ owns (c : Thread nD τ) (win0_9.stage (cfg0.slots t 9)) fullShare ((win0_9.stage (cfg0.slots t 9)).view.read (Elt F) (outB m c t))
      ∗ (∃ X, owns (c : Thread nD τ) (win0_10.stage (cfg0.slots t 10)) fullShare X)
      ∗ (∃ X, owns (c : Thread nD τ) (win0_11.stage (cfg0.slots t 11)) fullShare X)))
  unfold PhiS
  iintro ⟨⟨%f14, %f15, %f16, %f17, %f18, %hb, H14, H15, H16, H17, H18, Hg⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%X10, H10⟩, ⟨%X11, H11⟩⟩
  rw [bef0 m c t]
  rw [bef1 m c t]
  rw [bef2 m c t]
  rw [bef3 m c t]
  rw [bef4 m c t]
  rw [bef5 m c t]
  rw [bef6 m c t]
  rw [bef7 m c t]
  rw [bef8 m c t]
  ihave H0 := (owns_pt c (win0_0.stage (cfg0.slots t 0)) (hstage0_0 ((cfg0.slots t 0).cast nbuf0_0)) _) $$ H0
  ihave H1 := (owns_pt c (win0_1.stage (cfg0.slots t 1)) (hstage0_1 ((cfg0.slots t 1).cast nbuf0_1)) _) $$ H1
  ihave H2 := (owns_pt c (win0_2.stage (cfg0.slots t 2)) (hstage0_2 ((cfg0.slots t 2).cast nbuf0_2)) _) $$ H2
  ihave H3 := (owns_pt c (win0_3.stage (cfg0.slots t 3)) (hstage0_3 ((cfg0.slots t 3).cast nbuf0_3)) _) $$ H3
  ihave H4 := (owns_pt c (win0_4.stage (cfg0.slots t 4)) (hstage0_4 ((cfg0.slots t 4).cast nbuf0_4)) _) $$ H4
  ihave H5 := (owns_pt c (win0_5.stage (cfg0.slots t 5)) (hstage0_5 ((cfg0.slots t 5).cast nbuf0_5)) _) $$ H5
  ihave H6 := (owns_pt c (win0_6.stage (cfg0.slots t 6)) (hstage0_6 ((cfg0.slots t 6).cast nbuf0_6)) _) $$ H6
  ihave H7 := (owns_pt c (win0_7.stage (cfg0.slots t 7)) (hstage0_7 ((cfg0.slots t 7).cast nbuf0_7)) _) $$ H7
  ihave H8 := (owns_pt c (win0_8.stage (cfg0.slots t 8)) (hstage0_8 ((cfg0.slots t 8).cast nbuf0_8)) _) $$ H8
  ihave H9 := (owns_pt c (win0_9.stage (cfg0.slots t 9)) (hstage0_9 ((cfg0.slots t 9).cast nbuf0_9)) _) $$ H9
  ihave H10 := (owns_pt c (win0_10.stage (cfg0.slots t 10)) (hstage0_10 ((cfg0.slots t 10).cast nbuf0_10)) _) $$ H10
  ihave H11 := (owns_pt c (win0_11.stage (cfg0.slots t 11)) (hstage0_11 ((cfg0.slots t 11).cast nbuf0_11)) _) $$ H11
  have hb' := bias_step m c t f14 f15 hb
  iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (un0 m c t) (un1 m c t) (un2 m c t) (un3 m c t) (un4 m c t) (un5 m c t) (un6 m c t) (un7 m c t) (un8 m c t) _ f14 f15 f17 f18 _ _ f16 (hchk c t).1 (hchk c t).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  isplitl [H15]; · iexact H15
  isplitl [H16]; · iexact H16
  isplitl [H17]; · iexact H17
  isplitl [H18]; · iexact H18
  iintro ⟨H0, H1, H2, H3, H4, H5, H6, H7, H8, H9, H10, H11, H14, H15, ⟨%g16, H16⟩, H17, H18⟩
  rw [out_step m c t f14 f15 f17 f18 hb', hb']
  isplitl [H14 H15 H16 H17 H18 Hg]
  · iexists _, _, _, _, _
    isplitr
    · ipureintro
      intro _ s hs
      have : s = t := Fin.ext (by omega)
      subst this
      rfl
    isplitl [H14]; · iexact H14
    isplitl [H15]; · iexact H15
    isplitl [H16]; · iexact H16
    isplitl [H17]; · iexact H17
    isplitl [H18]; · iexact H18
    iexact Hg
  isplitl [Howes]; · iexact Howes
  isplitl [H0]; · iapply (pt_owns_unread c _ (hstage0_0 ((cfg0.slots t 0).cast nbuf0_0)) _); iexact H0
  isplitl [H1]; · iapply (pt_owns_unread c _ (hstage0_1 ((cfg0.slots t 1).cast nbuf0_1)) _); iexact H1
  isplitl [H2]; · iapply (pt_owns_unread c _ (hstage0_2 ((cfg0.slots t 2).cast nbuf0_2)) _); iexact H2
  isplitl [H3]; · iapply (pt_owns_unread c _ (hstage0_3 ((cfg0.slots t 3).cast nbuf0_3)) _); iexact H3
  isplitl [H4]; · iapply (pt_owns_unread c _ (hstage0_4 ((cfg0.slots t 4).cast nbuf0_4)) _); iexact H4
  isplitl [H5]; · iapply (pt_owns_unread c _ (hstage0_5 ((cfg0.slots t 5).cast nbuf0_5)) _); iexact H5
  isplitl [H6]; · iapply (pt_owns_unread c _ (hstage0_6 ((cfg0.slots t 6).cast nbuf0_6)) _); iexact H6
  isplitl [H7]; · iapply (pt_owns_unread c _ (hstage0_7 ((cfg0.slots t 7).cast nbuf0_7)) _); iexact H7
  isplitl [H8]; · iapply (pt_owns_unread c _ (hstage0_8 ((cfg0.slots t 8).cast nbuf0_8)) _); iexact H8
  isplitl [H9]; · iapply (pt_owns c _ (hstage0_9 ((cfg0.slots t 9).cast nbuf0_9)) _); iexact H9
  isplitl [H10]; · iexists _; iapply (pt_owns c _ (hstage0_10 ((cfg0.slots t 10).cast nbuf0_10)) _); iexact H10
  iexists _; iapply (pt_owns c _ (hstage0_11 ((cfg0.slots t 11).cast nbuf0_11)) _); iexact H11
end

end Cert.Proof.KernelIdeal

end
-- ==== Proof.KernelIdeal.Words.lean ====
module

public import proofs.«01_k».proof.Proof.KernelIdeal.Loop
public import Idealize.ShloMosaic.Lib.Routing.Words

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The quotient by 128 as the kernel computes it, of a word that is not negative. -/
theorem fd128 (n : ℕ) (hn : n < 2 ^ 31) :
    Scalar.select (Scalar.andi (Scalar.cmpi .ne
        (Scalar.subi (Scalar.extui (Scalar.cmpi .sgt (BitVec.ofNat 32 n) 0#32)) (Scalar.extui (Scalar.cmpi .slt (BitVec.ofNat 32 n) 0#32)))
        (Scalar.subi (Scalar.extui (Scalar.cmpi .sgt 128#32 0#32)) (Scalar.extui (Scalar.cmpi .slt 128#32 0#32))))
      (Scalar.cmpi .ne (Scalar.remsi (BitVec.ofNat 32 n) 128#32) 0#32))
      (Scalar.subi (Scalar.divsi (BitVec.ofNat 32 n) 128#32) 1#32) (Scalar.divsi (BitVec.ofNat 32 n) 128#32)
      = BitVec.ofNat 32 (n / 128) := by
  have hd : Scalar.divsi (BitVec.ofNat 32 n) 128#32 = BitVec.ofNat 32 (n / 128) := Routing.divsi_word .scalar hn (by omega) (by omega)
  have hr : Scalar.remsi (BitVec.ofNat 32 n) 128#32 = BitVec.ofNat 32 (n % 128) := Routing.remsi_word .scalar hn (by omega) (by omega)
  rw [hd, hr]
  rcases Nat.eq_zero_or_pos n with rfl | h
  · decide
  · have h1 : Scalar.cmpi .sgt (BitVec.ofNat 32 n) 0#32 = 1#1 := by
      show BitVec.ofBool _ = _
      rw [show ((0#32).slt (BitVec.ofNat 32 n)) = true from by
        rw [BitVec.slt_eq_decide]; simp only [decide_eq_true_eq]
        rw [BitVec.toInt_eq_toNat_of_lt (x := BitVec.ofNat 32 n) (by rw [BitVec.toNat_ofNat]; omega), BitVec.toNat_ofNat]
        simp; omega]
      rfl
    have h2 : Scalar.cmpi .slt (BitVec.ofNat 32 n) 0#32 = 0#1 := by
      show BitVec.ofBool _ = _
      rw [show ((BitVec.ofNat 32 n).slt 0#32) = false from by
        rw [BitVec.slt_eq_decide]; simp only [decide_eq_false_iff_not]
        rw [BitVec.toInt_eq_toNat_of_lt (x := BitVec.ofNat 32 n) (by rw [BitVec.toNat_ofNat]; omega), BitVec.toNat_ofNat]
        simp; omega]
      rfl
    rw [h1, h2]
    rw [show Scalar.cmpi .ne (Scalar.subi (Scalar.extui 1#1) (Scalar.extui 0#1))
        (Scalar.subi (Scalar.extui (Scalar.cmpi .sgt 128#32 0#32)) (Scalar.extui (Scalar.cmpi .slt 128#32 0#32))) = 0#1 from by decide]
    rw [show ∀ b : BitVec 1, Scalar.andi 0#1 b = 0#1 from by decide]
    rfl

theorem slt_ofNat (a b : ℕ) (ha : a < 2 ^ 31) (hb : b < 2 ^ 31) : (BitVec.ofNat 32 a).slt (BitVec.ofNat 32 b) = decide (a < b) := by
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem chk1_dec : ∀ q : Fin 24, (8 ∣ (Scalar.muli (BitVec.ofNat 32 q.val) 8#32).toNat)
    ∧ (∀ a : Fin 2, (![(Scalar.indexCast (Scalar.muli (BitVec.ofNat 32 q.val) 8#32)).toNat, 0] : Fin 2 → ℕ) a + S8x128.size a ≤ S192x128.size a)
    ∧ (128 ∣ (Scalar.muli (BitVec.ofNat 32 q.val) 128#32).toNat)
    ∧ (∀ a : Fin 3, (![0, 0, (Scalar.indexCast (Scalar.muli (BitVec.ofNat 32 q.val) 128#32)).toNat] : Fin 3 → ℕ) a + S1x8x128.size a ≤ S1x8x3072.size a) := by
  decide

/-- The checks of a row's first entry hold below the array's length. -/
theorem chk1_of (n : ℕ) (hn : n < 3072) : k0_chk1 (BitVec.ofNat 32 n) := by
  unfold k0_chk1 k0_mult1 k0_off4 k0_mult4 k0_off7
  dsimp only
  rw [fd128 n (by omega)]
  exact chk1_dec ⟨n / 128, by omega⟩

/-- The checks of a row's end hold of every word that is not negative. -/
theorem chk2_of (n : ℕ) (hn : n < 2 ^ 31) : k0_chk2 (BitVec.ofNat 32 n) := by
  unfold k0_chk2 k0_mult2 k0_off5
  dsimp only
  rw [fd128 n hn]
  have hm : Scalar.minsi (BitVec.ofNat 32 (n / 128)) 23#32 = BitVec.ofNat 32 (min (n / 128) 23) := by
    show (if _ then _ else _) = _
    rw [slt_ofNat (n / 128) 23 (by omega) (by omega)]
    by_cases h : n / 128 < 23
    · rw [if_pos (by simpa using h), min_eq_left (by omega)]
    · rw [if_neg (by simpa using h), min_eq_right (by omega)]
  rw [hm]
  have := chk1_dec ⟨min (n / 128) 23, by omega⟩
  exact ⟨this.1, this.2.1⟩

theorem cond2_lt (n : ℕ) (hn : n < 2 ^ 31) (h : k0_cond2 (BitVec.ofNat 32 n) = 1#1) : n / 128 < 24 := by
  unfold k0_cond2 at h
  dsimp only at h
  rw [fd128 n hn] at h
  by_contra hc
  have : Scalar.cmpi .sle (BitVec.ofNat 32 (n / 128)) 23#32 = 0#1 := by
    show BitVec.ofBool _ = _
    rw [show (BitVec.ofNat 32 (n / 128)).sle 23#32 = false from by
      rw [BitVec.sle_eq_not_slt, slt_ofNat 23 (n / 128) (by omega) (by omega)]
      simp; omega]
    rfl
  rw [this] at h
  exact absurd h (by decide)

/-- The checks of the last row's end hold of every word that is not negative. -/
theorem chk3_of (n : ℕ) (hn : n < 2 ^ 31) : k0_chk3 (BitVec.ofNat 32 n) := by
  unfold k0_chk3
  have key : k0_cond2 (BitVec.ofNat 32 n) = 1#1 → (128 ∣ (k0_mult5 (BitVec.ofNat 32 n)).toNat) ∧
      ∀ a, (k0_off9 (BitVec.ofNat 32 n)) a + S1x8x128.size a ≤ S1x8x3072.size a := by
    intro h
    have hq := cond2_lt n hn h
    unfold k0_mult5 k0_off9
    dsimp only
    rw [fd128 n hn]
    have := chk1_dec ⟨n / 128, hq⟩
    exact ⟨this.2.2.1, this.2.2.2⟩
  exact ⟨fun h => (key h).1, fun h => (key h).2⟩

end Cert.Proof.KernelIdeal

end
-- ==== Proof.KernelIdeal.Frame.lean ====
module

public import proofs.«01_k».proof.Proof.KernelIdeal.Dats
public import proofs.«01_k».proof.Proof.KernelIdeal.Words
public import proofs.«01_k».proof.Proof.Rows
public import Idealize.ShloMosaic.Lib.WholeRead

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- The row table as the launch finds it. -/
abbrev rowT (c : Dev nD) : S2x129.Idx → BitVec 32 := m ((c : Thread nD τ).loc main_arg6)

/-- The row table's window is the whole table at every point. -/
theorem iblk0_eq (c : Dev nD) (t : Fin cfg0.N) (x : S2x129.Idx) : iblk m c 0 t x = rowT m c x := by
  have h : iblk m c 0 t x = V m c main_arg6 (((cfg0.win 0).blk t).view.emb x) := rfl
  rw [h, V_main_arg6]
  refine congrArg (rowT m c) ?_
  funext a
  fin_cases a
  · apply Fin.ext; exact (cfg0.win 0).rect_emb_val_of_index_zero t 0 rfl x
  · apply Fin.ext; exact (cfg0.win 0).rect_emb_val_of_index_zero t 1 rfl x

/-- A word read from the row table's staging buffer. -/
theorem wd_eq (c : Dev nD) (t : Fin cfg0.N) (off : Fin 2 → ℕ) (h : ∀ a, off a + S1x1.size a ≤ S2x129.size a) (b : Fin 2) (k : Fin 129)
    (h0 : off 0 = b.val) (h1 : off 1 = k.val) :
    wd c (win0_0.stage (cfg0.slots t 0)) (un0 m c t) off h = rowT m c (rix b k) := by
  unfold wd un0
  rw [Memref.IsWhole.readAt_unread]
  rw [iblk0_eq]
  refine congrArg (rowT m c) ?_
  funext a
  fin_cases a
  · apply Fin.ext; show off 0 + _ = b.val; rw [h0]; rfl
  · apply Fin.ext; show off 1 + _ = k.val; rw [h1]; rfl

theorem trips128 : k0_t1_loop.trips = 128 := by decide

theorem off2_val : ∀ (i : Fin 2) (k : Fin 128), (Scalar.indexCast (BitVec.ofNat 32 i.val)).toNat = i.val
    ∧ (Scalar.indexCast (Scf.iv 0#32 1#32 k.val)).toNat = k.val ∧ (Scalar.indexCast (Scalar.addi (Scf.iv 0#32 1#32 k.val) 1#32)).toNat = k.val + 1 := by
  decide +kernel

/-- A table in order satisfies every check the compaction makes. -/
theorem allChk_of (h : ∀ c, RowOK (rowT m c)) : AllChk m := fun c t => by
  have hi : (grid0.coords t 0).val < 2 := (grid0.coords t 0).isLt
  have hk : ∀ k : Fin k0_t1_loop.trips, k.val < 128 := fun k => lt_of_lt_of_eq k.isLt trips128
  have hb := (off2_val ⟨(grid0.coords t 0).val, hi⟩ ⟨0, by decide⟩).1
  have h0 := fun k : Fin k0_t1_loop.trips => (off2_val ⟨0, by decide⟩ ⟨k, hk k⟩).2.1
  have h1 := fun k : Fin k0_t1_loop.trips => (off2_val ⟨0, by decide⟩ ⟨k, hk k⟩).2.2
  refine ⟨⟨fun k => ?_, fun k => ?_⟩, ?_⟩
  · have hk' := hk k
    rw [wd_eq m c t _ _ ⟨_, hi⟩ ⟨k.val, by omega⟩ hb (h0 k)]
    obtain ⟨n, _, e, hn⟩ := (h c).word ⟨_, hi⟩ ⟨k.val, by omega⟩
    rw [e]
    exact chk1_of n (hn (by show k.val ≤ 127; omega))
  · have hk' := hk k
    rw [wd_eq m c t _ _ ⟨_, hi⟩ ⟨k.val + 1, by omega⟩ hb (h1 k)]
    obtain ⟨n, hn, e, _⟩ := (h c).word ⟨_, hi⟩ ⟨k.val + 1, by omega⟩
    rw [e]
    exact chk2_of n hn
  · show k0_chk3 _
    rw [wd_eq m c t _ _ ⟨_, hi⟩ ⟨128, by omega⟩ hb rfl]
    obtain ⟨n, hn, e, _⟩ := (h c).word ⟨_, hi⟩ ⟨128, by omega⟩
    rw [e]
    exact chk3_of n hn

theorem phi_in (c : Dev nD) : (Pipeline.ΦA spec0 c : sProp 𝕄) ⊢ PhiS m c 0 := by
  unfold Pipeline.ΦA PhiS
  rw [scopedRest0_eq c]
  iintro ⟨⟨⟨%f14, H14⟩, ⟨%f15, H15⟩, ⟨%f16, H16⟩, ⟨%f17, H17⟩, ⟨%f18, H18⟩⟩, Hg⟩
  iexists f14, f15, f16, f17, f18
  isplitr
  · ipureintro
    intro h; exact absurd rfl h
  isplitl [H14]; · iexact H14
  isplitl [H15]; · iexact H15
  isplitl [H16]; · iexact H16
  isplitl [H17]; · iexact H17
  isplitl [H18]; · iexact H18
  iexact Hg

theorem phi_out (c : Dev nD) (k : ℕ) : PhiS m c k ⊢ (Pipeline.ΦA spec0 c : sProp 𝕄) := by
  unfold Pipeline.ΦA PhiS
  rw [scopedRest0_eq c]
  iintro ⟨%f14, %f15, %f16, %f17, %f18, -, H14, H15, H16, H17, H18, Hg⟩
  isplitr [Hg]
  · isplitl [H14]; · iexists f14; iexact H14
    isplitl [H15]; · iexists f15; iexact H15
    isplitl [H16]; · iexists f16; iexact H16
    isplitl [H17]; · iexists f17; iexact H17
    iexists f18; iexact H18
  iexact Hg

/-- The run: every window's array at what the proof data says, the rest unchanged, every counter at zero. -/
theorem run (ρ : Dev nD → PrngReg) (h : ∀ c, RowOK (rowT m c)) :
    θ_run defs (onTc (τ := τ) (main (F := F))) (s₀ m ρ) (fun r =>
      Pipeline.RDat.FramePost cfg0 (fun c => (dats m 0 c).toRForget fgt) (V m) r ∧ r.2.sem = fun _ => 0) :=
  Pipeline.θ_run_frame_track_forget_shared cfgs (dats m) 0 launch₀0 defs₀ Variants.none fgt m ρ main
    (body_obligation m (allChk_of m h)) (fun _ _ _ => rfl) (fun _ _ => rfl) (V m) (hmain m Variants.none) (fun _ _ => rfl)
    (phi_in m) (fun c => phi_out m c _) _ (fun _ h => h)

/-- The arguments at the end of a run, and the counters. -/
theorem post_args (r : PUnit × MemSt nD τ sig (Elt F))
    (h : Pipeline.RDat.FramePost cfg0 (fun c => (dats m 0 c).toRForget fgt) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (Pipeline.RDat.FramePost.arr_in h c 1 rfl).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   (Pipeline.RDat.FramePost.arr_in h c 3 rfl).trans (V_main_arg6 m c),
   (Pipeline.RDat.FramePost.arr_in h c 2 rfl).trans (V_main_arg7 m c)⟩

/-- The output array at the end of a run. -/
theorem post_out (r : PUnit × MemSt nD τ sig (Elt F))
    (h : Pipeline.RDat.FramePost cfg0 (fun c => (dats m 0 c).toRForget fgt) (V m) r) (c : Dev nD) :
    r.2.mem ((c.tc : Thread nD τ).loc main_v6_0) = (dats m 0 c).arrAt 9 cfg0.N :=
  ((dats m 0 c).toRForget_arrAt_iff (w := 9) rfl _ _).mp ((h c).1 9)

end Cert.Proof.KernelIdeal

end
-- ==== Proof.Math.lean ====
module

public import Idealize.ShloMosaic.PureOps.Ideal.Laws
public import Mathlib.Data.EReal.Inv
public import Mathlib.Algebra.BigOperators.Group.Finset.Basic

@[expose] public section

noncomputable section

namespace Cert.Proof.Math

open Idealize.ShloMosaic

variable {J : Type} [Fintype J]

/-! One row of the softmax, once over the edges of the row and once over the keys with multiplicities. -/

/-- The score of key `j` with the logarithm of its multiplicity added. -/
def T (c : J → ℕ) (s : J → EReal) (j : J) : EReal := s j + Ideal.log ((c j : ℕ) : EReal)
/-- The weight of key `j` before it is divided: all copies of the key at once. -/
def P (c : J → ℕ) (s : J → EReal) (j : J) : EReal := Ideal.exp (T c s j - Finset.univ.sup (T c s))
/-- The weight of key `j` times its scale. -/
def W (c : J → ℕ) (s vs : J → EReal) (j : J) : EReal := P c s j * Ideal.div 1 (∑ k, P c s k) * vs j

/-- The largest score among the keys which occur. -/
def M (c : J → ℕ) (s : J → EReal) : EReal := Finset.univ.sup (fun j => if c j = 0 then ⊥ else s j)
/-- The weight of one copy of key `j`. -/
def X (c : J → ℕ) (s : J → EReal) (j : J) : EReal := Ideal.exp (s j - M c s)
/-- The sum of the weights of all copies. -/
def L (c : J → ℕ) (s : J → EReal) : EReal := ∑ j, c j • X c s j
/-- The divided and scaled weight of one copy of key `j`. -/
def U (c : J → ℕ) (s vs : J → EReal) (j : J) : EReal := (if 0 < L c s then Ideal.div (X c s j) (L c s) else 0) * vs j

theorem log_nat (n : ℕ) (h : n ≠ 0) : Ideal.log ((n : ℕ) : EReal) = ((Real.log n : ℝ) : EReal) := by
  have : ((n : ℕ) : EReal) = ((n : ℝ) : EReal) := by simp
  rw [this]
  show (if (n : ℝ) ≤ 0 then (⊥ : EReal) else _) = _
  rw [if_neg (by have : (0 : ℝ) < n := by exact_mod_cast Nat.pos_of_ne_zero h
                 linarith)]

theorem log_zero : Ideal.log ((0 : ℕ) : EReal) = ⊥ := by
  have : ((0 : ℕ) : EReal) = ((0 : ℝ) : EReal) := by simp
  rw [this]
  show (if (0 : ℝ) ≤ 0 then (⊥ : EReal) else _) = _
  rw [if_pos le_rfl]

theorem T_zero (c : J → ℕ) (s : J → EReal) (j : J) (h : c j = 0) : T c s j = ⊥ := by
  unfold T; rw [h, log_zero]; exact EReal.add_bot _

theorem exp_bot : Ideal.exp ⊥ = 0 := rfl
theorem exp_real (r : ℝ) : Ideal.exp (r : EReal) = (Real.exp r : EReal) := rfl

theorem nsmul_real (n : ℕ) (r : ℝ) : n • (r : EReal) = ((n * r : ℝ) : EReal) := by
  induction n with
  | zero => simp
  | succ n ih => rw [succ_nsmul, ih, ← EReal.coe_add]; congr 1; push_cast; ring

theorem nsmul_mul (n : ℕ) (a : ℝ) (v : EReal) : n • ((a : EReal) * v) = ((n * a : ℝ) : EReal) * v := by
  induction n with
  | zero => simp
  | succ n ih =>
    rw [succ_nsmul, ih]
    rcases le_total 0 a with h | h
    · rw [← EReal.right_distrib_of_nonneg (by exact_mod_cast mul_nonneg (Nat.cast_nonneg n) h) (by exact_mod_cast h), ← EReal.coe_add]
      congr 2; push_cast; ring
    · have e1 : (n * a : ℝ) = -(n * (-a)) := by ring
      have e2 : a = - -a := by ring
      have key : ((n * (-a) : ℝ) : EReal) * v + ((-a : ℝ) : EReal) * v = (((n + 1 : ℕ) * (-a) : ℝ) : EReal) * v := by
        rw [← EReal.right_distrib_of_nonneg (by exact_mod_cast mul_nonneg (Nat.cast_nonneg n) (neg_nonneg.2 h)) (by exact_mod_cast (neg_nonneg.2 h)), ← EReal.coe_add]
        congr 2; push_cast; ring
      have key' : ((n * (-a) : ℝ) : EReal) * (-v) + ((-a : ℝ) : EReal) * (-v) = (((n + 1 : ℕ) * (-a) : ℝ) : EReal) * (-v) := by
        rw [← EReal.right_distrib_of_nonneg (by exact_mod_cast mul_nonneg (Nat.cast_nonneg n) (neg_nonneg.2 h)) (by exact_mod_cast (neg_nonneg.2 h)), ← EReal.coe_add]
        congr 2; push_cast; ring
      have neg : ∀ r : ℝ, ((-r : ℝ) : EReal) * (-v) = (r : EReal) * v := fun r => by
        rw [EReal.coe_neg, neg_mul_neg]
      have n1 : (n * (-a) : ℝ) = -(n * a) := by ring
      have n2 : ((n + 1 : ℕ) * (-a) : ℝ) = -((n + 1 : ℕ) * a) := by ring
      rw [n1, n2, neg, neg, neg] at key'
      exact key'

theorem sum_real {s : J → EReal} {f : J → ℝ} (h : ∀ j, s j = (f j : EReal)) : ∑ j, s j = ((∑ j, f j : ℝ) : EReal) := by
  have : ∀ t : Finset J, ∑ j ∈ t, s j = ((∑ j ∈ t, f j : ℝ) : EReal) := by
    classical
    intro t
    induction t using Finset.induction_on with
    | empty => simp
    | insert a t ha ih => rw [Finset.sum_insert ha, Finset.sum_insert ha, ih, h, EReal.coe_add]
  exact this _

/-- The weights vanish and so does everything made of them. -/
theorem dead (c : J → ℕ) (s vs v : J → EReal) (hP : ∀ j, P c s j = 0) (hX : ∀ j, c j ≠ 0 → X c s j = 0) (j : J) :
    (∃ r : ℝ, W c s vs j = r) ∧ W c s vs j * v j = c j • (U c s vs j * v j) := by
  have hW : W c s vs j = 0 := by unfold W; rw [hP, zero_mul, zero_mul]
  have hL : L c s = 0 := Finset.sum_eq_zero fun k _ => by
    by_cases h : c k = 0
    · rw [h, zero_nsmul]
    · rw [hX k h, nsmul_zero]
  refine ⟨⟨0, by rw [hW]; rfl⟩, ?_⟩
  have hU : U c s vs j = 0 := by unfold U; rw [hL, if_neg (lt_irrefl _), zero_mul]
  rw [hW, hU, zero_mul, nsmul_zero]

theorem sub_top' (x : EReal) : x - ⊤ = ⊥ := by rw [sub_eq_add_neg, EReal.neg_top, EReal.add_bot]

/-- The weight of a key is real, and times the value it is the copies' weights times the value. -/
theorem row [Nonempty J] (c : J → ℕ) (s vs v : J → EReal) (hvs : ∀ j, ∃ r : ℝ, vs j = r) (j : J) :
    (∃ r : ℝ, W c s vs j = r) ∧ W c s vs j * v j = c j • (U c s vs j * v j) := by
  classical
  have hTle : ∀ k, T c s k ≤ Finset.univ.sup (T c s) := fun k => Finset.le_sup (Finset.mem_univ k)
  have hMle : ∀ k, c k ≠ 0 → s k ≤ M c s := fun k hk => by
    have := Finset.le_sup (f := fun j => if c j = 0 then (⊥ : EReal) else s j) (Finset.mem_univ k)
    rw [if_neg hk] at this
    exact this
  have hTs : ∀ k, c k ≠ 0 → T c s k = s k + ((Real.log (c k) : ℝ) : EReal) := fun k hk => by
    unfold T; rw [log_nat _ hk]
  by_cases hMt : M c s = ⊤
  · -- some key which occurs scores `⊤`
    obtain ⟨k, -, hk⟩ := Finset.exists_mem_eq_sup Finset.univ Finset.univ_nonempty (fun j => if c j = 0 then (⊥ : EReal) else s j)
    have hk' : (if c k = 0 then (⊥ : EReal) else s k) = ⊤ := hk.symm.trans hMt
    have hck : c k ≠ 0 := fun h => by rw [if_pos h] at hk'; exact absurd hk' (by simp)
    rw [if_neg hck] at hk'
    have hm : Finset.univ.sup (T c s) = ⊤ := top_le_iff.1 (by
      have := hTle k
      rw [hTs k hck, hk', EReal.top_add_coe] at this
      exact this)
    refine dead c s vs v (fun j => ?_) (fun j _ => ?_) j
    · unfold P; rw [hm, sub_top']; rfl
    · unfold X; rw [hMt, sub_top']; rfl
  by_cases hMb : M c s = ⊥
  · have hs : ∀ k, c k ≠ 0 → s k = ⊥ := fun k hk => le_bot_iff.1 (hMb ▸ hMle k hk)
    have hT : ∀ k, T c s k = ⊥ := fun k => by
      by_cases hk : c k = 0
      · exact T_zero c s k hk
      · rw [hTs k hk, hs k hk, EReal.bot_add]
    refine dead c s vs v (fun j => ?_) (fun j hj => ?_) j
    · unfold P; rw [hT, sub_eq_add_neg, EReal.bot_add]; rfl
    · unfold X; rw [hs j hj, sub_eq_add_neg, EReal.bot_add]; rfl
  obtain ⟨Mr, hM⟩ : ∃ r : ℝ, M c s = r := by
    induction h : M c s using EReal.rec with
    | bot => exact absurd h hMb
    | top => exact absurd h hMt
    | coe r => exact ⟨r, rfl⟩
  -- the key where the maximum is attained
  obtain ⟨k0, hc0, hs0⟩ : ∃ k, c k ≠ 0 ∧ s k = (Mr : EReal) := by
    obtain ⟨k, -, hk⟩ := Finset.exists_mem_eq_sup Finset.univ Finset.univ_nonempty (fun j => if c j = 0 then (⊥ : EReal) else s j)
    have hk' : (if c k = 0 then (⊥ : EReal) else s k) = Mr := hk.symm.trans hM
    have hck : c k ≠ 0 := fun h => by rw [if_pos h] at hk'; exact absurd hk' (by simp)
    rw [if_neg hck] at hk'
    exact ⟨k, hck, hk'⟩
  have hcase : ∀ k, c k ≠ 0 → s k = ⊥ ∨ ∃ r : ℝ, s k = r := fun k hk => by
    have h1 := hMle k hk
    rw [hM] at h1
    induction h : s k using EReal.rec with
    | bot => exact Or.inl rfl
    | top => rw [h] at h1; exact absurd (top_le_iff.1 h1) (by simp)
    | coe r => exact Or.inr ⟨r, rfl⟩
  obtain ⟨mr, hm⟩ : ∃ r : ℝ, Finset.univ.sup (T c s) = r := by
    obtain ⟨k, -, hk⟩ := Finset.exists_mem_eq_sup Finset.univ Finset.univ_nonempty (T c s)
    induction h : Finset.univ.sup (T c s) using EReal.rec with
    | bot =>
      have := hTle k0
      rw [h, hTs k0 hc0, hs0, ← EReal.coe_add] at this
      exact absurd (le_bot_iff.1 this) (by simp)
    | top =>
      rw [h] at hk
      by_cases hck : c k = 0
      · rw [T_zero c s k hck] at hk; exact absurd hk (by simp)
      · rw [hTs k hck] at hk
        rcases hcase k hck with hb | ⟨r, hr⟩
        · rw [hb, EReal.bot_add] at hk; exact absurd hk (by simp)
        · rw [hr, ← EReal.coe_add] at hk; exact absurd hk.symm (EReal.coe_ne_top _)
    | coe r => exact ⟨r, rfl⟩
  -- one copy's weight as a real number
  let ξ : J → ℝ := fun k => if c k = 0 then 0 else (X c s k).toReal
  have hξ : ∀ k, c k ≠ 0 → X c s k = (ξ k : EReal) := fun k hk => by
    show _ = ((if c k = 0 then 0 else (X c s k).toReal : ℝ) : EReal)
    rw [if_neg hk]
    unfold X
    rw [hM]
    rcases hcase k hk with hb | ⟨r, hr⟩
    · rw [hb, sub_eq_add_neg, EReal.bot_add, exp_bot]; simp
    · rw [hr, ← EReal.coe_sub, exp_real]; simp
  have hξ0 : ∀ k, 0 ≤ ξ k := fun k => by
    by_cases hk : c k = 0
    · show 0 ≤ (if c k = 0 then 0 else (X c s k).toReal : ℝ); rw [if_pos hk]
    · have := hξ k hk
      have h2 : (0 : EReal) ≤ X c s k := by
        unfold X
        rw [hM]
        rcases hcase k hk with hb | ⟨r, hr⟩
        · rw [hb, sub_eq_add_neg, EReal.bot_add, exp_bot]
        · rw [hr, ← EReal.coe_sub, exp_real]; exact_mod_cast (Real.exp_pos _).le
      rw [this] at h2
      exact_mod_cast h2
  have hK : 0 < Real.exp (Mr - mr) := Real.exp_pos _
  have hPk : ∀ k, P c s k = ((c k * ξ k * Real.exp (Mr - mr) : ℝ) : EReal) := fun k => by
    unfold P
    rw [hm]
    by_cases hk : c k = 0
    · rw [T_zero c s k hk, sub_eq_add_neg, EReal.bot_add, exp_bot, hk]; simp
    · have hx := hξ k hk
      unfold X at hx
      rw [hM] at hx
      rw [hTs k hk]
      rcases hcase k hk with hb | ⟨r, hr⟩
      · rw [hb, sub_eq_add_neg, EReal.bot_add, exp_bot] at hx
        have : ξ k = 0 := by exact_mod_cast hx.symm
        rw [hb, EReal.bot_add, sub_eq_add_neg, EReal.bot_add, exp_bot, this]; simp
      · rw [hr, ← EReal.coe_sub, exp_real] at hx
        have : ξ k = Real.exp (r - Mr) := by exact_mod_cast hx.symm
        rw [hr, ← EReal.coe_add, ← EReal.coe_sub, exp_real, this]
        congr 1
        have hpos : (0 : ℝ) < c k := by exact_mod_cast Nat.pos_of_ne_zero hk
        rw [show r + Real.log (c k) - mr = Real.log (c k) + (r - Mr) + (Mr - mr) by ring, Real.exp_add, Real.exp_add, Real.exp_log hpos]
  have hLr : L c s = ((∑ k, c k * ξ k : ℝ) : EReal) := sum_real fun k => by
    by_cases hk : c k = 0
    · rw [hk, zero_nsmul]; simp
    · rw [hξ k hk, nsmul_real]
  have hlam : 0 < ∑ k, (c k * ξ k : ℝ) := by
    refine Finset.sum_pos' (fun k _ => mul_nonneg (Nat.cast_nonneg _) (hξ0 k)) ⟨k0, Finset.mem_univ _, ?_⟩
    have h1 := hξ k0 hc0
    unfold X at h1
    rw [hM, hs0, ← EReal.coe_sub, exp_real, sub_self, Real.exp_zero] at h1
    have : ξ k0 = 1 := by exact_mod_cast h1.symm
    rw [this, mul_one]
    exact_mod_cast Nat.pos_of_ne_zero hc0
  have hΛ : ∑ k, P c s k = (((∑ k, c k * ξ k) * Real.exp (Mr - mr) : ℝ) : EReal) := by
    rw [sum_real hPk, Finset.sum_mul]
  have hΛ0 : (((∑ k, c k * ξ k) * Real.exp (Mr - mr) : ℝ) : EReal) ≠ 0 := by
    exact_mod_cast (mul_pos hlam hK).ne'
  obtain ⟨vr, hv⟩ := hvs j
  have hW : W c s vs j = ((c j * ξ j / (∑ k, c k * ξ k) * vr : ℝ) : EReal) := by
    unfold W Ideal.div
    rw [hΛ, if_neg hΛ0, hPk, hv, one_mul, ← EReal.coe_inv, ← EReal.coe_mul, ← EReal.coe_mul]
    congr 1
    field_simp
  refine ⟨⟨_, hW⟩, ?_⟩
  by_cases hj : c j = 0
  · rw [hW, hj, zero_nsmul]; simp
  have hU : U c s vs j = ((ξ j / (∑ k, c k * ξ k) * vr : ℝ) : EReal) := by
    unfold U Ideal.div
    rw [hLr, if_pos (by exact_mod_cast hlam), if_neg (by exact_mod_cast hlam.ne'), hξ j hj, hv, ← EReal.coe_inv, ← EReal.coe_mul, ← EReal.coe_mul]
    rfl
  rw [hW, hU, nsmul_mul]
  congr 2
  ring

variable {E : Type} [Fintype E]

/-- How many edges of the row go to key `j`. -/
def cnt [DecidableEq J] (mem : E → Prop) [DecidablePred mem] (κ : E → J) (j : J) : ℕ := (Finset.univ.filter fun e => mem e ∧ κ e = j).card

/-- A sum over the edges of a row is a sum over the keys, each as often as it occurs. -/
theorem sum_edges [DecidableEq J] (mem : E → Prop) [DecidablePred mem] (κ : E → J) (f : J → EReal) :
    ∑ e, (if mem e then f (κ e) else 0) = ∑ j, cnt mem κ j • f j := by
  rw [← Finset.sum_filter, ← Finset.sum_fiberwise _ κ]
  refine Finset.sum_congr rfl fun j _ => ?_
  rw [Finset.sum_congr rfl (fun e he => by rw [(Finset.mem_filter.1 he).2]), Finset.sum_const, Finset.filter_filter]
  rfl

theorem sup_edges [DecidableEq J] (mem : E → Prop) [DecidablePred mem] (κ : E → J) (f : J → EReal) :
    Finset.univ.sup (fun e => if mem e then f (κ e) else (⊥ : EReal)) = M (cnt mem κ) f := by
  apply le_antisymm
  · refine Finset.sup_le fun e _ => ?_
    by_cases h : mem e
    · rw [if_pos h]
      have hc : cnt mem κ (κ e) ≠ 0 := Finset.card_ne_zero.2 ⟨e, Finset.mem_filter.2 ⟨Finset.mem_univ _, h, rfl⟩⟩
      have := Finset.le_sup (f := fun j => if cnt mem κ j = 0 then (⊥ : EReal) else f j) (Finset.mem_univ (κ e))
      rw [if_neg hc] at this
      exact this
    · rw [if_neg h]; exact bot_le
  · refine Finset.sup_le fun j _ => ?_
    by_cases h : cnt mem κ j = 0
    · rw [if_pos h]; exact bot_le
    · rw [if_neg h]
      obtain ⟨e, he⟩ := Finset.card_ne_zero.1 h
      obtain ⟨-, h1, h2⟩ := Finset.mem_filter.1 he
      have := Finset.le_sup (f := fun e => if mem e then f (κ e) else (⊥ : EReal)) (Finset.mem_univ e)
      rw [if_pos h1, h2] at this
      exact this

/-- The whole row: over the keys on the left, over the edges on the right. -/
theorem row_edges [DecidableEq J] [Nonempty J] (mem : E → Prop) [DecidablePred mem] (κ : E → J) (s vs v : J → EReal) (hvs : ∀ j, ∃ r : ℝ, vs j = r) :
    ∑ j, W (cnt mem κ) s vs j * v j = ∑ e, (if mem e then U (cnt mem κ) s vs (κ e) * v (κ e) else 0) := by
  rw [sum_edges mem κ (fun j => U (cnt mem κ) s vs j * v j)]
  exact Finset.sum_congr rfl fun j _ => (row _ s vs v hvs j).2

end Cert.Proof.Math

end
-- ==== Proof.Spec.lean ====
module

public import proofs.«01_k».proof.Proof.Math
public import Idealize.ShloMosaic.Lib.ValueIdx

@[expose] public section

noncomputable section

namespace Cert.Proof

open Idealize.ShloMosaic

/-- An edge counts for row `i` and key `j`. -/
def hit (lo hi ci : BitVec 32) (e j : ℕ) : Prop := lo.sle (BitVec.ofNat 32 e) = true ∧ (BitVec.ofNat 32 e).slt hi = true ∧ ci = BitVec.ofNat 32 j

instance (lo hi ci : BitVec 32) (e j : ℕ) : Decidable (hit lo hi ci e j) := by unfold hit; infer_instance

/-- The softmax's scale as a number. -/
def cst : EReal := Ideal.ofBits .f32 0x3DA1E89B#32

section
variable (a0 a1 a2 : (⟨4, ![2, 128, 32, 160]⟩ : Shape).Idx → EReal) (a3 : (⟨2, ![2, 32]⟩ : Shape).Idx → EReal)
  (a4 a5 : (⟨3, ![2, 128, 32]⟩ : Shape).Idx → EReal) (a6 : (⟨2, ![2, 129]⟩ : Shape).Idx → BitVec 32) (a7 : (⟨2, ![2, 3072]⟩ : Shape).Idx → BitVec 32)

/-- How often key `j` occurs among the edges of row `i`. -/
def mult (b : Fin 2) (i j : Fin 128) : ℕ :=
  (Finset.univ.filter fun e : Fin 3072 => hit (a6 (ValueIdx.ix2 b i.castSucc)) (a6 (ValueIdx.ix2 b i.succ)) (a7 (ValueIdx.ix2 b e)) e.val j.val).card

/-- The score of query `i` and key `j` under head `h`. -/
def score (b : Fin 2) (h : Fin 32) (i j : Fin 128) : EReal :=
  (∑ d : Fin 160, a0 (ValueIdx.ix4 b i h d) * a1 (ValueIdx.ix4 b j h d)) * (a3 (ValueIdx.ix2 b h) * a4 (ValueIdx.ix3 b j h) * cst)

/-- The output of query `i` at channel `d` of head `h`, as a sum over the keys. -/
def outK (b : Fin 2) (i : Fin 128) (h : Fin 32) (d : Fin 160) : EReal :=
  ∑ j : Fin 128, Math.W (mult a6 a7 b i) (score a0 a1 a3 a4 b h i) (fun j => a5 (ValueIdx.ix3 b j h)) j * a2 (ValueIdx.ix4 b j h d)
end

end Cert.Proof

end
-- ==== Proof.KernelIdeal.Count.lean ====
module

public import proofs.«01_k».proof.Proof.KernelIdeal.Dats
public import proofs.«01_k».proof.Proof.Spec
public import Idealize.ShloMosaic.Lib.WholeRead
public import Idealize.ShloMosaic.Lib.MatmulPlain
public import Idealize.ShloMosaic.Lib.IdealHost
public import Idealize.ShloMosaic.Lib.ValueIdx
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI

section generic
variable {F : FTy → Type} [FloatOps F]

/-- One tile of 128 entries of the count: to what the earlier tiles counted, the edges of this tile are added. -/
def tileAdd (lo hi : IVec S128x128 32) (o : BitVec 32) (ci : Vec F S1x128 .i32) (acc : FVec F S128x128 .f32) : FVec F S128x128 .f32 :=
  addf acc (matmul dot_S128x128_S128x128_S128x128_1_1_0_0_n_n none
    (truncf .bf16 (select (andi (cmpi .sge (addi (iota .tc S128x128 32 [1] iota_S128x128_d1_w32) (broadcast S128x128 o)) lo)
        (cmpi .slt (addi (iota .tc S128x128 32 [1] iota_S128x128_d1_w32) (broadcast S128x128 o)) hi))
      (broadcast S128x128 (Scalar.ofBits .f32 0x3F800000#32)) (broadcast S128x128 (Scalar.ofBits .f32 0x00000000#32))) bitsLt_bf16_f32)
    (truncf .bf16 (select (cmpi .eq (broadcastTo S128x128 ci broadcasts_S1x128_S128x128) (iota .tc S128x128 32 [0] iota_S128x128_d0_w32))
      (broadcast S128x128 (Scalar.ofBits .f32 0x3F800000#32)) (broadcast S128x128 (Scalar.ofBits .f32 0x00000000#32))) bitsLt_bf16_f32)
    (constant S128x128 .f32 0x00000000#32))

theorem inbT (r n : ℕ) (hr : r < 2) (hn : n < 24) : ∀ a, ![r, 128 * n] a + S1x128.size a ≤ S2x3072.size a := by
  intro a; fin_cases a
  · show r + 1 ≤ 2; omega
  · show 128 * n + 128 ≤ 3072; omega

/-- Tile `n` of a batch's column indices. -/
def ciT (c : Dev nD) (arg0 : BitVec 32) (arg4 : Memref sig .tc .vmem S2x3072 .i32) (f4 : Bf (F := F) c arg4) (n : ℕ) (hn : n < 24) : Vec F S1x128 .i32 :=
  Scalar.select (Scalar.cmpi .eq arg0 1#32) (View.readAt (Elt F) arg4.view (Rect.unit (s := S2x3072) ![1, 128 * n] S1x128.size (inbT 1 n (by omega) hn)).toLoadRect f4)
    (View.readAt (Elt F) arg4.view (Rect.unit (s := S2x3072) ![0, 128 * n] S1x128.size (inbT 0 n (by omega) hn)).toLoadRect f4)

/-- What the first `n` tiles count. -/
def cntUp (c : Dev nD) (arg0 : BitVec 32) (arg4 : Memref sig .tc .vmem S2x3072 .i32) (f4 : Bf (F := F) c arg4) (lo hi : IVec S128x128 32) :
    (n : ℕ) → n ≤ 24 → FVec F S128x128 .f32
  | 0, _ => broadcast S128x128 (Scalar.ofBits .f32 0x00000000#32)
  | n + 1, h => tileAdd lo hi (BitVec.ofNat 32 (128 * n)) (ciT c arg0 arg4 f4 n h) (cntUp c arg0 arg4 f4 lo hi n (Nat.le_of_succ_le h))

/-- A batch's row table, as the kernel reads it. -/
def rp0 (c : Dev nD) (arg5 : Memref sig .tc .vmem S2x129 .i32) (f5 : Bf (F := F) c arg5) : Vec F S1x129 .i32 :=
  View.readAt (Elt F) arg5.view (Rect.unit (s := S2x129) ![0, 0] S1x129.size inb_S2x129_S1x129_0_0).toLoadRect f5
def rp1 (c : Dev nD) (arg5 : Memref sig .tc .vmem S2x129 .i32) (f5 : Bf (F := F) c arg5) : Vec F S1x129 .i32 :=
  View.readAt (Elt F) arg5.view (Rect.unit (s := S2x129) ![1, 0] S1x129.size inb_S2x129_S1x129_1_0).toLoadRect f5

set_option maxRecDepth 100000 in
set_option maxHeartbeats 4000000 in
theorem H14_eq (c : Dev nD) (i : grid0.Coords) (arg4 : Memref sig .tc .vmem S2x3072 .i32) (arg5 : Memref sig .tc .vmem S2x129 .i32)
    (f4 : Bf (F := F) c arg4) (f5 : Bf (F := F) c arg5) :
    proRun.sl.H14_1 c i arg4 arg5 f4 f5 = [⟨Rect.unit (s := S128x128) ![0, 0] S128x128.size inb_S128x128_S128x128_0_0,
      shapeCast S128x128 (log (cntUp c (BitVec.ofNat 32 (i 0).val) arg4 f4 (k0_pay3 (BitVec.ofNat 32 (i 0).val) (rp0 c arg5 f5) (rp1 c arg5 f5))
        (k0_pay4 (BitVec.ofNat 32 (i 0).val) (rp0 c arg5 f5) (rp1 c arg5 f5)) 24 le_rfl)) shapeCasts_S128x128_S128x128⟩] := rfl

end generic

theorem one_bits : (Scalar.ofBits (F := Ideal) .f32 0x3F800000#32 : EReal) = 1 := Ideal.ofBits_one_f32

theorem zero_bits : (Scalar.ofBits (F := Ideal) .f32 0x00000000#32 : EReal) = 0 := Ideal.ofBits_zero_f32

theorem hitmul (A B C : Bool) : (if IntOp.andi (BitVec.ofBool A) (BitVec.ofBool B) = 1#1 then (1 : EReal) else 0) * (if BitVec.ofBool C = 1#1 then 1 else 0)
    = if A = true ∧ B = true ∧ C = true then 1 else 0 := by
  cases A <;> cases B <;> cases C <;> simp [IntOp.andi]

theorem tileAdd_apply (lo hi : IVec S128x128 32) (o : ℕ) (ci : Vec Ideal S1x128 .i32) (acc : FVec Ideal S128x128 .f32) (i j : Fin 128) :
    tileAdd lo hi (BitVec.ofNat 32 o) ci acc (ix2 i j)
      = acc (ix2 i j) + ∑ k : Fin 128, (if hit (lo (ix2 i k)) (hi (ix2 i k)) (ci (ix2 0 k)) (o + k.val) j.val then (1 : EReal) else 0) := by
  show acc (ix2 i j) + FloatOps.matmul (DotDims.transposedRhs 128 128 128) none _ _ _ (ix2 i j) = _
  rw [Ideal.matmul_transposedRhs_apply]
  congr 1
  rw [show (constant S128x128 .f32 0x00000000#32 : FVec Ideal S128x128 .f32) (ix2 i j) = 0 from zero_bits, zero_add]
  refine Finset.sum_congr rfl fun k _ => ?_
  have hw : IntOp.addi (BitVec.ofNat 32 k.val) (BitVec.ofNat 32 o) = BitVec.ofNat 32 (o + k.val) := by
    show BitVec.ofNat 32 k.val + BitVec.ofNat 32 o = _
    rw [← BitVec.ofNat_add, Nat.add_comm]
  have hb : broadcastTo S128x128 ci broadcasts_S1x128_S128x128 (ix2 j k) = ci (ix2 0 k) :=
    broadcastTo_apply ci _ _ _ (fun a => by fin_cases a <;> rfl)
  have h1 : iota .tc S128x128 32 [1] iota_S128x128_d1_w32 (ix2 i k) = BitVec.ofNat 32 k.val := iota_single_apply _ _ _ _ _ _
  have h0 : iota .tc S128x128 32 [0] iota_S128x128_d0_w32 (ix2 j k) = BitVec.ofNat 32 j.val := iota_single_apply _ _ _ _ _ _
  show (if (IntOp.andi (BitVec.ofBool ((lo (ix2 i k)).sle (IntOp.addi (iota .tc S128x128 32 [1] iota_S128x128_d1_w32 (ix2 i k)) (BitVec.ofNat 32 o))))
      (BitVec.ofBool ((IntOp.addi (iota .tc S128x128 32 [1] iota_S128x128_d1_w32 (ix2 i k)) (BitVec.ofNat 32 o)).slt (hi (ix2 i k))))) = 1#1 then (Scalar.ofBits (F := Ideal) .f32 0x3F800000#32 : EReal) else Scalar.ofBits (F := Ideal) .f32 0x00000000#32)
    * (if BitVec.ofBool (broadcastTo S128x128 ci broadcasts_S1x128_S128x128 (ix2 j k) == (iota .tc S128x128 32 [0] iota_S128x128_d0_w32 (ix2 j k))) = 1#1 then (Scalar.ofBits (F := Ideal) .f32 0x3F800000#32 : EReal) else Scalar.ofBits (F := Ideal) .f32 0x00000000#32) = _
  rw [h1, h0]
  rw [hw, hb, one_bits, zero_bits]
  rw [hitmul]
  refine if_congr ?_ rfl rfl
  unfold hit
  simp

/-- What the first `n` tiles count, at a row and a key. -/
theorem cntUp_apply (c : Dev nD) (arg0 : BitVec 32) (arg4 : Memref sig .tc .vmem S2x3072 .i32) (f4 : Bf (F := Ideal) c arg4) (lo hi : IVec S128x128 32)
    (l h : BitVec 32) (w : ℕ → BitVec 32) (i j : Fin 128) (hl : ∀ k, lo (ix2 i k) = l) (hh : ∀ k, hi (ix2 i k) = h)
    (hw : ∀ n hn (k : Fin 128), ciT c arg0 arg4 f4 n hn (ix2 0 k) = w (128 * n + k.val)) :
    ∀ n hn, cntUp c arg0 arg4 f4 lo hi n hn (ix2 i j) = ∑ e ∈ Finset.range (128 * n), (if hit l h (w e) e j.val then (1 : EReal) else 0) := by
  intro n
  induction n with
  | zero => intro _; exact zero_bits
  | succ n ih =>
    intro hn
    rw [cntUp, tileAdd_apply, ih, Nat.mul_succ, Finset.sum_range_add, Finset.sum_range (n := 128)]
    congr 1
    refine Finset.sum_congr rfl fun k _ => ?_
    rw [hl, hh, hw]

theorem cntUp_all (c : Dev nD) (arg0 : BitVec 32) (arg4 : Memref sig .tc .vmem S2x3072 .i32) (f4 : Bf (F := Ideal) c arg4) (lo hi : IVec S128x128 32)
    (l h : BitVec 32) (w : ℕ → BitVec 32) (i j : Fin 128) (hl : ∀ k, lo (ix2 i k) = l) (hh : ∀ k, hi (ix2 i k) = h)
    (hw : ∀ n hn (k : Fin 128), ciT c arg0 arg4 f4 n hn (ix2 0 k) = w (128 * n + k.val)) :
    cntUp c arg0 arg4 f4 lo hi 24 le_rfl (ix2 i j) = (((Finset.univ.filter fun e : Fin 3072 => hit l h (w e.val) e.val j.val).card : ℕ) : EReal) := by
  rw [cntUp_apply c arg0 arg4 f4 lo hi l h w i j hl hh hw, show 128 * 24 = 3072 from rfl, Finset.sum_range, Finset.sum_boole]

/-- The two bounds of row `i`, out of the batch's row table. -/
theorem pay3_apply (arg0 : BitVec 32) (r0 r1 : Vec Ideal S1x129 .i32) (i k : Fin 128) :
    k0_pay3 arg0 r0 r1 (ix2 i k) = (Scalar.select (Scalar.cmpi .eq arg0 1#32) r1 r0) (ix2 0 i.castSucc) := by
  unfold k0_pay3
  refine (transpose_apply _ _ _ _ (ix2 k i) (fun b => by fin_cases b <;> rfl)).trans ?_
  refine (broadcastTo_apply _ _ _ (ix2 0 i) (fun a => by fin_cases a <;> rfl)).trans ?_
  rw [shapeCast_self]
  exact extractStridedSlice_apply _ _ _ _ _ (fun a => by fin_cases a <;> simp <;> rfl)

theorem pay4_apply (arg0 : BitVec 32) (r0 r1 : Vec Ideal S1x129 .i32) (i k : Fin 128) :
    k0_pay4 arg0 r0 r1 (ix2 i k) = (Scalar.select (Scalar.cmpi .eq arg0 1#32) r1 r0) (ix2 0 i.succ) := by
  unfold k0_pay4
  refine (transpose_apply _ _ _ _ (ix2 k i) (fun b => by fin_cases b <;> rfl)).trans ?_
  refine (broadcastTo_apply _ _ _ (ix2 0 i) (fun a => by fin_cases a <;> rfl)).trans ?_
  rw [shapeCast_self]
  exact extractStridedSlice_apply _ _ _ _ _ (fun a => by fin_cases a; · rfl
                                                         · show i.val + 1 = 1 + i.val; omega)

end Cert.Proof.KernelIdeal

end
-- ==== Proof.KernelIdeal.HeadVal.lean ====
module

public import proofs.«01_k».proof.Proof.KernelIdeal.Count

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI

variable {F : FTy → Type} [FloatOps F]

/-- One head: from the head's queries, keys and scales, the bias and a window of 256 value columns to 256 output columns. -/
def headO (q k : Vec F S1x1x160x128 .fp8e4m3) (qs : Elt F .f32) (ks : Vec F S1x1x128 .f32) (bias : Vec F S128x128 .f32) (vs : Vec F S1x1x128 .f32)
    (v : Vec F S1x256x128 .fp8e4m3) : FVec F S128x256 .bf16 :=
  k0_pay93 (k0_pay91 (k0_pay84 q k qs ks bias) vs) (k0_pay92 (k0_pay84 q k qs ks bias) vs) v

theorem pos11 : 0 < S1x1.numel := by rw [numel1_S1x1]; exact Nat.one_pos

theorem inbQ (h : Fin 8) : ∀ a, ![0, h.val, 0, 0] a + S1x1x160x128.size a ≤ S1x8x160x128.size a := by
  intro a; fin_cases a
  · exact le_rfl
  · show h.val + 1 ≤ 8; omega
  · exact le_rfl
  · exact le_rfl
theorem inbS (h : Fin 8) : ∀ a, ![0, h.val, 0] a + S1x1x128.size a ≤ S1x8x128.size a := by
  intro a; fin_cases a
  · exact le_rfl
  · show h.val + 1 ≤ 8; omega
  · exact le_rfl
theorem inbV (h : Fin 8) : ∀ a, ![0, 128 * (160 * h.val / 128), 0] a + S1x256x128.size a ≤ S1x1280x128.size a := by
  intro a; fin_cases a
  · exact le_rfl
  · show 128 * (160 * h.val / 128) + 256 ≤ 1280; omega
  · exact le_rfl

section
variable (c : Dev nD) (i : grid0.Coords) (arg3 : Memref sig .tc .smem S2x32 .f32) (arg6 arg7 : Memref sig .tc .vmem S1x8x128 .f32)
  (arg8 arg9 : Memref sig .tc .vmem S1x8x160x128 .fp8e4m3) (arg10 : Memref sig .tc .vmem S1x1280x128 .fp8e4m3) (arg14 : Memref sig .tc .vmem S128x128 .f32)
  (f3 : Bf (F := F) c arg3) (f6 : Bf (F := F) c arg6) (f7 : Bf (F := F) c arg7) (f8 : Bf (F := F) c arg8) (f9 : Bf (F := F) c arg9)
  (f10 : Bf (F := F) c arg10) (f14 : Bf (F := F) c arg14)

/-- Head `h` of the group, on what the group's blocks hold. -/
def hd (h : Fin 8) : FVec F S128x256 .bf16 :=
  headO (View.readAt (Elt F) arg8.view (Rect.unit (s := S1x8x160x128) ![0, h.val, 0, 0] S1x1x160x128.size (inbQ h)).toLoadRect f8)
    (View.readAt (Elt F) arg9.view (Rect.unit (s := S1x8x160x128) ![0, h.val, 0, 0] S1x1x160x128.size (inbQ h)).toLoadRect f9)
    (View.readAt (Elt F) arg3.view (Rect.unit (s := S2x32) (k0_off1 i (BitVec.ofNat 32 h.val)) S1x1.size (k0_off1_inb i h)).toLoadRect f3 (Shape.Idx.first pos11))
    (View.readAt (Elt F) arg6.view (Rect.unit (s := S1x8x128) ![0, h.val, 0] S1x1x128.size (inbS h)).toLoadRect f6)
    (View.readAt (Elt F) arg14.view (Rect.unit (s := S128x128) ![0, 0] S128x128.size inb_S128x128_S128x128_0_0).toLoadRect f14)
    (View.readAt (Elt F) arg7.view (Rect.unit (s := S1x8x128) ![0, h.val, 0] S1x1x128.size (inbS h)).toLoadRect f7)
    (View.readAt (Elt F) arg10.view (Rect.unit (s := S1x1280x128) ![0, 128 * (160 * h.val / 128), 0] S1x256x128.size (inbV h)).toLoadRect f10)

/-- A piece of the output block: `w` columns of a head's window, from column `o` of it, at column `C`. -/
def pc (X : FVec F S128x256 .bf16) (C w o : ℕ) (hs : S128x256.Slices ![0, o] ⟨2, ![128, w]⟩) (hc : (⟨2, ![128, w]⟩ : Shape).ShapeCasts ⟨3, ![1, 128, w]⟩)
    (hi : ∀ a, ![0, 0, C] a + (![1, 128, w] : Fin 3 → ℕ) a ≤ S1x128x1280.size a) : View.Piece (Elt F) S1x128x1280 .bf16 :=
  ⟨Rect.unit (s := S1x128x1280) ![0, 0, C] ![1, 128, w] hi, shapeCast ⟨3, ![1, 128, w]⟩ (extractStridedSlice ⟨2, ![128, w]⟩ ![0, o] X hs) hc⟩

set_option maxRecDepth 100000 in
set_option maxHeartbeats 8000000 in
/-- The output block's pieces: two of each head. -/
theorem H11_eq : headsRun.sl.H11_16 c i arg3 arg6 arg7 arg8 arg9 arg10 arg14 f3 f6 f7 f8 f9 f10 f14 = [
    pc (hd c i arg3 arg6 arg7 arg8 arg9 arg10 arg14 f3 f6 f7 f8 f9 f10 f14 7) 1152 128 128 slices_S128x256_o0_128_S128x128 shapeCasts_S128x128_S1x128x128 inb_S1x128x1280_S1x128x128_0_0_1152,
    pc (hd c i arg3 arg6 arg7 arg8 arg9 arg10 arg14 f3 f6 f7 f8 f9 f10 f14 7) 1120 32 96 slices_S128x256_o0_96_S128x32 shapeCasts_S128x32_S1x128x32 inb_S1x128x1280_S1x128x32_0_0_1120,
    pc (hd c i arg3 arg6 arg7 arg8 arg9 arg10 arg14 f3 f6 f7 f8 f9 f10 f14 6) 1024 96 128 slices_S128x256_o0_128_S128x96 shapeCasts_S128x96_S1x128x96 inb_S1x128x1280_S1x128x96_0_0_1024,
    pc (hd c i arg3 arg6 arg7 arg8 arg9 arg10 arg14 f3 f6 f7 f8 f9 f10 f14 6) 960 64 64 slices_S128x256_o0_64_S128x64 shapeCasts_S128x64_S1x128x64 inb_S1x128x1280_S1x128x64_0_0_960,
    pc (hd c i arg3 arg6 arg7 arg8 arg9 arg10 arg14 f3 f6 f7 f8 f9 f10 f14 5) 896 64 128 slices_S128x256_o0_128_S128x64 shapeCasts_S128x64_S1x128x64 inb_S1x128x1280_S1x128x64_0_0_896,
    pc (hd c i arg3 arg6 arg7 arg8 arg9 arg10 arg14 f3 f6 f7 f8 f9 f10 f14 5) 800 96 32 slices_S128x256_o0_32_S128x96 shapeCasts_S128x96_S1x128x96 inb_S1x128x1280_S1x128x96_0_0_800,
    pc (hd c i arg3 arg6 arg7 arg8 arg9 arg10 arg14 f3 f6 f7 f8 f9 f10 f14 4) 768 32 128 slices_S128x256_o0_128_S128x32 shapeCasts_S128x32_S1x128x32 inb_S1x128x1280_S1x128x32_0_0_768,
    pc (hd c i arg3 arg6 arg7 arg8 arg9 arg10 arg14 f3 f6 f7 f8 f9 f10 f14 4) 640 128 0 slices_S128x256_o0_0_S128x128 shapeCasts_S128x128_S1x128x128 inb_S1x128x1280_S1x128x128_0_0_640,
    pc (hd c i arg3 arg6 arg7 arg8 arg9 arg10 arg14 f3 f6 f7 f8 f9 f10 f14 3) 512 128 128 slices_S128x256_o0_128_S128x128 shapeCasts_S128x128_S1x128x128 inb_S1x128x1280_S1x128x128_0_0_512,
    pc (hd c i arg3 arg6 arg7 arg8 arg9 arg10 arg14 f3 f6 f7 f8 f9 f10 f14 3) 480 32 96 slices_S128x256_o0_96_S128x32 shapeCasts_S128x32_S1x128x32 inb_S1x128x1280_S1x128x32_0_0_480,
    pc (hd c i arg3 arg6 arg7 arg8 arg9 arg10 arg14 f3 f6 f7 f8 f9 f10 f14 2) 384 96 128 slices_S128x256_o0_128_S128x96 shapeCasts_S128x96_S1x128x96 inb_S1x128x1280_S1x128x96_0_0_384,
    pc (hd c i arg3 arg6 arg7 arg8 arg9 arg10 arg14 f3 f6 f7 f8 f9 f10 f14 2) 320 64 64 slices_S128x256_o0_64_S128x64 shapeCasts_S128x64_S1x128x64 inb_S1x128x1280_S1x128x64_0_0_320,
    pc (hd c i arg3 arg6 arg7 arg8 arg9 arg10 arg14 f3 f6 f7 f8 f9 f10 f14 1) 256 64 128 slices_S128x256_o0_128_S128x64 shapeCasts_S128x64_S1x128x64 inb_S1x128x1280_S1x128x64_0_0_256,
    pc (hd c i arg3 arg6 arg7 arg8 arg9 arg10 arg14 f3 f6 f7 f8 f9 f10 f14 1) 160 96 32 slices_S128x256_o0_32_S128x96 shapeCasts_S128x96_S1x128x96 inb_S1x128x1280_S1x128x96_0_0_160,
    pc (hd c i arg3 arg6 arg7 arg8 arg9 arg10 arg14 f3 f6 f7 f8 f9 f10 f14 0) 128 32 128 slices_S128x256_o0_128_S128x32 shapeCasts_S128x32_S1x128x32 inb_S1x128x1280_S1x128x32_0_0_128,
    pc (hd c i arg3 arg6 arg7 arg8 arg9 arg10 arg14 f3 f6 f7 f8 f9 f10 f14 0) 0 128 0 slices_S128x256_o0_0_S128x128 shapeCasts_S128x128_S1x128x128 inb_S1x128x1280_S1x128x128_0_0_0] := rfl

end

end Cert.Proof.KernelIdeal

end
-- ==== Proof.KernelIdeal.Blocks.lean ====
module

public import proofs.«01_k».proof.Proof.KernelIdeal.HeadVal
public import Idealize.ShloMosaic.Lib.StableHlo.Run

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI

variable {F : FTy → Type} [FloatOps F]
variable (m : (ℓ : Loc nD τ sig) → Buf (Elt F) ℓ) (c : Dev nD)

/-- The batch of a grid point. -/
def bt (t : Fin cfg0.N) : Fin 2 := ⟨t.val / 4, by have : t.val < 8 := t.isLt; omega⟩
/-- A head of a grid point's group. -/
def ht (t : Fin cfg0.N) (h : Fin 8) : Fin 32 := ⟨8 * (t.val % 4) + h.val, by omega⟩

theorem V_v0 : (V m c main_v0 : S2x32x160x128.Idx → Elt F .fp8e4m3)
    = transpose S2x32x160x128 [0, 2, 3, 1] (m ((c : Thread nD τ).loc main_arg0) : FVec F S2x128x32x160 .fp8e4m3) transposes_S2x128x32x160_S2x32x160x128_0_2_3_1 := by
  unfold V; after_results
theorem V_v1 : (V m c main_v1 : S2x32x160x128.Idx → Elt F .fp8e4m3)
    = transpose S2x32x160x128 [0, 2, 3, 1] (m ((c : Thread nD τ).loc main_arg1) : FVec F S2x128x32x160 .fp8e4m3) transposes_S2x128x32x160_S2x32x160x128_0_2_3_1 := by
  unfold V; after_results
theorem V_v3 : (V m c main_v3 : S2x5120x128.Idx → Elt F .fp8e4m3)
    = shapeCast S2x5120x128 (transpose S2x32x160x128 [0, 2, 3, 1] (m ((c : Thread nD τ).loc main_arg2) : FVec F S2x128x32x160 .fp8e4m3) transposes_S2x128x32x160_S2x32x160x128_0_2_3_1) shapeCasts_S2x32x160x128_S2x5120x128 := by
  unfold V; after_results; rfl
theorem V_v4 : (V m c main_v4 : S2x32x128.Idx → Elt F .f32)
    = transpose S2x32x128 [0, 2, 1] (m ((c : Thread nD τ).loc main_arg4) : FVec F S2x128x32 .f32) transposes_S2x128x32_S2x32x128_0_2_1 := by
  unfold V; after_results
theorem V_v5 : (V m c main_v5 : S2x32x128.Idx → Elt F .f32)
    = transpose S2x32x128 [0, 2, 1] (m ((c : Thread nD τ).loc main_arg5) : FVec F S2x128x32 .f32) transposes_S2x128x32_S2x32x128_0_2_1 := by
  unfold V; after_results

theorem ix6 : ∀ t : Fin cfg0.N, (cfg0.win 6).index t 0 = t.val / 4 ∧ (cfg0.win 6).index t 1 = t.val % 4 ∧ (cfg0.win 6).index t 2 = 0 ∧ (cfg0.win 6).index t 3 = 0 := by
  decide +kernel
theorem ix7 : ∀ t : Fin cfg0.N, (cfg0.win 7).index t 0 = t.val / 4 ∧ (cfg0.win 7).index t 1 = t.val % 4 ∧ (cfg0.win 7).index t 2 = 0 ∧ (cfg0.win 7).index t 3 = 0 := by
  decide +kernel
theorem ix8 : ∀ t : Fin cfg0.N, (cfg0.win 8).index t 0 = t.val / 4 ∧ (cfg0.win 8).index t 1 = t.val % 4 ∧ (cfg0.win 8).index t 2 = 0 := by
  decide +kernel
theorem ix4w : ∀ t : Fin cfg0.N, (cfg0.win 4).index t 0 = t.val / 4 ∧ (cfg0.win 4).index t 1 = t.val % 4 ∧ (cfg0.win 4).index t 2 = 0 := by
  decide +kernel
theorem ix5w : ∀ t : Fin cfg0.N, (cfg0.win 5).index t 0 = t.val / 4 ∧ (cfg0.win 5).index t 1 = t.val % 4 ∧ (cfg0.win 5).index t 2 = 0 := by
  decide +kernel
theorem ix9 : ∀ t : Fin cfg0.N, (cfg0.win 9).index t 0 = t.val / 4 ∧ (cfg0.win 9).index t 1 = 0 ∧ (cfg0.win 9).index t 2 = t.val % 4 := by
  decide +kernel
theorem coords_val : ∀ t : Fin cfg0.N, (grid0.coords t 0).val = t.val / 4 ∧ (grid0.coords t 1).val = t.val % 4 := by
  decide +kernel

/-- The queries' block. -/
theorem iblk6_eq (t : Fin cfg0.N) (h : Fin 8) (d : Fin 160) (i : Fin 128) :
    iblk m c 6 t (ix4 0 h d i) = m ((c : Thread nD τ).loc main_arg0) (ix4 (bt t) i (ht t h) d) := by
  have e : iblk m c 6 t (ix4 0 h d i) = V m c main_v0 (((cfg0.win 6).blk t).view.emb (ix4 0 h d i)) := rfl
  rw [e, V_v0]
  refine transpose_apply _ _ _ _ _ fun b => ?_
  obtain ⟨h0, h1, h2, h3⟩ := ix6 t
  fin_cases b
  · refine Eq.symm (((cfg0.win 6).rect_emb_val t (ix4 0 h d i) 0).trans ?_); rw [h0]; exact Nat.mul_one _
  · refine Eq.symm (((cfg0.win 6).rect_emb_val t (ix4 0 h d i) 1).trans ?_); rw [h1]; show t.val % 4 * 8 + h.val = 8 * (t.val % 4) + h.val; omega
  · refine Eq.symm (((cfg0.win 6).rect_emb_val t (ix4 0 h d i) 2).trans ?_); rw [h2]; show 0 * 160 + d.val = d.val; omega
  · refine Eq.symm (((cfg0.win 6).rect_emb_val t (ix4 0 h d i) 3).trans ?_); rw [h3]; show 0 * 128 + i.val = i.val; omega

/-- The keys' block. -/
theorem iblk7_eq (t : Fin cfg0.N) (h : Fin 8) (d : Fin 160) (i : Fin 128) :
    iblk m c 7 t (ix4 0 h d i) = m ((c : Thread nD τ).loc main_arg1) (ix4 (bt t) i (ht t h) d) := by
  have e : iblk m c 7 t (ix4 0 h d i) = V m c main_v1 (((cfg0.win 7).blk t).view.emb (ix4 0 h d i)) := rfl
  rw [e, V_v1]
  refine transpose_apply _ _ _ _ _ fun b => ?_
  obtain ⟨h0, h1, h2, h3⟩ := ix7 t
  fin_cases b
  · refine Eq.symm (((cfg0.win 7).rect_emb_val t (ix4 0 h d i) 0).trans ?_); rw [h0]; exact Nat.mul_one _
  · refine Eq.symm (((cfg0.win 7).rect_emb_val t (ix4 0 h d i) 1).trans ?_); rw [h1]; show t.val % 4 * 8 + h.val = 8 * (t.val % 4) + h.val; omega
  · refine Eq.symm (((cfg0.win 7).rect_emb_val t (ix4 0 h d i) 2).trans ?_); rw [h2]; show 0 * 160 + d.val = d.val; omega
  · refine Eq.symm (((cfg0.win 7).rect_emb_val t (ix4 0 h d i) 3).trans ?_); rw [h3]; show 0 * 128 + i.val = i.val; omega

/-- The key scales' block. -/
theorem iblk4_eq (t : Fin cfg0.N) (h : Fin 8) (i : Fin 128) :
    iblk m c 4 t (ix3 0 h i) = m ((c : Thread nD τ).loc main_arg4) (ix3 (bt t) i (ht t h)) := by
  have e : iblk m c 4 t (ix3 0 h i) = V m c main_v4 (((cfg0.win 4).blk t).view.emb (ix3 0 h i)) := rfl
  rw [e, V_v4]
  refine transpose_apply _ _ _ _ _ fun b => ?_
  obtain ⟨h0, h1, h2⟩ := ix4w t
  fin_cases b
  · refine Eq.symm (((cfg0.win 4).rect_emb_val t (ix3 0 h i) 0).trans ?_); rw [h0]; exact Nat.mul_one _
  · refine Eq.symm (((cfg0.win 4).rect_emb_val t (ix3 0 h i) 1).trans ?_); rw [h1]; show t.val % 4 * 8 + h.val = 8 * (t.val % 4) + h.val; omega
  · refine Eq.symm (((cfg0.win 4).rect_emb_val t (ix3 0 h i) 2).trans ?_); rw [h2]; show 0 * 128 + i.val = i.val; omega

/-- The value scales' block. -/
theorem iblk5_eq (t : Fin cfg0.N) (h : Fin 8) (i : Fin 128) :
    iblk m c 5 t (ix3 0 h i) = m ((c : Thread nD τ).loc main_arg5) (ix3 (bt t) i (ht t h)) := by
  have e : iblk m c 5 t (ix3 0 h i) = V m c main_v5 (((cfg0.win 5).blk t).view.emb (ix3 0 h i)) := rfl
  rw [e, V_v5]
  refine transpose_apply _ _ _ _ _ fun b => ?_
  obtain ⟨h0, h1, h2⟩ := ix5w t
  fin_cases b
  · refine Eq.symm (((cfg0.win 5).rect_emb_val t (ix3 0 h i) 0).trans ?_); rw [h0]; exact Nat.mul_one _
  · refine Eq.symm (((cfg0.win 5).rect_emb_val t (ix3 0 h i) 1).trans ?_); rw [h1]; show t.val % 4 * 8 + h.val = 8 * (t.val % 4) + h.val; omega
  · refine Eq.symm (((cfg0.win 5).rect_emb_val t (ix3 0 h i) 2).trans ?_); rw [h2]; show 0 * 128 + i.val = i.val; omega

/-- The values' block: column `160 h + d` is channel `d` of head `h`. -/
theorem iblk8_eq (t : Fin cfg0.N) (h : Fin 8) (d : Fin 160) (k : Fin 1280) (hk : k.val = 160 * h.val + d.val) (i : Fin 128) :
    iblk m c 8 t (ix3 0 k i) = m ((c : Thread nD τ).loc main_arg2) (ix4 (bt t) i (ht t h) d) := by
  have e : iblk m c 8 t (ix3 0 k i) = V m c main_v3 (((cfg0.win 8).blk t).view.emb (ix3 0 k i)) := rfl
  rw [e, V_v3]
  obtain ⟨h0, h1, h2⟩ := ix8 t
  have e' : ((cfg0.win 8).blk t).view.emb (ix3 0 k i) = (ix3 (bt t) ⟨1280 * (t.val % 4) + k.val, by omega⟩ i : S2x5120x128.Idx) := by
    funext b
    fin_cases b
    · apply Fin.ext; refine (((cfg0.win 8).rect_emb_val t (ix3 0 k i) 0).trans ?_); rw [h0]; exact Nat.mul_one _
    · apply Fin.ext; refine (((cfg0.win 8).rect_emb_val t (ix3 0 k i) 1).trans ?_); rw [h1]; show t.val % 4 * 1280 + k.val = 1280 * (t.val % 4) + k.val; omega
    · apply Fin.ext; refine (((cfg0.win 8).rect_emb_val t (ix3 0 k i) 2).trans ?_); rw [h2]; show 0 * 128 + i.val = i.val; omega
  rw [e']
  refine (shapeCast_apply _ _ _ (ix4 (bt t) (ht t h) d i) ?_).trans ?_
  · simp only [Shape.rowMajor_val_three, Shape.rowMajor_val_four]
    show (((bt t).val * 32 + (8 * (t.val % 4) + h.val)) * 160 + d.val) * 128 + i.val = ((bt t).val * 5120 + (1280 * (t.val % 4) + k.val)) * 128 + i.val
    omega
  · exact transpose_apply _ _ _ _ _ (fun b => by fin_cases b <;> rfl)

theorem iblk1_eq (t : Fin cfg0.N) (x : S2x32.Idx) : iblk m c 1 t x = m ((c : Thread nD τ).loc main_arg3) x := by
  have h : iblk m c 1 t x = V m c main_arg3 (((cfg0.win 1).blk t).view.emb x) := rfl
  rw [h, V_main_arg3]
  refine congrArg _ ?_
  funext a
  fin_cases a
  · apply Fin.ext; exact (cfg0.win 1).rect_emb_val_of_index_zero t 0 rfl x
  · apply Fin.ext; exact (cfg0.win 1).rect_emb_val_of_index_zero t 1 rfl x
theorem iblk2_eq (t : Fin cfg0.N) (x : S2x3072.Idx) : iblk m c 2 t x = m ((c : Thread nD τ).loc main_arg7) x := by
  have h : iblk m c 2 t x = V m c main_arg7 (((cfg0.win 2).blk t).view.emb x) := rfl
  rw [h, V_main_arg7]
  refine congrArg _ ?_
  funext a
  fin_cases a
  · apply Fin.ext; exact (cfg0.win 2).rect_emb_val_of_index_zero t 0 rfl x
  · apply Fin.ext; exact (cfg0.win 2).rect_emb_val_of_index_zero t 1 rfl x
theorem iblk3_eq (t : Fin cfg0.N) (x : S2x129.Idx) : iblk m c 3 t x = m ((c : Thread nD τ).loc main_arg6) x := by
  have h : iblk m c 3 t x = V m c main_arg6 (((cfg0.win 3).blk t).view.emb x) := rfl
  rw [h, V_main_arg6]
  refine congrArg _ ?_
  funext a
  fin_cases a
  · apply Fin.ext; exact (cfg0.win 3).rect_emb_val_of_index_zero t 0 rfl x
  · apply Fin.ext; exact (cfg0.win 3).rect_emb_val_of_index_zero t 1 rfl x

end Cert.Proof.KernelIdeal

end
-- ==== Proof.KernelIdeal.HeadMath.lean ====
module

public import proofs.«01_k».proof.Proof.KernelIdeal.HeadVal
public import proofs.«01_k».proof.Proof.Math

@[expose] public section

noncomputable section

namespace Cert.Proof.KernelIdeal

open Cert.KernelIdeal Cert.KernelIdeal.Gen Cert.Proof
open Idealize.ShloMosaic Idealize.ShloMosaic.TcCoe Idealize.ShloMosaic.Tactic Idealize.ShloMosaic.ValueIdx
open Idealize.SL Idealize.SL.RA Idealize.SL.BI

theorem ninf_bits : (Ideal.ofBits .f32 0xFF800000#32 : EReal) = ⊥ := by simp [Ideal.ofBits, Ideal.ieee]

/-- A row's largest entry. -/
theorem max_row (x : FVec Ideal S128x128 .f32) (hacc : (0xFF800000#32 : BitVec 32) = FKind.maximumf.neutral .f32 (.inl rfl)) (i : Fin 128) :
    multiReduction .maximumf [1] S128 x 0xFF800000#32 reduces_S128x128_S128 (.inl rfl) hacc (ix1 i) = Finset.univ.sup (fun j : Fin 128 => x (ix2 i j)) := by
  refine (Ideal.multiReduction_maximumf_single x _ reduces_S128x128_S128 _ _ _).trans ?_
  show Finset.fold max (Ideal.ofBits .f32 0xFF800000#32 : EReal) _ _ = Finset.fold max ⊥ _ _
  rw [ninf_bits]
  refine congrArg (fun f => Finset.fold max ⊥ f Finset.univ) (funext fun k => congrArg x ?_)
  funext a; fin_cases a <;> rfl

/-- A row's sum. -/
theorem sum_row (x : FVec Ideal S128x128 .f32) (hacc : (0#32 : BitVec 32) = FKind.add.neutral .f32 (.inl rfl)) (i : Fin 128) :
    multiReduction .add [1] S128 x 0x00000000#32 reduces_S128x128_S128 (.inl rfl) hacc (ix1 i) = ∑ j : Fin 128, x (ix2 i j) := by
  refine (Ideal.multiReduction_add_single x _ reduces_S128x128_S128 _ _ _).trans ?_
  refine Finset.sum_congr rfl fun k _ => congrArg x ?_
  funext a; fin_cases a <;> rfl

theorem col_cast (x : FVec Ideal S128 .f32) (i : Fin 128) : shapeCast S128x1 x shapeCasts_S128_S128x1 (ix2 i 0) = x (ix1 i) := by
  refine shapeCast_apply _ _ _ _ ?_
  simp only [Shape.rowMajor_val_one, Shape.rowMajor_val_two, Shape.rowMajor_val_three, Shape.rowMajor_val_four]
  simp [S128, S128x1, S1x1x128, S1x128, S1x256x128, S256x128, S1x1x160x128, S160x128, ix1, ix2, ix3, ix4]

theorem bcol (x : FVec Ideal S128x1 .f32) (i j : Fin 128) : broadcastTo S128x128 x broadcasts_S128x1_S128x128 (ix2 i j) = x (ix2 i 0) :=
  broadcastTo_apply x _ _ _ (fun a => by fin_cases a <;> rfl)

theorem brow (x : FVec Ideal S1x128 .f32) (i j : Fin 128) : broadcastTo S128x128 x broadcasts_S1x128_S128x128 (ix2 i j) = x (ix2 0 j) :=
  broadcastTo_apply x _ _ _ (fun a => by fin_cases a <;> rfl)

theorem cast3 (x : Vec Ideal S1x1x128 .f32) (j : Fin 128) : shapeCast S1x128 x shapeCasts_S1x1x128_S1x128 (ix2 0 j) = x (ix3 0 0 j) := by
  refine shapeCast_apply _ _ _ _ ?_
  simp only [Shape.rowMajor_val_one, Shape.rowMajor_val_two, Shape.rowMajor_val_three, Shape.rowMajor_val_four]
  simp [S128, S128x1, S1x1x128, S1x128, S1x256x128, S256x128, S1x1x160x128, S160x128, ix1, ix2, ix3, ix4]

theorem castV (x : Vec Ideal S1x256x128 .fp8e4m3) (d : Fin 256) (j : Fin 128) : shapeCast S256x128 x shapeCasts_S1x256x128_S256x128 (ix2 d j) = x (ix3 0 d j) := by
  refine shapeCast_apply _ _ _ _ ?_
  simp only [Shape.rowMajor_val_one, Shape.rowMajor_val_two, Shape.rowMajor_val_three, Shape.rowMajor_val_four]
  simp [S128, S128x1, S1x1x128, S1x128, S1x256x128, S256x128, S1x1x160x128, S160x128, ix1, ix2, ix3, ix4]

theorem castQ (x : Vec Ideal S1x1x160x128 .fp8e4m3) (d : Fin 160) (j : Fin 128) : shapeCast S160x128 x shapeCasts_S1x1x160x128_S160x128 (ix2 d j) = x (ix4 0 0 d j) := by
  refine shapeCast_apply _ _ _ _ ?_
  simp only [Shape.rowMajor_val_one, Shape.rowMajor_val_two, Shape.rowMajor_val_three, Shape.rowMajor_val_four]
  simp [S128, S128x1, S1x1x128, S1x128, S1x256x128, S256x128, S1x1x160x128, S160x128, ix1, ix2, ix3, ix4]

/-- A score: the product of a query and a key, with the scales. -/
def sco (q k : Vec Ideal S1x1x160x128 .fp8e4m3) (qs : EReal) (ks : Vec Ideal S1x1x128 .f32) (i j : Fin 128) : EReal :=
  (∑ d : Fin 160, (q (ix4 0 0 d i) : EReal) * k (ix4 0 0 d j)) * (qs * ks (ix3 0 0 j) * cst)

theorem eye (i k : Fin 128) : (k0_pay81 (F := Ideal) (ix2 i k) : EReal) = if i = k then 1 else 0 := by
  have h1 : iota .tc S128x128 32 [1] iota_S128x128_d1_w32 (ix2 i k) = BitVec.ofNat 32 k.val := iota_single_apply _ _ _ _ _ _
  have h0 : iota .tc S128x128 32 [0] iota_S128x128_d0_w32 (ix2 i k) = BitVec.ofNat 32 i.val := iota_single_apply _ _ _ _ _ _
  show ((((BitVec.ofBool (iota .tc S128x128 32 [0] iota_S128x128_d0_w32 (ix2 i k) == iota .tc S128x128 32 [1] iota_S128x128_d1_w32 (ix2 i k))).setWidth 32).toInt : ℝ) : EReal) = _
  rw [h1, h0]
  by_cases h : i = k
  · subst h; simp
  · have : (BitVec.ofNat 32 i.val == BitVec.ofNat 32 k.val) = false := by
      simp only [beq_eq_false_iff_ne, ne_eq]
      intro hc
      have := congrArg BitVec.toNat hc
      rw [BitVec.toNat_ofNat, BitVec.toNat_ofNat, Nat.mod_eq_of_lt (by omega), Nat.mod_eq_of_lt (by omega)] at this
      exact h (Fin.ext this)
    rw [this, if_neg h]; simp

theorem pay82_apply (q k : Vec Ideal S1x1x160x128 .fp8e4m3) (qs : EReal) (ks : Vec Ideal S1x1x128 .f32) (i j : Fin 128) :
    k0_pay82 (F := Ideal) q k qs ks (ix2 i j) = sco q k qs ks i j := by
  show FloatOps.matmul (F := Ideal) (DotDims.plain 128 160 128) none _ _ _ (ix2 i j) * broadcastTo S128x128 _ broadcasts_S1x128_S128x128 (ix2 i j) = _
  rw [Ideal.matmul_plain_apply, brow]
  unfold sco
  congr 1
  · rw [show (constant S128x128 .f32 0x00000000#32 : FVec Ideal S128x128 .f32) (ix2 i j) = 0 from zero_bits, zero_add]
    refine Finset.sum_congr rfl fun d _ => ?_
    rw [castQ]
    congr 1
    show FloatOps.matmul (F := Ideal) (DotDims.transposedRhs 128 128 160) none _ _ _ (ix2 i d) = _
    rw [Ideal.matmul_transposedRhs_apply, show (constant S128x160 .f32 0x00000000#32 : FVec Ideal S128x160 .f32) (ix2 i d) = 0 from zero_bits, zero_add]
    rw [Finset.sum_eq_single i]
    · rw [eye, if_pos rfl, one_mul, castQ]
    · intro b _ hb; rw [eye, if_neg (Ne.symm hb), zero_mul]
    · intro h; exact absurd (Finset.mem_univ _) h
  · show qs * shapeCast S1x128 ks shapeCasts_S1x1x128_S1x128 (ix2 0 j) * cst = (_ : EReal)
    rw [cast3]

/-- A head's weights: `Math.W` at a row's counts and scores. -/
theorem pay90_apply (t : FVec Ideal S128x128 .f32) (vs : Vec Ideal S1x1x128 .f32) (c : Fin 128 → ℕ) (s : Fin 128 → EReal) (i : Fin 128)
    (ht : ∀ j, t (ix2 i j) = Math.T c s j) (j : Fin 128) :
    k0_pay90 (F := Ideal) t vs (ix2 i j) = Math.W c s (fun j => vs (ix3 0 0 j)) j := by
  have hmax : k0_pay85 t (ix2 i 0) = Finset.univ.sup (Math.T c s) := by
    unfold k0_pay85
    refine (col_cast _ _).trans ((max_row t rfl i).trans ?_)
    exact congrArg (fun f => Finset.univ.sup f) (funext ht)
  have hP : ∀ j, k0_pay86 t (ix2 i j) = Math.P c s j := by
    intro j
    show Ideal.exp (t (ix2 i j) - broadcastTo S128x128 (k0_pay85 t) broadcasts_S128x1_S128x128 (ix2 i j)) = _
    rw [bcol, hmax, ht]; rfl
  have hL : k0_pay87 t (ix2 i 0) = ∑ k, Math.P c s k := by
    unfold k0_pay87
    refine (col_cast _ _).trans ((sum_row (k0_pay86 t) rfl i).trans ?_)
    exact Finset.sum_congr rfl fun k _ => hP k
  show k0_pay86 t (ix2 i j) * broadcastTo S128x128 _ broadcasts_S128x1_S128x128 (ix2 i j) * broadcastTo S128x128 _ broadcasts_S1x128_S128x128 (ix2 i j) = _
  rw [hP, bcol, brow, cast3]
  show Math.P c s j * Ideal.div (Scalar.ofBits (F := Ideal) .f32 0x3F800000#32) (k0_pay87 t (ix2 i 0)) * _ = _
  rw [hL, one_bits]; rfl

/-- The product with a window of values, when the two lower parts of the weights vanish. -/
theorem pay93_apply (w : FVec Ideal S128x128 .bf16) (x : FVec Ideal S128x128 .f32) (v : Vec Ideal S1x256x128 .fp8e4m3) (i : Fin 128) (d : Fin 256)
    (hx : ∀ j : Fin 128, x (ix2 i j) = 0) : (k0_pay93 (F := Ideal) w x v (ix2 i d) : EReal) = ∑ j : Fin 128, (w (ix2 i j) : EReal) * v (ix3 0 d j) := by
  show FloatOps.matmul (DotDims.transposedRhs 128 256 256) none
      (concatenate S128x256 1 [⟨S128x128, w⟩, ⟨S128x128, truncf .bf16 x bitsLt_bf16_f32⟩] concatenates_S128x128_S128x128_S128x256_d1)
      (concatenate S256x256 1 [⟨S256x128, shapeCast S256x128 v shapeCasts_S1x256x128_S256x128⟩, ⟨S256x128, shapeCast S256x128 v shapeCasts_S1x256x128_S256x128⟩] concatenates_S256x128_S256x128_S256x256_d1)
      (constant S128x256 .f32 0x00000000#32) (ix2 i d)
    + FloatOps.matmul (DotDims.transposedRhs 128 128 256) none
      (truncf .bf16 (subf x (extf .f32 (truncf .bf16 x bitsLt_bf16_f32) bitsLt_bf16_f32)) bitsLt_bf16_f32)
      (shapeCast S256x128 v shapeCasts_S1x256x128_S256x128) (constant S128x256 .f32 0x00000000#32) (ix2 i d) = _
  rw [Ideal.matmul_transposedRhs_apply, Ideal.matmul_transposedRhs_apply,
    show (constant S128x256 .f32 0x00000000#32 : FVec Ideal S128x256 .f32) (ix2 i d) = 0 from zero_bits, zero_add, zero_add]
  rw [Finset.sum_eq_zero (s := Finset.univ) (f := fun k : Fin 128 => _ * _) (fun k _ => by
    rw [show truncf .bf16 (subf x (extf .f32 (truncf .bf16 x bitsLt_bf16_f32) bitsLt_bf16_f32)) bitsLt_bf16_f32 (ix2 i k) = x (ix2 i k) - x (ix2 i k) from rfl,
      hx, sub_zero, zero_mul]), add_zero]
  refine (Fin.sum_univ_add (a := 128) (b := 128) _).trans ?_
  refine (congrArg₂ (· + ·) rfl (Finset.sum_eq_zero (fun k _ => ?_))).trans ((add_zero _).trans ?_)
  · have e : concatenate S128x256 1 [⟨S128x128, w⟩, ⟨S128x128, truncf .bf16 x bitsLt_bf16_f32⟩] concatenates_S128x128_S128x128_S128x256_d1 (ix2 i (Fin.natAdd 128 k))
        = (0 : EReal) := by
      refine (concatenate_pair_apply_right (t := S128x256) 1 w (truncf .bf16 x bitsLt_bf16_f32) _ (ix2 i (Fin.natAdd 128 k)) rfl rfl (ix2 i k)
        (fun b hb => by fin_cases b; · rfl
                        · exact absurd rfl hb) (by show k.val + 128 = 128 + k.val; omega)).trans (hx k)
    rw [e, zero_mul]
  refine Finset.sum_congr rfl fun k _ => ?_
  rw [concatenate_pair_apply_left 1 w (truncf .bf16 x bitsLt_bf16_f32) _ (ix2 i (Fin.castAdd 128 k)) rfl (ix2 i k) (fun b => by fin_cases b <;> rfl),
    concatenate_pair_apply_left 1 (shapeCast S256x128 v shapeCasts_S1x256x128_S256x128) (shapeCast S256x128 v shapeCasts_S1x256x128_S256x128) _ (ix2 d (Fin.castAdd 128 k)) rfl (ix2 d k) (fun b => by fin_cases b <;> rfl),
    castV]

/-- A head's output: the weights times the values. -/
theorem headO_apply (q k : Vec Ideal S1x1x160x128 .fp8e4m3) (qs : EReal) (ks : Vec Ideal S1x1x128 .f32) (bias : Vec Ideal S128x128 .f32) (vs : Vec Ideal S1x1x128 .f32)
    (v : Vec Ideal S1x256x128 .fp8e4m3) (c : Fin 128 → ℕ) (i : Fin 128) (hb : ∀ j : Fin 128, bias (ix2 i j) = Ideal.log ((c j : ℕ) : EReal))
    (hvs : ∀ j : Fin 128, ∃ r : ℝ, vs (ix3 0 0 j) = (r : EReal)) (d : Fin 256) :
    (headO (F := Ideal) q k qs ks bias vs v (ix2 i d) : EReal)
      = ∑ j : Fin 128, Math.W c (sco q k qs ks i) (fun j => vs (ix3 0 0 j)) j * v (ix3 0 d j) := by
  have ht : ∀ j, k0_pay84 (F := Ideal) q k qs ks bias (ix2 i j) = Math.T c (sco q k qs ks i) j := by
    intro j
    show k0_pay82 (F := Ideal) q k qs ks (ix2 i j) + bias (ix2 i j) = _
    rw [pay82_apply, hb]; rfl
  have hw := pay90_apply (k0_pay84 (F := Ideal) q k qs ks bias) vs c (sco q k qs ks i) i ht
  unfold headO
  rw [pay93_apply]
  · exact Finset.sum_congr rfl fun j _ => congrArg (· * v (ix3 0 d j)) (hw j)
  · intro j
    show k0_pay90 (F := Ideal) (k0_pay84 (F := Ideal) q k qs ks bias) vs (ix2 i j) - k0_pay90 (F := Ideal) (k0_pay84 (F := Ideal) q k qs ks bias) vs (ix2 i j) = (0 : EReal)
    rw [hw]
    obtain ⟨r, hr⟩ := (Math.row c (sco q k qs ks i) (fun j => vs (ix3 0 0 j)) (fun _ => 0) hvs j).1
    rw [hr, ← EReal.coe_sub, sub_self]; rfl

end Cert.Proof.KernelIdeal

end
-- ==== Proof.KernelIdeal.Out.lean ====
module

public import proofs.«01_k».proof.Proof.KernelIdeal.Blocks
public import proofs.«01_k».proof.Proof.KernelIdeal.HeadMath
public import Idealize.ShloMosaic.Lib.Pipeline.ReadBack
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

variable (m : (ℓ : Loc nD τ sig) → Buf (Elt Ideal) ℓ) (c : Dev nD)

/-- Where a load reads: its offset plus the coordinate. -/
theorem ld_val {s : Shape} (off size : Fin s.rank → ℕ) (inb : ∀ a, off a + size a ≤ s.size a) (x : (Rect.unit off size inb).toLoadRect.shape.Idx) (a : Fin s.rank) :
    ((Rect.unit off size inb).toLoadRect.idx x a : ℕ) = off a + (x a : ℕ) := by
  show off a + 1 * (x a : ℕ) = _
  omega

theorem sel2 {α : Type} (b : ℕ) (hb : b < 2) (f : Fin 2 → α) : Scalar.select (Scalar.cmpi .eq (BitVec.ofNat 32 b) 1#32) (f 1) (f 0) = f ⟨b, hb⟩ := by
  interval_cases b <;> rfl

/-- A batch's first point is in the batch. -/
theorem bt_fst0 (t : Fin cfg0.N) : (grid0.coords (fst0 t) 0).val = (bt t).val := by
  rw [(coords_val (fst0 t)).1]
  show (t.val - t.val % 4) / 4 = t.val / 4
  omega

theorem first_fst0 (t : Fin cfg0.N) : First (grid0.coords (fst0 t)) := by
  refine (first_iff (fst0 t)).mpr ?_
  show (t.val - t.val % 4) % 4 = 0
  omega

set_option maxHeartbeats 1000000 in
/-- The bias of a point's batch, as what the count writes. -/
theorem bias_writes (t : Fin cfg0.N) : biasAt m c t = (Memref.whole cc0_scratch0).view.writes (Elt Ideal) (Memref.whole cc0_scratch0).view.junk
    (proRun.sl.H14_1 c (grid0.coords (fst0 t)) (win0_2.stage (cfg0.slots (fst0 t) 2)) (win0_3.stage (cfg0.slots (fst0 t) 3)) (un2 m c (fst0 t)) (un3 m c (fst0 t))) := by
  unfold biasAt proAt proF
  rw [dif_pos (first_fst0 t)]
  rfl

/-- A row table's entry, read from the staging buffer. -/
theorem rp0_apply (s : Fin cfg0.N) (k : Fin 129) : rp0 c (win0_3.stage (cfg0.slots s 3)) (un3 m c s) (ValueIdx.ix2 0 k) = m ((c : Thread nD τ).loc main_arg6) (ValueIdx.ix2 0 k) := by
  unfold rp0 un3
  rw [Memref.IsWhole.readAt_unread, iblk3_eq]
  refine congrArg _ ?_
  funext a
  fin_cases a
  · apply Fin.ext; exact ld_val (s := S2x129) ![0, 0] S1x129.size inb_S2x129_S1x129_0_0 (ValueIdx.ix2 0 k) 0
  · apply Fin.ext; exact (ld_val (s := S2x129) ![0, 0] S1x129.size inb_S2x129_S1x129_0_0 (ValueIdx.ix2 0 k) 1).trans (Nat.zero_add _)
theorem rp1_apply (s : Fin cfg0.N) (k : Fin 129) : rp1 c (win0_3.stage (cfg0.slots s 3)) (un3 m c s) (ValueIdx.ix2 0 k) = m ((c : Thread nD τ).loc main_arg6) (ValueIdx.ix2 1 k) := by
  unfold rp1 un3
  rw [Memref.IsWhole.readAt_unread, iblk3_eq]
  refine congrArg _ ?_
  funext a
  fin_cases a
  · apply Fin.ext; exact ld_val (s := S2x129) ![1, 0] S1x129.size inb_S2x129_S1x129_1_0 (ValueIdx.ix2 0 k) 0
  · apply Fin.ext; exact (ld_val (s := S2x129) ![1, 0] S1x129.size inb_S2x129_S1x129_1_0 (ValueIdx.ix2 0 k) 1).trans (Nat.zero_add _)

theorem ci_apply (s : Fin cfg0.N) (r n : ℕ) (hr : r < 2) (hn : n < 24) (k : Fin 128) :
    View.readAt (Elt Ideal) (win0_2.stage (cfg0.slots s 2)).view (Rect.unit (s := S2x3072) ![r, 128 * n] S1x128.size (inbT r n hr hn)).toLoadRect (un2 m c s) (ValueIdx.ix2 0 k)
      = m ((c : Thread nD τ).loc main_arg7) (ValueIdx.ix2 ⟨r, hr⟩ ⟨128 * n + k.val, by omega⟩) := by
  unfold un2
  rw [Memref.IsWhole.readAt_unread, iblk2_eq]
  refine congrArg _ ?_
  funext a
  fin_cases a
  · apply Fin.ext; exact ld_val (s := S2x3072) ![r, 128 * n] S1x128.size (inbT r n hr hn) (ValueIdx.ix2 0 k) 0
  · apply Fin.ext; exact ld_val (s := S2x3072) ![r, 128 * n] S1x128.size (inbT r n hr hn) (ValueIdx.ix2 0 k) 1

theorem select_apply {s : Shape} {e : EltTy} (b : BitVec 1) (x y : Vec Ideal s e) (i : s.Idx) : (Scalar.select b x y) i = Scalar.select b (x i) (y i) := by
  unfold Scalar.select; split <;> rfl

theorem ciT_apply (s : Fin cfg0.N) (b : ℕ) (hb : b < 2) (n : ℕ) (hn : n < 24) (k : Fin 128) :
    ciT c (BitVec.ofNat 32 b) (win0_2.stage (cfg0.slots s 2)) (un2 m c s) n hn (ValueIdx.ix2 0 k)
      = m ((c : Thread nD τ).loc main_arg7) (ValueIdx.ix2 ⟨b, hb⟩ ⟨128 * n + k.val, by omega⟩) := by
  unfold ciT
  rw [select_apply, ci_apply m c s 1 n (by omega) hn k, ci_apply m c s 0 n (by omega) hn k]
  exact sel2 b hb (fun r => (m ((c : Thread nD τ).loc main_arg7) (ValueIdx.ix2 r ⟨128 * n + k.val, by omega⟩) : BitVec 32))

theorem rpsel (s : Fin cfg0.N) (b : ℕ) (hb : b < 2) (k : Fin 129) :
    (Scalar.select (Scalar.cmpi .eq (BitVec.ofNat 32 b) 1#32) (rp1 c (win0_3.stage (cfg0.slots s 3)) (un3 m c s)) (rp0 c (win0_3.stage (cfg0.slots s 3)) (un3 m c s))) (ValueIdx.ix2 0 k)
      = m ((c : Thread nD τ).loc main_arg6) (ValueIdx.ix2 ⟨b, hb⟩ k) := by
  rw [select_apply, rp0_apply, rp1_apply]
  exact sel2 b hb (fun r => (m ((c : Thread nD τ).loc main_arg6) (ValueIdx.ix2 r k) : BitVec 32))

/-- The bias at a row and a key: the logarithm of the key's multiplicity. -/
theorem bias_apply (t : Fin cfg0.N) (i j : Fin 128) :
    View.readAt (Elt Ideal) (Memref.whole cc0_scratch0).view (Rect.unit (s := S128x128) ![0, 0] S128x128.size inb_S128x128_S128x128_0_0).toLoadRect (biasAt m c t) (ValueIdx.ix2 i j)
      = Ideal.log ((mult (m ((c : Thread nD τ).loc main_arg6)) (m ((c : Thread nD τ).loc main_arg7)) (bt t) i j : ℕ) : EReal) := by
  rw [bias_writes, View.readAt_writes_junk_eq_canon, H14_eq]
  refine (congrFun (View.canon_cons_unit_lit (S := S128x128) (off := ![0, 0]) inb_S128x128_S128x128_0_0 _ [] (by decide)) _).trans ?_
  rw [shapeCast_self]
  have e : (Rect.unit (s := S128x128) ![0, 0] S128x128.size inb_S128x128_S128x128_0_0).toLoadRect.idx (ValueIdx.ix2 i j) = (ValueIdx.ix2 i j : S128x128.Idx) := by
    funext a
    fin_cases a
    · apply Fin.ext; exact (ld_val (s := S128x128) ![0, 0] S128x128.size inb_S128x128_S128x128_0_0 (ValueIdx.ix2 i j) 0).trans (Nat.zero_add _)
    · apply Fin.ext; exact (ld_val (s := S128x128) ![0, 0] S128x128.size inb_S128x128_S128x128_0_0 (ValueIdx.ix2 i j) 1).trans (Nat.zero_add _)
  show Ideal.log (cntUp (F := Ideal) c _ _ _ _ _ 24 le_rfl _ : EReal) = _
  rw [e, bt_fst0]
  refine congrArg Ideal.log ?_
  have hb := (bt t).isLt
  refine (cntUp_all c _ _ _ _ _ (m ((c : Thread nD τ).loc main_arg6) (ValueIdx.ix2 (bt t) i.castSucc)) (m ((c : Thread nD τ).loc main_arg6) (ValueIdx.ix2 (bt t) i.succ))
    (fun e => if h : e < 3072 then m ((c : Thread nD τ).loc main_arg7) (ValueIdx.ix2 (bt t) ⟨e, h⟩) else 0#32) i j ?_ ?_ ?_).trans ?_
  · intro k; rw [pay3_apply]; exact rpsel m c _ _ hb _
  · intro k; rw [pay4_apply]; exact rpsel m c _ _ hb _
  · intro n hn k
    rw [dif_pos (show 128 * n + k.val < 3072 by omega)]
    exact ciT_apply m c _ _ hb n hn k
  · unfold mult
    congr 3
    funext e
    rw [dif_pos e.isLt]

/-! The output block. -/

/-- The output block, out of the heads' windows. -/
def Gp (H : Fin 8 → FVec Ideal S128x256 .bf16) (y : S1x128x1280.Idx) : Elt Ideal .bf16 :=
  H ⟨(y 2).val / 160, by have : (y 2).val < 1280 := (y 2).isLt; omega⟩
    (ValueIdx.ix2 (y 1) ⟨(y 2).val - 128 * (160 * ((y 2).val / 160) / 128), by have : (y 2).val < 1280 := (y 2).isLt; omega⟩)

theorem castw {α : Type} (w : ℕ) (y : (⟨2, ![128, w]⟩ : Shape).Idx → α) (hc : (⟨2, ![128, w]⟩ : Shape).ShapeCasts ⟨3, ![1, 128, w]⟩) (x : (⟨3, ![1, 128, w]⟩ : Shape).Idx) :
    shapeCast ⟨3, ![1, 128, w]⟩ y hc x = y (ValueIdx.ix2 ⟨(x 1).val, (x 1).isLt⟩ ⟨(x 2).val, (x 2).isLt⟩) := by
  refine shapeCast_apply _ _ _ _ ?_
  simp only [Shape.rowMajor_val_three, Shape.rowMajor_val_two]
  have x0 : (x 0).val < 1 := (x 0).isLt
  show (x 1).val * w + (x 2).val = ((x 0).val * 128 + (x 1).val) * w + (x 2).val
  rw [show (x 0).val = 0 by omega, Nat.zero_mul, Nat.zero_add]

theorem pc_ok (H : Fin 8 → FVec Ideal S128x256 .bf16) (h : Fin 8) (C w o : ℕ) (hs) (hc) (hi) (h1 : 160 * h.val ≤ C) (h2 : C + w ≤ 160 * h.val + 160)
    (ho : o + 128 * (160 * h.val / 128) = C) (x : (pc (H h) C w o hs hc hi).1.shape.Idx) :
    (pc (H h) C w o hs hc hi).2 x = Gp H ((pc (H h) C w o hs hc hi).1.emb x) := by
  have e1 : (((pc (H h) C w o hs hc hi).1.emb x 1 : Fin _) : ℕ) = (x 1).val := by
    show 0 + 1 * (x 1).val = _; omega
  have e2 : (((pc (H h) C w o hs hc hi).1.emb x 2 : Fin _) : ℕ) = C + (x 2).val := by
    show C + 1 * (x 2).val = _; omega
  have x2 : (x 2).val < w := (x 2).isLt
  have x1 : (x 1).val < 128 := (x 1).isLt
  have x0 : (x 0).val < 1 := (x 0).isLt
  have hh : (C + (x 2).val) / 160 = h.val := by omega
  show shapeCast ⟨3, ![1, 128, w]⟩ (extractStridedSlice ⟨2, ![128, w]⟩ ![0, o] (H h) hs) hc x = _
  refine (castw w _ hc x).trans ?_
  refine (extractStridedSlice_apply _ _ _ _ (ValueIdx.ix2 ⟨(x 1).val, x1⟩ ⟨o + (x 2).val, by omega⟩) (fun a => by fin_cases a <;> first | exact (Nat.zero_add _).symm | rfl)).trans ?_
  unfold Gp
  have eh : (⟨((pc (H h) C w o hs hc hi).1.emb x 2).val / 160, by have : ((pc (H h) C w o hs hc hi).1.emb x 2).val < 1280 := ((pc (H h) C w o hs hc hi).1.emb x 2).isLt; omega⟩ : Fin 8) = h :=
    Fin.ext (by show ((pc (H h) C w o hs hc hi).1.emb x 2).val / 160 = h.val; rw [e2, hh])
  rw [eh]
  refine congrArg (H h) ?_
  funext a
  fin_cases a
  · exact Fin.ext e1.symm
  · apply Fin.ext
    show o + (x 2).val = ((pc (H h) C w o hs hc hi).1.emb x 2).val - 128 * (160 * (((pc (H h) C w o hs hc hi).1.emb x 2).val / 160) / 128)
    rw [e2, hh]; omega

/-- The output block's pieces, out of the heads' windows. -/
def pcs (H : Fin 8 → FVec Ideal S128x256 .bf16) : List (View.Piece (Elt Ideal) S1x128x1280 .bf16) := [
    pc (H 7) 1152 128 128 slices_S128x256_o0_128_S128x128 shapeCasts_S128x128_S1x128x128 inb_S1x128x1280_S1x128x128_0_0_1152,
    pc (H 7) 1120 32 96 slices_S128x256_o0_96_S128x32 shapeCasts_S128x32_S1x128x32 inb_S1x128x1280_S1x128x32_0_0_1120,
    pc (H 6) 1024 96 128 slices_S128x256_o0_128_S128x96 shapeCasts_S128x96_S1x128x96 inb_S1x128x1280_S1x128x96_0_0_1024,
    pc (H 6) 960 64 64 slices_S128x256_o0_64_S128x64 shapeCasts_S128x64_S1x128x64 inb_S1x128x1280_S1x128x64_0_0_960,
    pc (H 5) 896 64 128 slices_S128x256_o0_128_S128x64 shapeCasts_S128x64_S1x128x64 inb_S1x128x1280_S1x128x64_0_0_896,
    pc (H 5) 800 96 32 slices_S128x256_o0_32_S128x96 shapeCasts_S128x96_S1x128x96 inb_S1x128x1280_S1x128x96_0_0_800,
    pc (H 4) 768 32 128 slices_S128x256_o0_128_S128x32 shapeCasts_S128x32_S1x128x32 inb_S1x128x1280_S1x128x32_0_0_768,
    pc (H 4) 640 128 0 slices_S128x256_o0_0_S128x128 shapeCasts_S128x128_S1x128x128 inb_S1x128x1280_S1x128x128_0_0_640,
    pc (H 3) 512 128 128 slices_S128x256_o0_128_S128x128 shapeCasts_S128x128_S1x128x128 inb_S1x128x1280_S1x128x128_0_0_512,
    pc (H 3) 480 32 96 slices_S128x256_o0_96_S128x32 shapeCasts_S128x32_S1x128x32 inb_S1x128x1280_S1x128x32_0_0_480,
    pc (H 2) 384 96 128 slices_S128x256_o0_128_S128x96 shapeCasts_S128x96_S1x128x96 inb_S1x128x1280_S1x128x96_0_0_384,
    pc (H 2) 320 64 64 slices_S128x256_o0_64_S128x64 shapeCasts_S128x64_S1x128x64 inb_S1x128x1280_S1x128x64_0_0_320,
    pc (H 1) 256 64 128 slices_S128x256_o0_128_S128x64 shapeCasts_S128x64_S1x128x64 inb_S1x128x1280_S1x128x64_0_0_256,
    pc (H 1) 160 96 32 slices_S128x256_o0_32_S128x96 shapeCasts_S128x96_S1x128x96 inb_S1x128x1280_S1x128x96_0_0_160,
    pc (H 0) 128 32 128 slices_S128x256_o0_128_S128x32 shapeCasts_S128x32_S1x128x32 inb_S1x128x1280_S1x128x32_0_0_128,
    pc (H 0) 0 128 0 slices_S128x256_o0_0_S128x128 shapeCasts_S128x128_S1x128x128 inb_S1x128x1280_S1x128x128_0_0_0]

theorem pcs_ok (H : Fin 8 → FVec Ideal S128x256 .bf16) : View.PiecesOf (Gp H) (pcs H) := by
  unfold pcs
  refine ⟨pc_ok H 7 _ _ _ _ _ _ (by decide) (by decide) (by decide), ?_⟩
  refine ⟨pc_ok H 7 _ _ _ _ _ _ (by decide) (by decide) (by decide), ?_⟩
  refine ⟨pc_ok H 6 _ _ _ _ _ _ (by decide) (by decide) (by decide), ?_⟩
  refine ⟨pc_ok H 6 _ _ _ _ _ _ (by decide) (by decide) (by decide), ?_⟩
  refine ⟨pc_ok H 5 _ _ _ _ _ _ (by decide) (by decide) (by decide), ?_⟩
  refine ⟨pc_ok H 5 _ _ _ _ _ _ (by decide) (by decide) (by decide), ?_⟩
  refine ⟨pc_ok H 4 _ _ _ _ _ _ (by decide) (by decide) (by decide), ?_⟩
  refine ⟨pc_ok H 4 _ _ _ _ _ _ (by decide) (by decide) (by decide), ?_⟩
  refine ⟨pc_ok H 3 _ _ _ _ _ _ (by decide) (by decide) (by decide), ?_⟩
  refine ⟨pc_ok H 3 _ _ _ _ _ _ (by decide) (by decide) (by decide), ?_⟩
  refine ⟨pc_ok H 2 _ _ _ _ _ _ (by decide) (by decide) (by decide), ?_⟩
  refine ⟨pc_ok H 2 _ _ _ _ _ _ (by decide) (by decide) (by decide), ?_⟩
  refine ⟨pc_ok H 1 _ _ _ _ _ _ (by decide) (by decide) (by decide), ?_⟩
  refine ⟨pc_ok H 1 _ _ _ _ _ _ (by decide) (by decide) (by decide), ?_⟩
  refine ⟨pc_ok H 0 _ _ _ _ _ _ (by decide) (by decide) (by decide), ?_⟩
  refine ⟨pc_ok H 0 _ _ _ _ _ _ (by decide) (by decide) (by decide), ?_⟩
  exact trivial

theorem pcs_cover (H : Fin 8 → FVec Ideal S128x256 .bf16) (y : S1x128x1280.Idx) : ∃ p ∈ pcs H, y ∈ p.1.set :=
  View.cover_of_tiledBy (pcs H) ![1, 128, 32] (by sl_kernel_rfl) y

/-- The head of a point. -/
abbrev hdAt (t : Fin cfg0.N) : Fin 8 → FVec Ideal S128x256 .bf16 :=
  hd c (grid0.coords t) (win0_1.stage (cfg0.slots t 1)) (win0_4.stage (cfg0.slots t 4)) (win0_5.stage (cfg0.slots t 5)) (win0_6.stage (cfg0.slots t 6)) (win0_7.stage (cfg0.slots t 7)) (win0_8.stage (cfg0.slots t 8)) (Memref.whole cc0_scratch0)
    (un1 m c t) (un4 m c t) (un5 m c t) (un6 m c t) (un7 m c t) (un8 m c t) (biasAt m c t)

theorem outB_read (t : Fin cfg0.N) (y : S1x128x1280.Idx) : (win0_9.stage (cfg0.slots t 9)).view.read (Elt Ideal) (outB m c t) y = Gp (hdAt m c t) y := by
  unfold outB
  rw [View.read_writes_junk_apply_eq_canon, H11_eq]
  have h := View.canon_append_of_piecesOf (Gp (hdAt m c t)) [] (pcs (hdAt m c t)) (pcs_ok _) y (pcs_cover _ y)
  rw [List.append_nil] at h
  exact h

/-- The output, out of the arguments in memory. -/
abbrev outM (b : Fin 2) (i : Fin 128) (h : Fin 32) (d : Fin 160) : EReal :=
  outK (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) b i h d

theorem off1_val : ∀ (t : Fin cfg0.N) (h : Fin 8), k0_off1 (grid0.coords t) (BitVec.ofNat 32 h.val) 0 = t.val / 4 ∧ k0_off1 (grid0.coords t) (BitVec.ofNat 32 h.val) 1 = 8 * (t.val % 4) + h.val := by
  decide +kernel

/-- A head's output at a query and a channel. -/
theorem hd_apply (hv : ∀ x, ∃ r : ℝ, (m ((c : Thread nD τ).loc main_arg5) x : EReal) = (r : EReal)) (t : Fin cfg0.N) (h : Fin 8) (i : Fin 128) (d : Fin 160) (p : Fin 256)
    (hp : p.val + 128 * (160 * h.val / 128) = 160 * h.val + d.val) : (hdAt m c t h (ValueIdx.ix2 i p) : EReal) = outM m c (bt t) i (ht t h) d := by
  have rq : ∀ (k : Fin 160) (j : Fin 128), (Rect.unit (s := S1x8x160x128) ![0, h.val, 0, 0] S1x1x160x128.size (inbQ h)).toLoadRect.idx (ValueIdx.ix4 0 0 k j) = (ValueIdx.ix4 0 h k j : S1x8x160x128.Idx) := by
    intro k j
    funext a
    fin_cases a
    · apply Fin.ext; exact ld_val (s := S1x8x160x128) ![0, h.val, 0, 0] S1x1x160x128.size (inbQ h) (ValueIdx.ix4 0 0 k j) 0
    · apply Fin.ext; exact ld_val (s := S1x8x160x128) ![0, h.val, 0, 0] S1x1x160x128.size (inbQ h) (ValueIdx.ix4 0 0 k j) 1
    · apply Fin.ext; exact (ld_val (s := S1x8x160x128) ![0, h.val, 0, 0] S1x1x160x128.size (inbQ h) (ValueIdx.ix4 0 0 k j) 2).trans (Nat.zero_add _)
    · apply Fin.ext; exact (ld_val (s := S1x8x160x128) ![0, h.val, 0, 0] S1x1x160x128.size (inbQ h) (ValueIdx.ix4 0 0 k j) 3).trans (Nat.zero_add _)
  have rs : ∀ (j : Fin 128), (Rect.unit (s := S1x8x128) ![0, h.val, 0] S1x1x128.size (inbS h)).toLoadRect.idx (ValueIdx.ix3 0 0 j) = (ValueIdx.ix3 0 h j : S1x8x128.Idx) := by
    intro j
    funext a
    fin_cases a
    · apply Fin.ext; exact ld_val (s := S1x8x128) ![0, h.val, 0] S1x1x128.size (inbS h) (ValueIdx.ix3 0 0 j) 0
    · apply Fin.ext; exact ld_val (s := S1x8x128) ![0, h.val, 0] S1x1x128.size (inbS h) (ValueIdx.ix3 0 0 j) 1
    · apply Fin.ext; exact (ld_val (s := S1x8x128) ![0, h.val, 0] S1x1x128.size (inbS h) (ValueIdx.ix3 0 0 j) 2).trans (Nat.zero_add _)
  have fq : ∀ (k : Fin 160) (j : Fin 128), View.readAt (Elt Ideal) (win0_6.stage (cfg0.slots t 6)).view (Rect.unit (s := S1x8x160x128) ![0, h.val, 0, 0] S1x1x160x128.size (inbQ h)).toLoadRect (un6 m c t) (ValueIdx.ix4 0 0 k j)
      = m ((c : Thread nD τ).loc main_arg0) (ValueIdx.ix4 (bt t) j (ht t h) k) := by
    intro k j; unfold un6; rw [Memref.IsWhole.readAt_unread, rq, iblk6_eq]
  have fk : ∀ (k : Fin 160) (j : Fin 128), View.readAt (Elt Ideal) (win0_7.stage (cfg0.slots t 7)).view (Rect.unit (s := S1x8x160x128) ![0, h.val, 0, 0] S1x1x160x128.size (inbQ h)).toLoadRect (un7 m c t) (ValueIdx.ix4 0 0 k j)
      = m ((c : Thread nD τ).loc main_arg1) (ValueIdx.ix4 (bt t) j (ht t h) k) := by
    intro k j; unfold un7; rw [Memref.IsWhole.readAt_unread, rq, iblk7_eq]
  have fks : ∀ (j : Fin 128), View.readAt (Elt Ideal) (win0_4.stage (cfg0.slots t 4)).view (Rect.unit (s := S1x8x128) ![0, h.val, 0] S1x1x128.size (inbS h)).toLoadRect (un4 m c t) (ValueIdx.ix3 0 0 j)
      = m ((c : Thread nD τ).loc main_arg4) (ValueIdx.ix3 (bt t) j (ht t h)) := by
    intro j; unfold un4; rw [Memref.IsWhole.readAt_unread, rs, iblk4_eq]
  have fvs : ∀ (j : Fin 128), View.readAt (Elt Ideal) (win0_5.stage (cfg0.slots t 5)).view (Rect.unit (s := S1x8x128) ![0, h.val, 0] S1x1x128.size (inbS h)).toLoadRect (un5 m c t) (ValueIdx.ix3 0 0 j)
      = m ((c : Thread nD τ).loc main_arg5) (ValueIdx.ix3 (bt t) j (ht t h)) := by
    intro j; unfold un5; rw [Memref.IsWhole.readAt_unread, rs, iblk5_eq]
  have fqs : View.readAt (Elt Ideal) (win0_1.stage (cfg0.slots t 1)).view (Rect.unit (s := S2x32) (k0_off1 (grid0.coords t) (BitVec.ofNat 32 h.val)) S1x1.size (k0_off1_inb (grid0.coords t) h)).toLoadRect (un1 m c t) (Shape.Idx.first pos11)
      = m ((c : Thread nD τ).loc main_arg3) (ValueIdx.ix2 (bt t) (ht t h)) := by
    unfold un1
    rw [Memref.IsWhole.readAt_unread, iblk1_eq]
    refine congrArg _ ?_
    obtain ⟨o0, o1⟩ := off1_val t h
    funext a
    fin_cases a
    · apply Fin.ext; refine (ld_val (s := S2x32) (k0_off1 (grid0.coords t) (BitVec.ofNat 32 h.val)) S1x1.size (k0_off1_inb (grid0.coords t) h) (Shape.Idx.first pos11) 0).trans ?_; rw [o0]; rfl
    · apply Fin.ext; refine (ld_val (s := S2x32) (k0_off1 (grid0.coords t) (BitVec.ofNat 32 h.val)) S1x1.size (k0_off1_inb (grid0.coords t) h) (Shape.Idx.first pos11) 1).trans ?_; rw [o1]; rfl
  have fv : ∀ (j : Fin 128), View.readAt (Elt Ideal) (win0_8.stage (cfg0.slots t 8)).view (Rect.unit (s := S1x1280x128) ![0, 128 * (160 * h.val / 128), 0] S1x256x128.size (inbV h)).toLoadRect (un8 m c t) (ValueIdx.ix3 0 p j)
      = m ((c : Thread nD τ).loc main_arg2) (ValueIdx.ix4 (bt t) j (ht t h) d) := by
    intro j; unfold un8; rw [Memref.IsWhole.readAt_unread]
    have e : (Rect.unit (s := S1x1280x128) ![0, 128 * (160 * h.val / 128), 0] S1x256x128.size (inbV h)).toLoadRect.idx (ValueIdx.ix3 0 p j) = (ValueIdx.ix3 0 ⟨160 * h.val + d.val, by omega⟩ j : S1x1280x128.Idx) := by
      funext a
      fin_cases a
      · apply Fin.ext; exact ld_val (s := S1x1280x128) ![0, 128 * (160 * h.val / 128), 0] S1x256x128.size (inbV h) (ValueIdx.ix3 0 p j) 0
      · apply Fin.ext; refine (ld_val (s := S1x1280x128) ![0, 128 * (160 * h.val / 128), 0] S1x256x128.size (inbV h) (ValueIdx.ix3 0 p j) 1).trans ?_; show 128 * (160 * h.val / 128) + p.val = 160 * h.val + d.val; omega
      · apply Fin.ext; exact (ld_val (s := S1x1280x128) ![0, 128 * (160 * h.val / 128), 0] S1x256x128.size (inbV h) (ValueIdx.ix3 0 p j) 2).trans (Nat.zero_add _)
    rw [e, iblk8_eq m c t h d _ rfl]
  unfold hdAt hd
  refine (headO_apply _ _ _ _ _ _ _ (mult (m ((c : Thread nD τ).loc main_arg6)) (m ((c : Thread nD τ).loc main_arg7)) (bt t) i) i (fun j => bias_apply m c t i j)
    (fun j => by rw [fvs]; exact hv _) p).trans ?_
  unfold outM outK
  refine Finset.sum_congr rfl fun j _ => ?_
  rw [fv]
  congr 2
  · funext j'
    unfold sco score
    rw [fqs, fks]
    congr 1
    exact Finset.sum_congr rfl fun k _ => by rw [fq, fk]
  · funext j'
    rw [fvs]

/-- The output array after the run. -/
def outArr : S2x128x5120.Idx → EReal := fun y =>
  outM m c (y 0) (y 1) ⟨(y 2).val / 160, by have : (y 2).val < 5120 := (y 2).isLt; omega⟩ ⟨(y 2).val % 160, Nat.mod_lt _ (by decide)⟩

set_option maxHeartbeats 2000000 in
theorem out_eq (hv : ∀ x, ∃ r : ℝ, (m ((c : Thread nD τ).loc main_arg5) x : EReal) = (r : EReal)) : (dats m 0 c).arrAt 9 cfg0.N = outArr m c := by
  refine (dats m 0 c).arrAt_eq_of_covers 9 _ (by decide +kernel) fun t hf y => ?_
  show (win0_9.stage (cfg0.slots t 9)).view.read (Elt Ideal) (outB m c t) y = outArr m c (((cfg0.win 9).blk t).view.emb y)
  rw [outB_read]
  have y2 : (y 2).val < 1280 := (y 2).isLt
  obtain ⟨h0, h1, h2⟩ := ix9 t
  unfold Gp
  refine (hd_apply m c hv t _ (y 1) ⟨(y 2).val % 160, Nat.mod_lt _ (by decide)⟩ _ ?_).trans ?_
  · show (y 2).val - 128 * (160 * ((y 2).val / 160) / 128) + 128 * (160 * ((y 2).val / 160) / 128) = 160 * ((y 2).val / 160) + (y 2).val % 160
    omega
  have e0 : (((cfg0.win 9).blk t).view.emb y 0).val = t.val / 4 := by
    refine ((cfg0.win 9).rect_emb_val t y 0).trans ?_
    rw [h0]
    have : (y 0).val < 1 := (y 0).isLt
    show t.val / 4 * 1 + (y 0).val = _
    omega
  have e1 : (((cfg0.win 9).blk t).view.emb y 1).val = (y 1).val := by
    refine ((cfg0.win 9).rect_emb_val t y 1).trans ?_
    rw [h1]
    show 0 * 128 + (y 1).val = _
    omega
  have e2 : (((cfg0.win 9).blk t).view.emb y 2).val = t.val % 4 * 1280 + (y 2).val := by
    refine ((cfg0.win 9).rect_emb_val t y 2).trans ?_
    rw [h2]
    rfl
  unfold outArr
  congr 1
  · exact Fin.ext e0.symm
  · exact Fin.ext e1.symm
  · apply Fin.ext
    show 8 * (t.val % 4) + (y 2).val / 160 = (((cfg0.win 9).blk t).view.emb y 2).val / 160
    rw [e2]; omega
  · apply Fin.ext
    show (y 2).val % 160 = (((cfg0.win 9).blk t).view.emb y 2).val % 160
    rw [e2]; omega

end Cert.Proof.KernelIdeal

end
-- ==== Proof.RefOps.lean ====
module

public import proofs.«01_k».proof.Proof.Gen.ReferenceIdeal.Read
public import proofs.«01_k».proof.Proof.Spec
public import Idealize.ShloMosaic.Lib.StableHlo.Predicate
public import Idealize.ShloMosaic.PureOps.Ideal.Laws

@[expose] public section

noncomputable section

namespace Cert.Proof.Ref

open Cert.ReferenceIdeal Cert.ReferenceIdeal.Gen Cert.ReferenceIdeal.Read Idealize.ShloMosaic Idealize.ShloMosaic.ValueIdx Idealize.ShloMosaic.StableHlo

/-- A gathered row or key, read signed and kept inside the array. -/
def clampW (w : BitVec 32) : Fin 128 := ⟨min w.toInt.toNat 127, by omega⟩

section gathers
variable {α : Type}

theorem gather3_apply (x : S2x128x32.Idx → α) (idx : IVec S2x3072x1 32) (b : Fin 2) (e : Fin 3072) (h : Fin 32) :
    Host.gather gather_S2x128x32_S2x3072x1_S2x3072x32_2_1_0_0_1_2_1132 x idx (ix3 b e h) = x (ix3 b (clampW (idx (ix3 b e 0))) h) := by
  unfold Host.gather
  congr 1
  funext a
  refine Fin.ext ?_
  generalize hd : gather_S2x128x32_S2x3072x1_S2x3072x32_2_1_0_0_1_2_1132 = d
  show d.start (ix3 b e h) idx a + d.batchCoord (ix3 b e h) a + d.offCoord (ix3 b e h) a = _
  subst hd
  match a with
  | ⟨0, h0⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 3) ∈ gather_S2x128x32_S2x3072x1_S2x3072x32_2_1_0_0_1_2_1132.operandBatchingDims by decide)]
    rfl
  | ⟨1, h1⟩ =>
    rw [GatherDims.batchCoord_eq_zero _ _ _ (show ¬ (⟨1, by decide⟩ : Fin 3) ∈ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ gather_S2x128x32_S2x3072x1_S2x3072x32_2_1_0_0_1_2_1132.startIndexMap by decide)]
    have hsi : gather_S2x128x32_S2x3072x1_S2x3072x32_2_1_0_0_1_2_1132.siIdx (ix3 b e h)
        ⟨List.idxOf (⟨1, h1⟩ : Fin 3) gather_S2x128x32_S2x3072x1_S2x3072x32_2_1_0_0_1_2_1132.startIndexMap,
        List.idxOf_lt_length_iff.2 (show (⟨1, by decide⟩ : Fin 3) ∈ gather_S2x128x32_S2x3072x1_S2x3072x32_2_1_0_0_1_2_1132.startIndexMap by decide)⟩ = ix3 b e 0 := by
      funext b; refine Fin.ext ?_
      match b with
      | ⟨0, _⟩ => rfl
      | ⟨1, _⟩ => rfl
      | ⟨2, _⟩ => rfl
    rw [hsi]
    rfl
  | ⟨2, _⟩ =>
    rw [GatherDims.batchCoord_eq_zero _ _ _ (show ¬ (⟨2, by decide⟩ : Fin 3) ∈ ([0] : List (Fin 3)) by decide)]
    unfold GatherDims.start
    rw [dif_neg (show ¬ (⟨2, by decide⟩ : Fin 3) ∈ gather_S2x128x32_S2x3072x1_S2x3072x32_2_1_0_0_1_2_1132.startIndexMap by decide)]
    unfold GatherDims.offCoord
    rw [dif_pos (show (⟨2, by decide⟩ : Fin 3) ∈ gather_S2x128x32_S2x3072x1_S2x3072x32_2_1_0_0_1_2_1132.sKept by decide)]
    simp only [Nat.zero_add, Nat.add_zero]
    rfl

theorem gather4_apply (x : S2x128x32x160.Idx → α) (idx : IVec S2x3072x1 32) (b : Fin 2) (e : Fin 3072) (h : Fin 32) (k : Fin 160) :
    Host.gather gather_S2x128x32x160_S2x3072x1_S2x3072x32x160_23_1_0_0_1_2_1132160 x idx (ix4 b e h k) = x (ix4 b (clampW (idx (ix3 b e 0))) h k) := by
  unfold Host.gather
  congr 1
  funext a
  refine Fin.ext ?_
  generalize hd : gather_S2x128x32x160_S2x3072x1_S2x3072x32x160_23_1_0_0_1_2_1132160 = d
  show d.start (ix4 b e h k) idx a + d.batchCoord (ix4 b e h k) a + d.offCoord (ix4 b e h k) a = _
  subst hd
  match a with
  | ⟨0, h0⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 4) ∈ gather_S2x128x32x160_S2x3072x1_S2x3072x32x160_23_1_0_0_1_2_1132160.operandBatchingDims by decide)]
    rfl
  | ⟨1, h1⟩ =>
    rw [GatherDims.batchCoord_eq_zero _ _ _ (show ¬ (⟨1, by decide⟩ : Fin 4) ∈ ([0] : List (Fin 4)) by decide),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 4) ∈ gather_S2x128x32x160_S2x3072x1_S2x3072x32x160_23_1_0_0_1_2_1132160.startIndexMap by decide)]
    have hsi : gather_S2x128x32x160_S2x3072x1_S2x3072x32x160_23_1_0_0_1_2_1132160.siIdx (ix4 b e h k)
        ⟨List.idxOf (⟨1, h1⟩ : Fin 4) gather_S2x128x32x160_S2x3072x1_S2x3072x32x160_23_1_0_0_1_2_1132160.startIndexMap,
        List.idxOf_lt_length_iff.2 (show (⟨1, by decide⟩ : Fin 4) ∈ gather_S2x128x32x160_S2x3072x1_S2x3072x32x160_23_1_0_0_1_2_1132160.startIndexMap by decide)⟩ = ix3 b e 0 := by
      funext b; refine Fin.ext ?_
      match b with
      | ⟨0, _⟩ => rfl
      | ⟨1, _⟩ => rfl
      | ⟨2, _⟩ => rfl
    rw [hsi]
    rfl
  | ⟨2, _⟩ =>
    rw [GatherDims.batchCoord_eq_zero _ _ _ (show ¬ (⟨2, by decide⟩ : Fin 4) ∈ ([0] : List (Fin 4)) by decide)]
    unfold GatherDims.start
    rw [dif_neg (show ¬ (⟨2, by decide⟩ : Fin 4) ∈ gather_S2x128x32x160_S2x3072x1_S2x3072x32x160_23_1_0_0_1_2_1132160.startIndexMap by decide)]
    unfold GatherDims.offCoord
    rw [dif_pos (show (⟨2, by decide⟩ : Fin 4) ∈ gather_S2x128x32x160_S2x3072x1_S2x3072x32x160_23_1_0_0_1_2_1132160.sKept by decide)]
    simp only [Nat.zero_add, Nat.add_zero]
    rfl
  | ⟨3, _⟩ =>
    rw [GatherDims.batchCoord_eq_zero _ _ _ (show ¬ (⟨3, by decide⟩ : Fin 4) ∈ ([0] : List (Fin 4)) by decide)]
    unfold GatherDims.start
    rw [dif_neg (show ¬ (⟨3, by decide⟩ : Fin 4) ∈ gather_S2x128x32x160_S2x3072x1_S2x3072x32x160_23_1_0_0_1_2_1132160.startIndexMap by decide)]
    unfold GatherDims.offCoord
    rw [dif_pos (show (⟨3, by decide⟩ : Fin 4) ∈ gather_S2x128x32x160_S2x3072x1_S2x3072x32x160_23_1_0_0_1_2_1132160.sKept by decide)]
    simp only [Nat.zero_add, Nat.add_zero]
    rfl

end gathers

/-- A sum of widened bits along the last axis counts the set ones. -/
theorem count_apply (mask : S2x3072x128.Idx → BitVec 1) (x : S2x3072x128.Idx → BitVec 32) (hx : ∀ i, x i = (mask i).setWidth 32) (b : Fin 2) (e : Fin 3072) :
    (Host.reduce IntOp.addi x (constantI S_ 32 0#32) reducesTo_S2x3072x128_S2x3072_d2 h_S_ (ix2 b e)).toNat
      = (Finset.univ.filter fun k : Fin 128 => mask (ix3 b e k) = 1#1).card := by
  rw [Host.reduce_eq_fold_single IntOp.addi x _ reducesTo_S2x3072x128_S2x3072_d2 (by decide)]
  have hs : ∑ k : Fin 128, (x (ix3 b e k)).toNat = (Finset.univ.filter fun k : Fin 128 => mask (ix3 b e k) = 1#1).card := by
    rw [Finset.card_filter]
    exact Finset.sum_congr rfl fun k _ => by rw [hx, Predicate.toNat_setWidth_bit]
  have hl : (x ∘ (Shape.Reduces.lift (s := S2x3072x128) (a := 2) (t := S2x3072) (by decide) (ix2 b e))) = fun k : Fin 128 => x (ix3 b e k) := by
    funext k
    exact congrArg x (funext fun a => Fin.ext (by match a with | ⟨0, _⟩ => rfl | ⟨1, _⟩ => rfl | ⟨2, _⟩ => rfl))
  refine Eq.trans ?_ hs
  refine (congrArg (fun f => (Finset.fold IntOp.addi 0#32 f (Finset.univ : Finset (Fin 128))).toNat) hl).trans ?_
  refine Predicate.toNat_fold_addi _ _ ?_
  rw [hs]
  exact lt_of_le_of_lt (Finset.card_le_univ _) (by simp)

theorem ninf_bits : (Ideal.ofBits .f32 0xFF800000#32 : EReal) = ⊥ := by simp [Ideal.ofBits, Ideal.ieee]

/-- The greatest score of a row, over the edges. -/
theorem max_apply (x : S2x128x3072x32.Idx → EReal) (b : Fin 2) (i : Fin 128) (h : Fin 32) :
    Host.reduce (FloatOps.maximumf (F := Ideal) (φ := .f32)) x (constant (F := Ideal) S_ .f32 0xFF800000#32) reducesTo_S2x128x3072x32_S2x128x32_d2 h_S_ (ix3 b i h)
      = Finset.univ.sup fun e : Fin 3072 => x (ix4 b i e h) := by
  rw [Host.reduce_eq_fold_single _ x _ reducesTo_S2x128x3072x32_S2x128x32_d2 (by decide)]
  have hl : (x ∘ (Shape.Reduces.lift (s := S2x128x3072x32) (a := 2) (t := S2x128x32) (by decide) (ix3 b i h))) = fun e : Fin 3072 => x (ix4 b i e h) := by
    funext k
    exact congrArg x (funext fun a => Fin.ext (by match a with | ⟨0, _⟩ => rfl | ⟨1, _⟩ => rfl | ⟨2, _⟩ => rfl | ⟨3, _⟩ => rfl))
  refine (congrArg (fun f => Finset.fold (FloatOps.maximumf (F := Ideal) (φ := .f32)) (Ideal.ofBits .f32 0xFF800000#32) f (Finset.univ : Finset (Fin 3072))) hl).trans ?_
  rw [ninf_bits]
  rfl

end Cert.Proof.Ref

end
-- ==== Proof.RefVal.lean ====
module

public import proofs.«01_k».proof.Proof.RefOps

@[expose] public section

noncomputable section

namespace Cert.Proof.Ref

open Cert.ReferenceIdeal Cert.ReferenceIdeal.Gen Cert.ReferenceIdeal.Read Idealize.ShloMosaic Idealize.ShloMosaic.ValueIdx Idealize.ShloMosaic.StableHlo

/-! ## Which row an edge lies in, as a count -/

section rows
variable (r : Fin 129 → ℤ) (hr : Monotone r)

/-- How many rows end at or before the edge. -/
def ended (e : ℤ) : ℕ := (Finset.univ.filter fun k : Fin 128 => r k.succ ≤ e).card

include hr in
theorem ended_of (e : ℤ) (i : Fin 128) (h0 : r i.castSucc ≤ e) (h1 : e < r i.succ) : ended r e = i.val := by
  have : (Finset.univ.filter fun k : Fin 128 => r k.succ ≤ e) = Finset.Iio i := by
    ext k
    simp only [Finset.mem_filter, Finset.mem_univ, true_and, Finset.mem_Iio]
    constructor
    · intro hk
      by_contra hc
      have : i.succ ≤ k.succ := Fin.succ_le_succ_iff.2 (not_lt.1 hc)
      exact absurd (lt_of_lt_of_le h1 (hr this)) (not_lt.2 hk)
    · intro hk
      have : k.succ ≤ i.castSucc := by rw [Fin.le_def]; exact hk
      exact (hr this).trans h0
  unfold ended
  rw [this, Fin.card_Iio]

theorem row_exists (e : ℤ) (h0 : r 0 ≤ e) (h1 : e < r (Fin.last 128)) : ∃ i : Fin 128, r i.castSucc ≤ e ∧ e < r i.succ := by
  by_contra hc
  have : ∀ k : Fin 129, r k ≤ e := by
    intro k
    induction k using Fin.induction with
    | zero => exact h0
    | succ k ih => by_contra h; exact hc ⟨k, ih, not_le.1 h⟩
  exact absurd (this _) (not_le.2 h1)

theorem ended_le (e : ℤ) : ended r e ≤ 128 := (Finset.card_le_univ _).trans (by simp)

include hr in
theorem lies_iff (e : ℤ) (h0 : r 0 ≤ e) (i : Fin 128) : (e < r (Fin.last 128) ∧ min (ended r e) 127 = i.val) ↔ (r i.castSucc ≤ e ∧ e < r i.succ) := by
  constructor
  · rintro ⟨h1, h2⟩
    obtain ⟨k, hk0, hk1⟩ := row_exists r e h0 h1
    have := ended_of r hr e k hk0 hk1
    have hk : k = i := Fin.ext (by have := k.isLt; omega)
    exact hk ▸ ⟨hk0, hk1⟩
  · rintro ⟨hk0, hk1⟩
    refine ⟨lt_of_lt_of_le hk1 (hr (Fin.le_last _)), ?_⟩
    have := ended_of r hr e i hk0 hk1
    have := i.isLt
    omega
end rows

/-! ## Words -/

theorem sel_bool {α : Type} (p : Bool) (a b : α) : Scalar.select (BitVec.ofBool p) a b = if p = true then a else b := by
  cases p <;> rfl

theorem min_word (w : BitVec 32) (h : w.toNat ≤ 128) : IntOp.minsi w 127#32 = BitVec.ofNat 32 (min w.toNat 127) := by
  have H : ∀ n : Fin 129, IntOp.minsi (BitVec.ofNat 32 n.val) 127#32 = BitVec.ofNat 32 (min n.val 127) := by decide +kernel
  have := H ⟨w.toNat, by omega⟩
  simpa using this

/-- An index below zero counts from the end. -/
def wrap (w : BitVec 32) : BitVec 32 := Scalar.select (IntOp.cmpi .slt w 0#32) (IntOp.addi w 128#32) w

theorem clamp_wrap (n : Fin 128) : clampW (wrap (BitVec.ofNat 32 n.val)) = n := by
  revert n; decide +kernel

theorem toInt_small (e : ℕ) (h : e < 2 ^ 31) : (BitVec.ofNat 32 e).toInt = e := by
  rw [BitVec.toInt_eq_toNat_of_lt]
  · rw [BitVec.toNat_ofNat]; omega
  · rw [BitVec.toNat_ofNat]; omega

theorem word_small (w : BitVec 32) (h0 : 0 ≤ w.toInt) (h1 : w.toInt < 128) : ∃ n : Fin 128, w = BitVec.ofNat 32 n.val := by
  have hlt : w.toNat < 2 ^ 31 := by
    by_contra hc
    have := w.isLt
    rw [BitVec.toInt_eq_toNat_cond, if_neg (by omega)] at h0
    omega
  rw [BitVec.toInt_eq_toNat_of_lt (by omega)] at h1
  exact ⟨⟨w.toNat, by omega⟩, by simp⟩

theorem ofNat_inj (n m : Fin 128) : (BitVec.ofNat 32 n.val == BitVec.ofNat 32 m.val) = decide (n = m) := by
  revert n m; decide +kernel

/-! ## The reference's values at an index -/

section vals
variable (x3 : S2x32.Idx → EReal) (x4 x5 : S2x128x32.Idx → EReal) (x6 : S2x129.Idx → BitVec 32) (x7 : S2x3072.Idx → BitVec 32)
  (q k v : S2x128x32x160.Idx → EReal) (e0 : S3072.Idx → BitVec 32) (e1 : S128.Idx → BitVec 32)
  (he0 : ∀ e : Fin 3072, e0 (ix1 e) = BitVec.ofNat 32 e.val) (he1 : ∀ i : Fin 128, e1 (ix1 i) = BitVec.ofNat 32 i.val)

/-- The row table as integers. -/
def rt (b : Fin 2) (j : Fin 129) : ℤ := (x6 (ix2 b j)).toInt
/-- The edge's row. -/
def rid (b : Fin 2) (e : Fin 3072) : Fin 128 := ⟨min (ended (rt x6 b) e.val) 127, by omega⟩
/-- The edge's key. -/
def key (b : Fin 2) (e : Fin 3072) : Fin 128 := clampW (wrap (x7 (ix2 b e)))
/-- The edge lies below the last row's end. -/
def live (b : Fin 2) (e : Fin 3072) : Prop := (e.val : ℤ) < rt x6 b (Fin.last 128)

instance (b : Fin 2) (e : Fin 3072) : Decidable (live x6 b e) := by unfold live; infer_instance

include he0

theorem v9_at (b : Fin 2) (e : Fin 3072) (j : Fin 128) :
    val_main_v9 (F := Ideal) x6 e0 (ix3 b e j) = BitVec.ofBool (decide (rt x6 b j.succ ≤ (e.val : ℤ))) := by
  rw [val_main_v9_apply, val_main_v7_apply, val_main_v4_apply, val_main_v3_apply, val_main_v8_apply, val_main_v6_apply, val_main_v5_apply]
  have h1 : idx_main_v3 (idx_main_v4 (idx_main_v7 (ix3 b e j))) = ix2 b j.succ := funext fun a => Fin.ext (by
    match a with
    | ⟨0, _⟩ => rfl
    | ⟨1, _⟩ => exact Nat.add_comm 1 j.val)
  have h2 : idx_main_v5 (idx_main_v6 (idx_main_v8 (ix3 b e j))) = ix1 e := funext fun a => Fin.ext (by
    match a with
    | ⟨0, _⟩ => rfl)
  rw [h1, h2, he0]
  show BitVec.ofBool ((x6 (ix2 b j.succ)).sle (BitVec.ofNat 32 e.val)) = _
  rw [BitVec.sle_eq_decide, toInt_small e.val (by have := e.isLt; omega)]
  rfl

theorem v11_at (b : Fin 2) (e : Fin 3072) : (val_main_v11 (F := Ideal) x6 e0 (ix2 b e)).toNat = ended (rt x6 b) e.val := by
  refine (count_apply (val_main_v9 (F := Ideal) x6 e0) (val_main_v10 (F := Ideal) x6 e0) (fun i => val_main_v10_apply x6 e0 i) b e).trans ?_
  unfold ended
  congr 1
  refine Finset.filter_congr fun j _ => ?_
  rw [v9_at x6 e0 he0]
  by_cases h : rt x6 b j.succ ≤ (e.val : ℤ) <;> simp [h]

theorem v13_at (b : Fin 2) (e : Fin 3072) : val_main_v13 (F := Ideal) x6 e0 (ix2 b e) = BitVec.ofNat 32 (rid x6 b e).val := by
  rw [val_main_v13_apply, val_main_v12_apply, val_main_c_0_apply, min_word _ (by rw [v11_at x6 e0 he0]; exact ended_le _ _), v11_at x6 e0 he0]
  rfl

theorem v20_at (b : Fin 2) (e : Fin 3072) : val_main_v20 (F := Ideal) x6 e0 (ix2 b e) = BitVec.ofBool (decide (live x6 b e)) := by
  rw [val_main_v20_apply, val_main_v18_apply, val_main_v16_apply, val_main_v19_apply, val_main_v17_apply, val_main_v15_apply, val_main_v14_apply]
  have h1 : idx_main_v14 (idx_main_v15 (idx_main_v17 (idx_main_v19 (ix2 b e)))) = ix2 b (Fin.last 128) := funext fun a => Fin.ext (by
    match a with
    | ⟨0, _⟩ => exact Nat.div_one b.val
    | ⟨1, _⟩ => rfl)
  have h2 : idx_main_v16 (idx_main_v18 (ix2 b e)) = ix1 e := funext fun a => Fin.ext (by
    match a with
    | ⟨0, _⟩ => rfl)
  rw [h1, h2, he0]
  show BitVec.ofBool ((BitVec.ofNat 32 e.val).slt (x6 (ix2 b (Fin.last 128)))) = _
  rw [BitVec.slt_eq_decide, toInt_small e.val (by have := e.isLt; omega)]
  rfl

theorem v27_at (b : Fin 2) (e : Fin 3072) : clampW (val_main_v27 (F := Ideal) x6 e0 (ix3 b e 0)) = rid x6 b e := by
  rw [val_main_v27_apply, show idx_main_v27 (ix3 b e 0) = ix2 b e from (by funext a; fin_cases a <;> rfl),
    val_main_v26_apply, val_main_v23_apply, val_main_v25_apply, v13_at x6 e0 he0, val_main_v22_apply, val_main_c_1_apply, val_main_v24_apply, val_main_c_2_apply]
  exact clamp_wrap _

theorem v66_at (b : Fin 2) (e : Fin 3072) : clampW (val_main_v66 (F := Ideal) x6 e0 (ix3 b e 0)) = rid x6 b e := by
  rw [val_main_v66_apply, show idx_main_v66 (ix3 b e 0) = ix2 b e from (by funext a; fin_cases a <;> rfl),
    val_main_v65_apply, val_main_v62_apply, val_main_v64_apply, v13_at x6 e0 he0, val_main_v61_apply, val_main_c_10_apply, val_main_v63_apply, val_main_c_11_apply]
  exact clamp_wrap _

theorem v79_at (b : Fin 2) (e : Fin 3072) : clampW (val_main_v79 (F := Ideal) x6 e0 (ix3 b e 0)) = rid x6 b e := by
  rw [val_main_v79_apply, show idx_main_v79 (ix3 b e 0) = ix2 b e from (by funext a; fin_cases a <;> rfl),
    val_main_v78_apply, val_main_v75_apply, val_main_v77_apply, v13_at x6 e0 he0, val_main_v74_apply, val_main_c_14_apply, val_main_v76_apply, val_main_c_15_apply]
  exact clamp_wrap _

theorem v88_at (b : Fin 2) (e : Fin 3072) : clampW (val_main_v88 (F := Ideal) x6 e0 (ix3 b e 0)) = rid x6 b e := by
  rw [val_main_v88_apply, show idx_main_v88 (ix3 b e 0) = ix2 b e from (by funext a; fin_cases a <;> rfl),
    val_main_v87_apply, val_main_v84_apply, val_main_v86_apply, v13_at x6 e0 he0, val_main_v83_apply, val_main_c_17_apply, val_main_v85_apply, val_main_c_18_apply]
  exact clamp_wrap _

omit he0

theorem v34_at (b : Fin 2) (e : Fin 3072) : clampW (val_main_v34 (F := Ideal) x7 (ix3 b e 0)) = key x7 b e := by
  rw [val_main_v34_apply, show idx_main_v34 (ix3 b e 0) = ix2 b e from (by funext a; fin_cases a <;> rfl),
    val_main_v33_apply, val_main_v30_apply, val_main_v32_apply, val_main_v29_apply, val_main_c_3_apply, val_main_v31_apply, val_main_c_4_apply]
  rfl

theorem v43_at (b : Fin 2) (e : Fin 3072) : clampW (val_main_v43 (F := Ideal) x7 (ix3 b e 0)) = key x7 b e := by
  rw [val_main_v43_apply, show idx_main_v43 (ix3 b e 0) = ix2 b e from (by funext a; fin_cases a <;> rfl),
    val_main_v42_apply, val_main_v39_apply, val_main_v41_apply, val_main_v38_apply, val_main_c_5_apply, val_main_v40_apply, val_main_c_6_apply]
  rfl

theorem v97_at (b : Fin 2) (e : Fin 3072) : clampW (val_main_v97 (F := Ideal) x7 (ix3 b e 0)) = key x7 b e := by
  rw [val_main_v97_apply, show idx_main_v97 (ix3 b e 0) = ix2 b e from (by funext a; fin_cases a <;> rfl),
    val_main_v96_apply, val_main_v93_apply, val_main_v95_apply, val_main_v92_apply, val_main_c_20_apply, val_main_v94_apply, val_main_c_21_apply]
  rfl

theorem v107_at (b : Fin 2) (e : Fin 3072) : clampW (val_main_v107 (F := Ideal) x7 (ix3 b e 0)) = key x7 b e := by
  rw [val_main_v107_apply, show idx_main_v107 (ix3 b e 0) = ix2 b e from (by funext a; fin_cases a <;> rfl),
    val_main_v106_apply, val_main_v103_apply, val_main_v105_apply, val_main_v102_apply, val_main_c_22_apply, val_main_v104_apply, val_main_c_23_apply]
  rfl

include he0

theorem v49_at (b : Fin 2) (e : Fin 3072) (h : Fin 32) :
    val_main_v49 (F := Ideal) x3 x4 x6 x7 q k e0 (ix3 b e h) = score q k x3 x4 b h (rid x6 b e) (key x7 b e) := by
  rw [val_main_v49_apply, val_main_v36_apply, val_main_v48_apply, val_main_v46_apply, val_main_v45_apply, val_main_v37_apply, val_main_v47_apply, val_main_cst_apply]
  unfold score
  have h1 : val_main_v44 (F := Ideal) x4 x7 (ix3 b e h) = x4 (ix3 b (key x7 b e) h) := by
    refine (gather3_apply x4 (val_main_v43 (F := Ideal) x7) b e h).trans ?_
    rw [v43_at]
  have h2 : idx_main_v37 (idx_main_v45 (ix3 b e h)) = ix2 b h := by funext a; fin_cases a <;> rfl
  rw [h1, h2]
  show (∑ d : Fin 160, _) * _ = (∑ d : Fin 160, _) * (_ * _ * cst)
  congr 1
  refine Finset.sum_congr rfl fun d _ => ?_
  have h3 : lidx_main_v36 (ix3 b e h) d = ix4 b e h d := by funext a; fin_cases a <;> rfl
  have h4 : ridx_main_v36 (ix3 b e h) d = ix4 b e h d := by funext a; fin_cases a <;> rfl
  rw [h3, h4]
  congr 1
  · refine (gather4_apply q (val_main_v27 (F := Ideal) x6 e0) b e h d).trans ?_
    rw [v27_at x6 e0 he0]
  · refine (gather4_apply k (val_main_v34 (F := Ideal) x7) b e h d).trans ?_
    rw [v34_at]

theorem v50_at (b : Fin 2) (e : Fin 3072) (h : Fin 32) :
    val_main_v50 (F := Ideal) x3 x4 x6 x7 q k e0 (ix3 b e h) = if live x6 b e then score q k x3 x4 b h (rid x6 b e) (key x7 b e) else ⊥ := by
  rw [val_main_v50_apply, v49_at x3 x4 x6 x7 q k e0 he0, val_main_call0_v1_apply, val_main_v21_apply,
    show idx_main_v21 (idx_main_call0_v1 (ix3 b e h)) = ix2 b e from (by funext a; fin_cases a <;> rfl), v20_at x6 e0 he0,
    val_main_call0_v3_apply, val_main_call0_v2_apply, val_main_call0_v0_apply, val_main_cst_7_apply]
  rw [sel_bool, show (FloatOps.ofBits (F := Ideal) .f32 0xFF800000#32 : EReal) = ⊥ from ninf_bits]
  exact if_congr (by simp) rfl rfl

include he1

theorem v56_at (b : Fin 2) (i : Fin 128) (e : Fin 3072) :
    val_main_v56 (F := Ideal) x6 e0 e1 (ix3 b i e) = BitVec.ofBool (decide (rid x6 b e = i)) := by
  rw [val_main_v56_apply, val_main_v54_apply, val_main_v51_apply, val_main_v55_apply, val_main_v53_apply, val_main_v52_apply,
    show idx_main_v51 (idx_main_v54 (ix3 b i e)) = ix2 b e from (by funext a; fin_cases a <;> rfl),
    show idx_main_v52 (idx_main_v53 (idx_main_v55 (ix3 b i e))) = ix1 i from (by funext a; fin_cases a <;> rfl), v13_at x6 e0 he0, he1]
  show BitVec.ofBool _ = _
  rw [ofNat_inj]

theorem v60_at (b : Fin 2) (i : Fin 128) (h : Fin 32) :
    val_main_v60 (F := Ideal) x3 x4 x6 x7 q k e0 e1 (ix3 b i h)
      = Finset.univ.sup fun e : Fin 3072 => if rid x6 b e = i then (if live x6 b e then score q k x3 x4 b h (rid x6 b e) (key x7 b e) else ⊥) else ⊥ := by
  refine (max_apply (val_main_v59 (F := Ideal) x3 x4 x6 x7 q k e0 e1) b i h).trans ?_
  refine congrArg _ (funext fun e => ?_)
  rw [val_main_v59_apply, val_main_call1_v1_apply, val_main_v57_apply, val_main_call1_v2_apply, val_main_v58_apply, val_main_call1_v4_apply,
    val_main_call1_v3_apply, val_main_call1_v0_apply, val_main_cst_8_apply,
    show idx_main_v57 (idx_main_call1_v1 (ix4 b i e h)) = ix3 b i e from (by funext a; fin_cases a <;> rfl),
    show idx_main_v58 (idx_main_call1_v2 (ix4 b i e h)) = ix3 b e h from (by funext a; fin_cases a <;> rfl),
    v56_at x6 e0 e1 he0 he1, v50_at x3 x4 x6 x7 q k e0 he0, sel_bool, show (FloatOps.ofBits (F := Ideal) .f32 0xFF800000#32 : EReal) = ⊥ from ninf_bits]
  exact if_congr (by simp) rfl rfl

theorem v69_at (b : Fin 2) (e : Fin 3072) (h : Fin 32) :
    val_main_v69 (F := Ideal) x3 x4 x6 x7 q k e0 e1 (ix3 b e h)
      = Ideal.exp ((if live x6 b e then score q k x3 x4 b h (rid x6 b e) (key x7 b e) else ⊥) - val_main_v60 (F := Ideal) x3 x4 x6 x7 q k e0 e1 (ix3 b (rid x6 b e) h)) := by
  rw [val_main_v69_apply, val_main_v68_apply, v50_at x3 x4 x6 x7 q k e0 he0]
  have h1 : val_main_v67 (F := Ideal) x3 x4 x6 x7 q k e0 e1 (ix3 b e h) = val_main_v60 (F := Ideal) x3 x4 x6 x7 q k e0 e1 (ix3 b (rid x6 b e) h) := by
    refine (gather3_apply (val_main_v60 (F := Ideal) x3 x4 x6 x7 q k e0 e1) (val_main_v66 (F := Ideal) x6 e0) b e h).trans ?_
    rw [v66_at x6 e0 he0]
  rw [h1]
  rfl

theorem v73_at (b : Fin 2) (i : Fin 128) (h : Fin 32) :
    val_main_v73 (F := Ideal) x3 x4 x6 x7 q k e0 e1 (ix3 b i h)
      = ∑ e : Fin 3072, if rid x6 b e = i then val_main_v69 (F := Ideal) x3 x4 x6 x7 q k e0 e1 (ix3 b e h) else 0 := by
  rw [val_main_v73_apply, val_main_cst_13_apply, show (FloatOps.ofBits (F := Ideal) .f32 0x00000000#32 : EReal) = 0 from Ideal.ofBits_zero_f32, zero_add]
  refine Finset.sum_congr rfl fun e _ => ?_
  rw [val_main_v72_apply, val_main_call2_v1_apply, val_main_v70_apply, val_main_call2_v2_apply, val_main_v71_apply, val_main_call2_v4_apply,
    val_main_call2_v3_apply, val_main_call2_v0_apply, val_main_cst_12_apply,
    show idx_main_v70 (idx_main_call2_v1 (idx_main_v73 (ix3 b i h) e)) = ix3 b i e from (by funext a; fin_cases a <;> rfl),
    show idx_main_v71 (idx_main_call2_v2 (idx_main_v73 (ix3 b i h) e)) = ix3 b e h from (by funext a; fin_cases a <;> rfl),
    v56_at x6 e0 e1 he0 he1, sel_bool, show (FloatOps.ofBits (F := Ideal) .f32 0x00000000#32 : EReal) = 0 from Ideal.ofBits_zero_f32]
  exact if_congr (by simp) rfl rfl

theorem v91_at (b : Fin 2) (e : Fin 3072) (h : Fin 32) (l : EReal) (hl : val_main_v73 (F := Ideal) x3 x4 x6 x7 q k e0 e1 (ix3 b (rid x6 b e) h) = l) :
    val_main_v91 (F := Ideal) x3 x4 x6 x7 q k e0 e1 (ix3 b e h)
      = if 0 < l then Ideal.div (val_main_v69 (F := Ideal) x3 x4 x6 x7 q k e0 e1 (ix3 b e h)) l else 0 := by
  have h1 : val_main_v80 (F := Ideal) x3 x4 x6 x7 q k e0 e1 (ix3 b e h) = l := by
    refine (gather3_apply (val_main_v73 (F := Ideal) x3 x4 x6 x7 q k e0 e1) (val_main_v79 (F := Ideal) x6 e0) b e h).trans ?_
    rw [v79_at x6 e0 he0, hl]
  have h2 : val_main_v89 (F := Ideal) x3 x4 x6 x7 q k e0 e1 (ix3 b e h) = l := by
    refine (gather3_apply (val_main_v73 (F := Ideal) x3 x4 x6 x7 q k e0 e1) (val_main_v88 (F := Ideal) x6 e0) b e h).trans ?_
    rw [v88_at x6 e0 he0, hl]
  rw [val_main_v91_apply, val_main_v82_apply, val_main_v90_apply, h1, h2, val_main_v81_apply, val_main_cst_16_apply, val_main_call3_v2_apply,
    val_main_call3_v1_apply, val_main_call3_v0_apply, val_main_cst_19_apply, show (FloatOps.ofBits (F := Ideal) .f32 0x00000000#32 : EReal) = 0 from Ideal.ofBits_zero_f32]
  show Scalar.select (BitVec.ofBool (decide ((0 : EReal) < l))) _ _ = _
  rw [sel_bool]
  exact if_congr (by simp) rfl rfl

theorem v111_at (b : Fin 2) (i : Fin 128) (h : Fin 32) (d : Fin 160) :
    val_main_v111 (F := Ideal) x3 x4 x5 x6 x7 q k v e0 e1 (ix4 b i h d)
      = ∑ e : Fin 3072, if rid x6 b e = i then val_main_v91 (F := Ideal) x3 x4 x6 x7 q k e0 e1 (ix3 b e h) * x5 (ix3 b (key x7 b e) h) * v (ix4 b (key x7 b e) h d) else 0 := by
  rw [val_main_v111_apply]
  refine Finset.sum_congr rfl fun e _ => ?_
  have h1 : val_main_v98 (F := Ideal) x5 x7 (ix3 b e h) = x5 (ix3 b (key x7 b e) h) := by
    refine (gather3_apply x5 (val_main_v97 (F := Ideal) x7) b e h).trans ?_
    rw [v97_at]
  have h2 : val_main_v108 (F := Ideal) x7 v (ix4 b e h d) = v (ix4 b (key x7 b e) h d) := by
    refine (gather4_apply v (val_main_v107 (F := Ideal) x7) b e h d).trans ?_
    rw [v107_at]
  rw [show lidx_main_v111 (ix4 b i h d) e = ix3 b i e from (by funext a; fin_cases a <;> rfl),
    show ridx_main_v111 (ix4 b i h d) e = ix4 b e h d from (by funext a; fin_cases a <;> rfl),
    val_main_v100_apply, v56_at x6 e0 e1 he0 he1, val_main_v110_apply, h2, val_main_v109_apply, val_main_v101_apply,
    show idx_main_v101 (idx_main_v109 (ix4 b e h d)) = ix3 b e h from (by funext a; fin_cases a <;> rfl), val_main_v99_apply, h1]
  by_cases hm : rid x6 b e = i
  · rw [if_pos hm]
    rw [show (FloatOps.uitofp (F := Ideal) .f32 (BitVec.ofBool (decide (rid x6 b e = i))) : EReal) = 1 from by simp [hm, FloatOps.uitofp]]
    exact one_mul _
  · rw [if_neg hm]
    rw [show (FloatOps.uitofp (F := Ideal) .f32 (BitVec.ofBool (decide (rid x6 b e = i))) : EReal) = 0 from by simp [hm, FloatOps.uitofp]]
    exact zero_mul _

end vals

end Cert.Proof.Ref

end
-- ==== Proof.RefOut.lean ====
module

public import proofs.«01_k».proof.Proof.RefVal

@[expose] public section

noncomputable section

namespace Cert.Proof.Ref

open Cert.ReferenceIdeal Cert.ReferenceIdeal.Gen Cert.ReferenceIdeal.Read Idealize.ShloMosaic Idealize.ShloMosaic.ValueIdx Idealize.ShloMosaic.StableHlo

variable (x3 : S2x32.Idx → EReal) (x4 x5 : S2x128x32.Idx → EReal) (x6 : S2x129.Idx → BitVec 32) (x7 : S2x3072.Idx → BitVec 32)
  (q k v : S2x128x32x160.Idx → EReal) (e0 : S3072.Idx → BitVec 32) (e1 : S128.Idx → BitVec 32)
  (he0 : ∀ e : Fin 3072, e0 (ix1 e) = BitVec.ofNat 32 e.val) (he1 : ∀ i : Fin 128, e1 (ix1 i) = BitVec.ofNat 32 i.val)
  (hz : ∀ b, rt x6 b 0 = 0) (hm : ∀ b (j : Fin 128), rt x6 b j.castSucc ≤ rt x6 b j.succ)
  (hc : ∀ b e, live x6 b e → 0 ≤ (x7 (ix2 b e)).toInt ∧ (x7 (ix2 b e)).toInt < 128)
  (hv : ∀ y, ∃ r : ℝ, x5 y = (r : EReal))

include hz hm in
theorem mem_iff (b : Fin 2) (i : Fin 128) (e : Fin 3072) :
    (live x6 b e ∧ rid x6 b e = i) ↔ (rt x6 b i.castSucc ≤ (e.val : ℤ) ∧ (e.val : ℤ) < rt x6 b i.succ) := by
  rw [← lies_iff (rt x6 b) (Fin.monotone_iff_le_succ.2 (hm b)) e.val (by rw [hz]; omega) i]
  unfold live rid
  rw [Fin.ext_iff]

include hz hm hc in
theorem cnt_eq (b : Fin 2) (i : Fin 128) : Math.cnt (fun e : Fin 3072 => live x6 b e ∧ rid x6 b e = i) (key x7 b) = mult x6 x7 b i := by
  funext j
  unfold Math.cnt mult
  congr 1
  refine Finset.filter_congr fun e _ => ?_
  have hs : (BitVec.ofNat 32 e.val).toInt = e.val := toInt_small _ (by have := e.isLt; omega)
  have h1 : ((x6 (ix2 b i.castSucc)).sle (BitVec.ofNat 32 e.val) = true) ↔ rt x6 b i.castSucc ≤ (e.val : ℤ) := by
    rw [BitVec.sle_eq_decide, hs, decide_eq_true_iff]; rfl
  have h2 : ((BitVec.ofNat 32 e.val).slt (x6 (ix2 b i.succ)) = true) ↔ (e.val : ℤ) < rt x6 b i.succ := by
    rw [BitVec.slt_eq_decide, hs, decide_eq_true_iff]; rfl
  have h3 := mem_iff x6 hz hm b i e
  have h4 : live x6 b e → (key x7 b e = j ↔ x7 (ix2 b e) = BitVec.ofNat 32 j.val) := fun hl => by
    obtain ⟨n, hn⟩ := word_small _ (hc b e hl).1 (hc b e hl).2
    unfold key
    rw [hn, clamp_wrap, ← beq_iff_eq (a := BitVec.ofNat 32 n.val), ofNat_inj, decide_eq_true_iff]
  unfold hit
  rw [h1, h2, ← and_assoc, ← h3]
  constructor
  · rintro ⟨ha, hb⟩; exact ⟨ha, (h4 ha.1).1 hb⟩
  · rintro ⟨ha, hb⟩; exact ⟨ha, (h4 ha.1).2 hb⟩

theorem bot_sub' (x : EReal) : (⊥ : EReal) - x = ⊥ := by rw [sub_eq_add_neg, EReal.bot_add]

include he0 he1 hz hm hc hv

/-- The reference's output, as the sum over the keys. -/
theorem out_at (b : Fin 2) (i : Fin 128) (h : Fin 32) (d : Fin 160) :
    val_main_v111 (F := Ideal) x3 x4 x5 x6 x7 q k v e0 e1 (ix4 b i h d) = outK q k v x3 x4 x5 x6 x7 b i h d := by
  have hM : ∀ i, val_main_v60 (F := Ideal) x3 x4 x6 x7 q k e0 e1 (ix3 b i h) = Math.M (mult x6 x7 b i) (score q k x3 x4 b h i) := fun i => by
    rw [v60_at x3 x4 x6 x7 q k e0 e1 he0 he1, ← cnt_eq x6 x7 hz hm hc, ← Math.sup_edges]
    refine congrArg _ (funext fun e => ?_)
    by_cases h1 : rid x6 b e = i
    · rw [if_pos h1, h1]; exact if_congr (by simp [h1]) rfl rfl
    · rw [if_neg h1, if_neg (fun h => h1 h.2)]
  have hP : ∀ e, val_main_v69 (F := Ideal) x3 x4 x6 x7 q k e0 e1 (ix3 b e h)
      = if live x6 b e then Math.X (mult x6 x7 b (rid x6 b e)) (score q k x3 x4 b h (rid x6 b e)) (key x7 b e) else 0 := fun e => by
    rw [v69_at x3 x4 x6 x7 q k e0 e1 he0 he1, hM]
    by_cases h1 : live x6 b e
    · rw [if_pos h1, if_pos h1]; rfl
    · rw [if_neg h1, if_neg h1, bot_sub']; rfl
  have hL : ∀ i, val_main_v73 (F := Ideal) x3 x4 x6 x7 q k e0 e1 (ix3 b i h) = Math.L (mult x6 x7 b i) (score q k x3 x4 b h i) := fun i => by
    rw [v73_at x3 x4 x6 x7 q k e0 e1 he0 he1]
    unfold Math.L
    rw [← cnt_eq x6 x7 hz hm hc, ← Math.sum_edges]
    refine Finset.sum_congr rfl fun e _ => ?_
    rw [hP, cnt_eq x6 x7 hz hm hc]
    by_cases h1 : rid x6 b e = i
    · rw [if_pos h1, h1]; exact if_congr (by simp [h1]) rfl rfl
    · rw [if_neg h1, if_neg (fun h => h1 h.2)]
  rw [v111_at x3 x4 x5 x6 x7 q k v e0 e1 he0 he1]
  unfold outK
  rw [← cnt_eq x6 x7 hz hm hc, Math.row_edges _ _ _ _ (fun j => v (ix4 b j h d)) (fun j => hv _)]
  refine Finset.sum_congr rfl fun e _ => ?_
  rw [v91_at x3 x4 x6 x7 q k e0 e1 he0 he1 b e h _ (hL _), hP, cnt_eq x6 x7 hz hm hc]
  by_cases h1 : rid x6 b e = i
  · rw [if_pos h1, h1]
    by_cases h2 : live x6 b e
    · rw [if_pos (And.intro h2 rfl), if_pos h2]; rfl
    · rw [if_neg (show ¬ (live x6 b e ∧ i = i) from fun h' => h2 h'.1), if_neg h2]
      have : (if 0 < Math.L (mult x6 x7 b i) (score q k x3 x4 b h i) then Ideal.div 0 (Math.L (mult x6 x7 b i) (score q k x3 x4 b h i)) else 0) = 0 := by
        split
        · rename_i hl
          unfold Ideal.div
          rw [if_neg hl.ne', zero_mul]
        · rfl
      rw [this, zero_mul, zero_mul]
  · rw [if_neg h1, if_neg (fun h => h1 h.2)]

end Cert.Proof.Ref

end
-- ==== Proof.Cols.lean ====
module

public import proofs.«01_k».proof.Proof.Rows
public import proofs.«01_k».proof.Proof.RefOut

@[expose] public section

noncomputable section

namespace Cert.Proof

open Cert.Pre_csr Idealize.ShloMosaic

variable [Facts]

theorem rix_eq (b : Fin 2) (k : Fin 129) : rix b k = ValueIdx.ix2 b k := by funext a; fin_cases a <;> rfl

theorem or_bits (A B C : Bool) (h : IntOp.ori (IntOp.andi (BitVec.ofBool A) (BitVec.ofBool B)) (BitVec.ofBool C) = 1#1) (hC : C = false) :
    A = true ∧ B = true := by
  revert h; subst hC; cases A <;> cases B <;> decide

/-- Below the last row's end a column is a key. -/
theorem cols_of (a0 a1 a2 : FVec Ideal S2x128x32x160 .fp8e4m3) (a3 : FVec Ideal S2x32 .f32) (a4 a5 : FVec Ideal S2x128x32 .f32) (a6 : IVec S2x129 32) (a7 : IVec S2x3072 32)
    (h4 : (fn (F := Ideal) a0 a1 a2 a3 a4 a5 a6 a7).2.2.2.1 = fun _ => 1#1) (b : Fin 2) (e : Fin 3072)
    (hl : Ref.live a6 b e) : 0 ≤ (a7 (ValueIdx.ix2 b e)).toInt ∧ (a7 (ValueIdx.ix2 b e)).toInt < 128 := by
  have h := congrFun h4 (ValueIdx.ix2 b e)
  have h' : IntOp.ori (IntOp.andi (BitVec.ofBool ((0#32 : BitVec 32).sle (a7 (ValueIdx.ix2 b e)))) (BitVec.ofBool ((a7 (ValueIdx.ix2 b e)).slt 128#32)))
      (BitVec.ofBool ((a6 (ValueIdx.ix2 b (Fin.last 128))).sle (BitVec.ofNat 32 e.val))) = 1#1 := by
    rw [← h]
    show _ = IntOp.ori (IntOp.andi (BitVec.ofBool ((0#32 : BitVec 32).sle (a7 (ValueIdx.ix2 b e)))) (BitVec.ofBool ((a7 (ValueIdx.ix2 b e)).slt 128#32)))
      (BitVec.ofBool ((a6 _).sle (BitVec.ofNat 32 e.val)))
    congr 3
    refine congrArg a6 ?_
    funext a; fin_cases a
    · apply Fin.ext; show b.val = 0 + b.val; omega
    · rfl
  have hs : (BitVec.ofNat 32 e.val).toInt = e.val := Ref.toInt_small _ (by have := e.isLt; omega)
  obtain ⟨h1, h2⟩ := or_bits _ _ _ h' (by
    rw [BitVec.sle_eq_decide, hs, decide_eq_false_iff_not, not_le]; exact hl)
  rw [BitVec.sle_eq_decide, decide_eq_true_iff] at h1
  rw [BitVec.slt_eq_decide, decide_eq_true_iff] at h2
  exact ⟨h1, h2⟩

theorem inf_bits : (Ideal.ofBits .f32 0x7F800000#32 : EReal) = ⊤ := by simp [Ideal.ofBits, Ideal.ieee]

/-- The value scales are numbers. -/
theorem scales_of (a0 a1 a2 : FVec Ideal S2x128x32x160 .fp8e4m3) (a3 : FVec Ideal S2x32 .f32) (a4 a5 : FVec Ideal S2x128x32 .f32) (a6 : IVec S2x129 32) (a7 : IVec S2x3072 32)
    (h5 : (fn (F := Ideal) a0 a1 a2 a3 a4 a5 a6 a7).2.2.2.2 = fun _ => 1#1) (y : S2x128x32.Idx) : ∃ r : ℝ, (a5 y : EReal) = (r : EReal) := by
  have h := congrFun h5 y
  have h' : BitVec.ofBool (decide (max (a5 y : EReal) (-(a5 y : EReal)) < Ideal.ofBits .f32 0x7F800000#32)) = 1#1 := h
  rw [inf_bits] at h'
  have hlt : max (a5 y : EReal) (-(a5 y : EReal)) < ⊤ := by
    by_contra hc
    rw [decide_eq_false hc] at h'
    exact absurd h' (by decide)
  have key : ∀ x : EReal, max x (-x) < ⊤ → ∃ r : ℝ, x = (r : EReal) := by
    intro x hlt
    induction x using EReal.rec with
    | bot => simp at hlt
    | top => simp at hlt
    | coe r => exact ⟨r, rfl⟩
  exact key _ hlt

end Cert.Proof

end
-- ==== Proof.RefRun.lean ====
module

public import proofs.«01_k».proof.Proof.Gen.ReferenceIdeal.Run
public import Idealize.ShloMosaic.Lib.Pipeline.ReadBack
public import Idealize.ShloMosaic.Lib.Pipeline.ValueKit

@[expose] public section

noncomputable section

namespace Cert.Proof.Ref

open Cert.ReferenceIdeal Cert.ReferenceIdeal.Gen Cert.ReferenceIdeal.Value Idealize.ShloMosaic Idealize.ShloMosaic.TcCoe

variable (m : (ℓ : Loc nD τ sig) → Buf (Elt Ideal) ℓ) (c : Dev nD)

theorem ixw (t : Fin cfg0.N) (w : Fin cfg0.W) : ∀ a, (cfg0.win w).index t a = 0 := by
  revert t w; decide +kernel

theorem iblk0_eq (t : Fin cfg0.N) (y : S2x128x32x160.Idx) : iblk m c 0 t y = m ((c : Thread nD τ).loc main_arg0) y := by
  have e : iblk m c 0 t y = V m c main_arg0 (((cfg0.win 0).blk t).view.emb y) := rfl
  rw [e, V_main_arg0]
  refine congrArg _ (funext fun a => Fin.ext (((cfg0.win 0).rect_emb_val t y a).trans ?_))
  rw [ixw]; exact (congrArg (· + (y a).val) (Nat.zero_mul _)).trans (Nat.zero_add _)
theorem iblk1_eq (t : Fin cfg0.N) (y : S2x128x32x160.Idx) : iblk m c 1 t y = m ((c : Thread nD τ).loc main_arg1) y := by
  have e : iblk m c 1 t y = V m c main_arg1 (((cfg0.win 1).blk t).view.emb y) := rfl
  rw [e, V_main_arg1]
  refine congrArg _ (funext fun a => Fin.ext (((cfg0.win 1).rect_emb_val t y a).trans ?_))
  rw [ixw]; exact (congrArg (· + (y a).val) (Nat.zero_mul _)).trans (Nat.zero_add _)
theorem iblk2_eq (t : Fin cfg0.N) (y : S2x128x32x160.Idx) : iblk m c 2 t y = m ((c : Thread nD τ).loc main_arg2) y := by
  have e : iblk m c 2 t y = V m c main_arg2 (((cfg0.win 2).blk t).view.emb y) := rfl
  rw [e, V_main_arg2]
  refine congrArg _ (funext fun a => Fin.ext (((cfg0.win 2).rect_emb_val t y a).trans ?_))
  rw [ixw]; exact (congrArg (· + (y a).val) (Nat.zero_mul _)).trans (Nat.zero_add _)

theorem wide3 (x0 x1 x2 : Vec Ideal S2x128x32x160 .fp8e4m3) : (out0_3 x0 x1 x2 : S2x128x32x160.Idx → EReal) = x0 := by
  unfold out0_3
  refine (View.canon_cons_unit_lit (S := S2x128x32x160) (off := ![0, 0, 0, 0]) inb_S2x128x32x160_S2x128x32x160_0_0_0_0 _ [] (by decide)).trans ?_
  exact View.ld_unit_lit (off := ![0, 0, 0, 0]) inb_S2x128x32x160_S2x128x32x160_0_0_0_0 x0 (by decide)
theorem wide4 (x0 x1 x2 : Vec Ideal S2x128x32x160 .fp8e4m3) : (out0_4 x0 x1 x2 : S2x128x32x160.Idx → EReal) = x1 := by
  unfold out0_4
  refine (View.canon_cons_unit_lit (S := S2x128x32x160) (off := ![0, 0, 0, 0]) inb_S2x128x32x160_S2x128x32x160_0_0_0_0 _ [] (by decide)).trans ?_
  exact View.ld_unit_lit (off := ![0, 0, 0, 0]) inb_S2x128x32x160_S2x128x32x160_0_0_0_0 x1 (by decide)
theorem wide5 (x0 x1 x2 : Vec Ideal S2x128x32x160 .fp8e4m3) : (out0_5 x0 x1 x2 : S2x128x32x160.Idx → EReal) = x2 := by
  unfold out0_5
  refine (View.canon_cons_unit_lit (S := S2x128x32x160) (off := ![0, 0, 0, 0]) inb_S2x128x32x160_S2x128x32x160_0_0_0_0 _ [] (by decide)).trans ?_
  exact View.ld_unit_lit (off := ![0, 0, 0, 0]) inb_S2x128x32x160_S2x128x32x160_0_0_0_0 x2 (by decide)

theorem reg0 : reg_main_v2_0 m c = (m ((c : Thread nD τ).loc main_arg0) : S2x128x32x160.Idx → EReal) := by
  refine (Gen.dats m 0 c).arrAt_eq_of_covers 3 _ (by decide +kernel) fun t hf y => ?_
  rw [after0_3, wide3, iblk0_eq]
  show m ((c : Thread nD τ).loc main_arg0) y = m ((c : Thread nD τ).loc main_arg0) (((cfg0.win 3).blk t).view.emb y)
  refine congrArg (m ((c : Thread nD τ).loc main_arg0)) (funext fun a => Fin.ext (Eq.symm (((cfg0.win 3).rect_emb_val t y a).trans ?_)))
  rw [ixw]; exact (congrArg (· + (y a).val) (Nat.zero_mul _)).trans (Nat.zero_add _)
theorem reg1 : reg_main_v2_1 m c = (m ((c : Thread nD τ).loc main_arg1) : S2x128x32x160.Idx → EReal) := by
  refine (Gen.dats m 0 c).arrAt_eq_of_covers 4 _ (by decide +kernel) fun t hf y => ?_
  rw [after0_4, wide4, iblk1_eq]
  show m ((c : Thread nD τ).loc main_arg1) y = m ((c : Thread nD τ).loc main_arg1) (((cfg0.win 4).blk t).view.emb y)
  refine congrArg (m ((c : Thread nD τ).loc main_arg1)) (funext fun a => Fin.ext (Eq.symm (((cfg0.win 4).rect_emb_val t y a).trans ?_)))
  rw [ixw]; exact (congrArg (· + (y a).val) (Nat.zero_mul _)).trans (Nat.zero_add _)
theorem reg2 : reg_main_v2_2 m c = (m ((c : Thread nD τ).loc main_arg2) : S2x128x32x160.Idx → EReal) := by
  refine (Gen.dats m 0 c).arrAt_eq_of_covers 5 _ (by decide +kernel) fun t hf y => ?_
  rw [after0_5, wide5, iblk2_eq]
  show m ((c : Thread nD τ).loc main_arg2) y = m ((c : Thread nD τ).loc main_arg2) (((cfg0.win 5).blk t).view.emb y)
  refine congrArg (m ((c : Thread nD τ).loc main_arg2)) (funext fun a => Fin.ext (Eq.symm (((cfg0.win 5).rect_emb_val t y a).trans ?_)))
  rw [ixw]; exact (congrArg (· + (y a).val) (Nat.zero_mul _)).trans (Nat.zero_add _)

end Cert.Proof.Ref

end
-- ==== Proof.RefEnd.lean ====
module

public import proofs.«01_k».proof.Proof.RefOut
public import proofs.«01_k».proof.Proof.RefRun

@[expose] public section

noncomputable section

namespace Cert.Proof.Ref

open Cert.ReferenceIdeal Cert.ReferenceIdeal.Gen Cert.ReferenceIdeal.Value Cert.ReferenceIdeal.Read Idealize.ShloMosaic Idealize.ShloMosaic.TcCoe

/-- The reference's last two operations reorder and narrow. -/
theorem last_at (x3 : (⟨S2x32, .f32⟩ : BufTy).Contents (Elt Ideal)) (x4 x5 : (⟨S2x128x32, .f32⟩ : BufTy).Contents (Elt Ideal)) (x6 : (⟨S2x129, .i32⟩ : BufTy).Contents (Elt Ideal)) (x7 : (⟨S2x3072, .i32⟩ : BufTy).Contents (Elt Ideal))
    (q k v : (⟨S2x128x32x160, .f32⟩ : BufTy).Contents (Elt Ideal)) (e0 : (⟨S3072, .i32⟩ : BufTy).Contents (Elt Ideal)) (e1 : (⟨S128, .i32⟩ : BufTy).Contents (Elt Ideal)) (y : S2x128x5120.Idx) :
    (val_main_v113 (F := Ideal) x3 x4 x5 x6 x7 q k v e0 e1 y : EReal)
      = val_main_v111 (F := Ideal) x3 x4 x5 x6 x7 q k v e0 e1 (ValueIdx.ix4 (y 0) (y 1) ⟨(y 2).val / 160, Nat.div_lt_of_lt_mul (y 2).isLt⟩ ⟨(y 2).val % 160, Nat.mod_lt _ (by decide)⟩) := by
  rw [val_main_v113_apply, val_main_v112_apply]
  show (val_main_v111 (F := Ideal) x3 x4 x5 x6 x7 q k v e0 e1 (idx_main_v112 y) : EReal) = _
  refine congrArg _ (funext fun a => Fin.ext ?_)
  have h0 : (y 0).val < 2 := (y 0).isLt
  have h1 : (y 1).val < 128 := (y 1).isLt
  have h2 : (y 2).val < 5120 := (y 2).isLt
  fin_cases a
  · show (((y 0).val * 128 + (y 1).val) * 5120 + (y 2).val) / 655360 = (y 0).val; omega
  · show (((y 0).val * 128 + (y 1).val) * 5120 + (y 2).val) / 5120 % 128 = (y 1).val; omega
  · show (((y 0).val * 128 + (y 1).val) * 5120 + (y 2).val) / 160 % 32 = (y 2).val / 160; omega
  · show (((y 0).val * 128 + (y 1).val) * 5120 + (y 2).val) % 160 = (y 2).val % 160; omega

variable (m : (ℓ : Loc nD τ sig) → Buf (Elt Ideal) ℓ) (c : Dev nD)

theorem end_at (a0 a1 a2 : S2x128x32x160.Idx → EReal) (a3 : S2x32.Idx → EReal) (a4 a5 : S2x128x32.Idx → EReal) (a6 : S2x129.Idx → BitVec 32) (a7 : S2x3072.Idx → BitVec 32)
    (g0 : m ((c : Thread nD τ).loc main_arg0) = a0) (g1 : m ((c : Thread nD τ).loc main_arg1) = a1) (g2 : m ((c : Thread nD τ).loc main_arg2) = a2) (g3 : m ((c : Thread nD τ).loc main_arg3) = a3)
    (g4 : m ((c : Thread nD τ).loc main_arg4) = a4) (g5 : m ((c : Thread nD τ).loc main_arg5) = a5) (g6 : m ((c : Thread nD τ).loc main_arg6) = a6) (g7 : m ((c : Thread nD τ).loc main_arg7) = a7)
    (hz : ∀ b, rt a6 b 0 = 0) (hm : ∀ b (j : Fin 128), rt a6 b j.castSucc ≤ rt a6 b j.succ)
    (hc : ∀ b e, live a6 b e → 0 ≤ (a7 (ValueIdx.ix2 b e)).toInt ∧ (a7 (ValueIdx.ix2 b e)).toInt < 128)
    (hv : ∀ y, ∃ r : ℝ, a5 y = (r : EReal)) :
    (val_main_v113 (F := Ideal) (exitV m c (Proc.devRef .tc main_arg3)) (exitV m c (Proc.devRef .tc main_arg4)) (exitV m c (Proc.devRef .tc main_arg5)) (exitV m c (Proc.devRef .tc main_arg6)) (exitV m c (Proc.devRef .tc main_arg7))
      (exitV m c (Proc.devRef .tc main_v2_0)) (exitV m c (Proc.devRef .tc main_v2_1)) (exitV m c (Proc.devRef .tc main_v2_2)) (exitV m c (Proc.devRef .tc main_v0)) (exitV m c (Proc.devRef .tc main_v1)) : S2x128x5120.Idx → EReal)
    = fun y => outK a0 a1 a2 a3 a4 a5 a6 a7 (y 0) (y 1) ⟨(y 2).val / 160, Nat.div_lt_of_lt_mul (y 2).isLt⟩ ⟨(y 2).val % 160, Nat.mod_lt _ (by decide)⟩ := by
  have k0 := (exit_main_v2_0 m c).trans ((reg0 m c).trans g0)
  have k1 := (exit_main_v2_1 m c).trans ((reg1 m c).trans g1)
  have k2 := (exit_main_v2_2 m c).trans ((reg2 m c).trans g2)
  rw [exit_main_arg3, exit_main_arg4, exit_main_arg5, exit_main_arg6, exit_main_arg7, exit_main_v0, exit_main_v1, g3, g4, g5, g6, g7]
  rw [k0, k1, k2]
  funext y
  refine (last_at _ _ _ _ _ _ _ _ _ _ y).trans ?_
  exact out_at a3 a4 a5 a6 a7 a0 a1 a2 _ _ (fun _ => rfl) (fun _ => rfl) hz hm hc hv _ _ _ _

end Cert.Proof.Ref

end
-- ==== Proof.lean ====
module

public import proofs.«01_k».proof.Defs
public import proofs.«01_k».proof.Proof.Kernel.Frame
public import proofs.«01_k».proof.Proof.KernelIdeal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Read
public import proofs.«01_k».proof.Proof.Gen.Pre_csr
public import proofs.«01_k».proof.Proof.KernelIdeal.Out
public import proofs.«01_k».proof.Proof.Cols
public import proofs.«01_k».proof.Proof.RefEnd

@[expose] public section

noncomputable section

namespace Cert.Proof

open Idealize.ShloMosaic Idealize.SL.Sem

theorem frame_Kernel : Cert.quiescent_Kernel (hKernel := Cert.Kernel.Gen.facts) (hPre_csr := Cert.Pre_csr.Gen.facts) := by
  intro m g hp
  letI := Cert.Pre_csr.Gen.facts
  have hr : ∀ c, RowOK (Cert.Proof.Kernel.rowT m c) := fun c =>
    rowOK_of _ _ _ _ _ _ _ _ (hp c).1 (hp c).2.1 (hp c).2.2.1
  exact (θ_run _ _ _).mono (fun r h => ⟨Cert.Proof.Kernel.post_args m r h.1, h.2⟩) (Cert.Proof.Kernel.run m g hr)

theorem frame_KernelIdeal : Cert.quiescent_KernelIdeal (hKernelIdeal := Cert.KernelIdeal.Gen.facts) (hPre_csr := Cert.Pre_csr.Gen.facts) := by
  intro m g hp
  letI := Cert.Pre_csr.Gen.facts
  have hr : ∀ c, RowOK (Cert.Proof.KernelIdeal.rowT m c) := fun c =>
    rowOK_of _ _ _ _ _ _ _ _ (hp c).1 (hp c).2.1 (hp c).2.2.1
  exact (θ_run _ _ _).mono (fun r h => ⟨Cert.Proof.KernelIdeal.post_args m r h.1, h.2⟩) (Cert.Proof.KernelIdeal.run m g hr)

theorem algebraic : Cert.algebraic_KernelIdeal_ReferenceIdeal (hKernelIdeal := Cert.KernelIdeal.Gen.facts) (hReferenceIdeal := Cert.ReferenceIdeal.Gen.facts)
    (hPre_csr := Cert.Pre_csr.Gen.facts) := by
  intro m g m' g' hp ha
  letI := Cert.Pre_csr.Gen.facts
  have hr : ∀ c, RowOK (Cert.Proof.KernelIdeal.rowT m c) := fun c =>
    rowOK_of _ _ _ _ _ _ _ _ (hp c).1 (hp c).2.1 (hp c).2.2.1
  have hv := fun c => scales_of _ _ _ _ _ _ _ _ (hp c).2.2.2.2
  have hc := fun c => cols_of _ _ _ _ _ _ _ _ (hp c).2.2.2.1
  refine ⟨fun c => Cert.Proof.KernelIdeal.outArr m c, ?_, ?_⟩
  · exact (θ_run _ _ _).mono (fun r h c => ⟨(Cert.Proof.KernelIdeal.post_out m r h.1 c).trans (Cert.Proof.KernelIdeal.out_eq m c (hv c)),
      Cert.Proof.KernelIdeal.post_args m r h.1 c⟩) (Cert.Proof.KernelIdeal.run m g hr)
  · refine (θ_run _ _ _).mono (fun r h c => ⟨(h c).1.trans ?_, (h c).2⟩) (Cert.ReferenceIdeal.Value.run m' g')
    obtain ⟨g0, g1, g2, g3, g4, g5, g6, g7⟩ := ha c
    refine (Cert.ReferenceIdeal.Read.val_main_v113_eq (F := Ideal) (Cert.ReferenceIdeal.Value.exitV m' c)).trans ?_
    refine Ref.end_at m' c _ _ _ _ _ _ _ _ g0 g1 g2 g3 g4 g5 g6 g7 (fun b => ?_) (fun b j => ?_) (hc c) (hv c)
    · show (Cert.Proof.KernelIdeal.rowT m c (ValueIdx.ix2 b 0)).toInt = 0
      rw [← rix_eq, (hr c).zero]; rfl
    · show (Cert.Proof.KernelIdeal.rowT m c (ValueIdx.ix2 b j.castSucc)).toInt ≤ (Cert.Proof.KernelIdeal.rowT m c (ValueIdx.ix2 b j.succ)).toInt
      rw [← rix_eq, ← rix_eq]; exact (hr c).mono b j

theorem claim : Cert.Claim := ⟨Cert.Kernel.Gen.facts, Cert.KernelIdeal.Gen.facts, Cert.ReferenceIdeal.Gen.facts, Cert.Pre_csr.Gen.facts,
  frame_Kernel, frame_KernelIdeal, fun m ρ _ => Cert.ReferenceIdeal.Gen.frame m ρ, trivial, algebraic⟩

end Cert.Proof

end
